-- ==== Defs.lean ====
def Pre_InProjC (m : (ℓ : Loc Cert.InProjC.nD Cert.InProjC.τ Cert.InProjC.sig) → Buf (Elt Bits) ℓ) : Prop :=
  True

def Pre_InProjCIdeal (m : (ℓ : Loc Cert.InProjCIdeal.nD Cert.InProjCIdeal.τ Cert.InProjCIdeal.sig) → Buf (Elt Ideal) ℓ) : Prop :=
  True

def Pre_InProjCRefIdeal (m : (ℓ : Loc Cert.InProjCRefIdeal.nD Cert.InProjCRefIdeal.τ Cert.InProjCRefIdeal.sig) → Buf (Elt Ideal) ℓ) : Prop :=
  True

def Pre_InProjB (m : (ℓ : Loc Cert.InProjB.nD Cert.InProjB.τ Cert.InProjB.sig) → Buf (Elt Bits) ℓ) : Prop :=
  True

def Pre_InProjBIdeal (m : (ℓ : Loc Cert.InProjBIdeal.nD Cert.InProjBIdeal.τ Cert.InProjBIdeal.sig) → Buf (Elt Ideal) ℓ) : Prop :=
  True

def Pre_InProjBRefIdeal (m : (ℓ : Loc Cert.InProjBRefIdeal.nD Cert.InProjBRefIdeal.τ Cert.InProjBRefIdeal.sig) → Buf (Elt Ideal) ℓ) : Prop :=
  True

def Pre_InProjA (m : (ℓ : Loc Cert.InProjA.nD Cert.InProjA.τ Cert.InProjA.sig) → Buf (Elt Bits) ℓ) : Prop :=
  True

def Pre_InProjAIdeal (m : (ℓ : Loc Cert.InProjAIdeal.nD Cert.InProjAIdeal.τ Cert.InProjAIdeal.sig) → Buf (Elt Ideal) ℓ) : Prop :=
  True

def Pre_InProjARefIdeal (m : (ℓ : Loc Cert.InProjARefIdeal.nD Cert.InProjARefIdeal.τ Cert.InProjARefIdeal.sig) → Buf (Elt Ideal) ℓ) : Prop :=
  True

def Pre_MergeGates (m : (ℓ : Loc Cert.MergeGates.nD Cert.MergeGates.τ Cert.MergeGates.sig) → Buf (Elt Bits) ℓ) : Prop :=
  True

def Pre_MergeGatesIdeal (m : (ℓ : Loc Cert.MergeGatesIdeal.nD Cert.MergeGatesIdeal.τ Cert.MergeGatesIdeal.sig) → Buf (Elt Ideal) ℓ) : Prop :=
  True

def Pre_MergeGatesRefIdeal (m : (ℓ : Loc Cert.MergeGatesRefIdeal.nD Cert.MergeGatesRefIdeal.τ Cert.MergeGatesRefIdeal.sig) → Buf (Elt Ideal) ℓ) : Prop :=
  True

def Pre_ProjMerge (m : (ℓ : Loc Cert.ProjMerge.nD Cert.ProjMerge.τ Cert.ProjMerge.sig) → Buf (Elt Bits) ℓ) : Prop :=
  True

def Pre_ProjMergeIdeal (m : (ℓ : Loc Cert.ProjMergeIdeal.nD Cert.ProjMergeIdeal.τ Cert.ProjMergeIdeal.sig) → Buf (Elt Ideal) ℓ) : Prop :=
  True

def Pre_ProjMergeRefIdeal (m : (ℓ : Loc Cert.ProjMergeRefIdeal.nD Cert.ProjMergeRefIdeal.τ Cert.ProjMergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_NbrAttn (m : (ℓ : Loc Cert.NbrAttn.nD Cert.NbrAttn.τ Cert.NbrAttn.sig) → Buf (Elt Bits) ℓ) : Prop :=
  True

def Pre_NbrAttnIdeal (m : (ℓ : Loc Cert.NbrAttnIdeal.nD Cert.NbrAttnIdeal.τ Cert.NbrAttnIdeal.sig) → Buf (Elt Ideal) ℓ) : Prop :=
  True

def Pre_NbrAttnIdeal_finite_scores [hPre_finite_scores : Cert.Pre_finite_scores.Facts] (m : (ℓ : Loc Cert.NbrAttnIdeal.nD Cert.NbrAttnIdeal.τ Cert.NbrAttnIdeal.sig) → Buf (Elt Ideal) ℓ) : Prop :=
  ∀ c : Dev Cert.NbrAttnIdeal.nD,
    (Cert.Pre_finite_scores.fn (F := Ideal) (m ((c.tc : Thread Cert.NbrAttnIdeal.nD Cert.NbrAttnIdeal.τ).loc Cert.NbrAttnIdeal.main_arg0)) (m ((c.tc : Thread Cert.NbrAttnIdeal.nD Cert.NbrAttnIdeal.τ).loc Cert.NbrAttnIdeal.main_arg1))).1 = (fun _ => 1#1)
    ∧ (Cert.Pre_finite_scores.fn (F := Ideal) (m ((c.tc : Thread Cert.NbrAttnIdeal.nD Cert.NbrAttnIdeal.τ).loc Cert.NbrAttnIdeal.main_arg0)) (m ((c.tc : Thread Cert.NbrAttnIdeal.nD Cert.NbrAttnIdeal.τ).loc Cert.NbrAttnIdeal.main_arg1))).2 = (fun _ => 1#1)

def Pre_NbrAttnRefIdeal (m : (ℓ : Loc Cert.NbrAttnRefIdeal.nD Cert.NbrAttnRefIdeal.τ Cert.NbrAttnRefIdeal.sig) → Buf (Elt Ideal) ℓ) : Prop :=
  True

def Pre_NbrAttnRefIdeal_finite_scores [hPre_finite_scores : Cert.Pre_finite_scores.Facts] (m : (ℓ : Loc Cert.NbrAttnRefIdeal.nD Cert.NbrAttnRefIdeal.τ Cert.NbrAttnRefIdeal.sig) → Buf (Elt Ideal) ℓ) : Prop :=
  ∀ c : Dev Cert.NbrAttnRefIdeal.nD,
    (Cert.Pre_finite_scores.fn (F := Ideal) (m ((c.tc : Thread Cert.NbrAttnRefIdeal.nD Cert.NbrAttnRefIdeal.τ).loc Cert.NbrAttnRefIdeal.main_arg0)) (m ((c.tc : Thread Cert.NbrAttnRefIdeal.nD Cert.NbrAttnRefIdeal.τ).loc Cert.NbrAttnRefIdeal.main_arg1))).1 = (fun _ => 1#1)
    ∧ (Cert.Pre_finite_scores.fn (F := Ideal) (m ((c.tc : Thread Cert.NbrAttnRefIdeal.nD Cert.NbrAttnRefIdeal.τ).loc Cert.NbrAttnRefIdeal.main_arg0)) (m ((c.tc : Thread Cert.NbrAttnRefIdeal.nD Cert.NbrAttnRefIdeal.τ).loc Cert.NbrAttnRefIdeal.main_arg1))).2 = (fun _ => 1#1)

def quiescent_InProjC [hInProjC : Cert.InProjC.Facts] : Prop :=
  ∀ (m : (ℓ : Loc Cert.InProjC.nD Cert.InProjC.τ Cert.InProjC.sig) → Buf (Elt Bits) ℓ) (g : Dev Cert.InProjC.nD → PrngReg), Pre_InProjC m →
    θ_run (Cert.InProjC.defs (F := Bits)) (onTc (τ := Cert.InProjC.τ) (Cert.InProjC.main (F := Bits))) ⟨m, fun _ => 0, g⟩ (fun r => (∀ c : Dev Cert.InProjC.nD,
      r.2.mem ((c.tc : Thread Cert.InProjC.nD Cert.InProjC.τ).loc Cert.InProjC.main_arg0) = m ((c.tc : Thread Cert.InProjC.nD Cert.InProjC.τ).loc Cert.InProjC.main_arg0)
      ∧ r.2.mem ((c.tc : Thread Cert.InProjC.nD Cert.InProjC.τ).loc Cert.InProjC.main_arg1) = m ((c.tc : Thread Cert.InProjC.nD Cert.InProjC.τ).loc Cert.InProjC.main_arg1))
      ∧ r.2.sem = fun _ => 0)

def quiescent_InProjCIdeal [hInProjCIdeal : Cert.InProjCIdeal.Facts] : Prop :=
  ∀ (m : (ℓ : Loc Cert.InProjCIdeal.nD Cert.InProjCIdeal.τ Cert.InProjCIdeal.sig) → Buf (Elt Ideal) ℓ) (g : Dev Cert.InProjCIdeal.nD → PrngReg), Pre_InProjCIdeal m →
    θ_run (Cert.InProjCIdeal.defs (F := Ideal)) (onTc (τ := Cert.InProjCIdeal.τ) (Cert.InProjCIdeal.main (F := Ideal))) ⟨m, fun _ => 0, g⟩ (fun r => (∀ c : Dev Cert.InProjCIdeal.nD,
      r.2.mem ((c.tc : Thread Cert.InProjCIdeal.nD Cert.InProjCIdeal.τ).loc Cert.InProjCIdeal.main_arg0) = m ((c.tc : Thread Cert.InProjCIdeal.nD Cert.InProjCIdeal.τ).loc Cert.InProjCIdeal.main_arg0)
      ∧ r.2.mem ((c.tc : Thread Cert.InProjCIdeal.nD Cert.InProjCIdeal.τ).loc Cert.InProjCIdeal.main_arg1) = m ((c.tc : Thread Cert.InProjCIdeal.nD Cert.InProjCIdeal.τ).loc Cert.InProjCIdeal.main_arg1))
      ∧ r.2.sem = fun _ => 0)

def quiescent_InProjCRefIdeal [hInProjCRefIdeal : Cert.InProjCRefIdeal.Facts] : Prop :=
  ∀ (m : (ℓ : Loc Cert.InProjCRefIdeal.nD Cert.InProjCRefIdeal.τ Cert.InProjCRefIdeal.sig) → Buf (Elt Ideal) ℓ) (g : Dev Cert.InProjCRefIdeal.nD → PrngReg), Pre_InProjCRefIdeal m →
    θ_run (Cert.InProjCRefIdeal.defs (F := Ideal)) (onTc (τ := Cert.InProjCRefIdeal.τ) (Cert.InProjCRefIdeal.main (F := Ideal))) ⟨m, fun _ => 0, g⟩ (fun r => (∀ c : Dev Cert.InProjCRefIdeal.nD,
      r.2.mem ((c.tc : Thread Cert.InProjCRefIdeal.nD Cert.InProjCRefIdeal.τ).loc Cert.InProjCRefIdeal.main_arg0) = m ((c.tc : Thread Cert.InProjCRefIdeal.nD Cert.InProjCRefIdeal.τ).loc Cert.InProjCRefIdeal.main_arg0)
      ∧ r.2.mem ((c.tc : Thread Cert.InProjCRefIdeal.nD Cert.InProjCRefIdeal.τ).loc Cert.InProjCRefIdeal.main_arg1) = m ((c.tc : Thread Cert.InProjCRefIdeal.nD Cert.InProjCRefIdeal.τ).loc Cert.InProjCRefIdeal.main_arg1))
      ∧ r.2.sem = fun _ => 0)

def quiescent_InProjB [hInProjB : Cert.InProjB.Facts] : Prop :=
  ∀ (m : (ℓ : Loc Cert.InProjB.nD Cert.InProjB.τ Cert.InProjB.sig) → Buf (Elt Bits) ℓ) (g : Dev Cert.InProjB.nD → PrngReg), Pre_InProjB m →
    θ_run (Cert.InProjB.defs (F := Bits)) (onTc (τ := Cert.InProjB.τ) (Cert.InProjB.main (F := Bits))) ⟨m, fun _ => 0, g⟩ (fun r => (∀ c : Dev Cert.InProjB.nD,
      r.2.mem ((c.tc : Thread Cert.InProjB.nD Cert.InProjB.τ).loc Cert.InProjB.main_arg0) = m ((c.tc : Thread Cert.InProjB.nD Cert.InProjB.τ).loc Cert.InProjB.main_arg0)
      ∧ r.2.mem ((c.tc : Thread Cert.InProjB.nD Cert.InProjB.τ).loc Cert.InProjB.main_arg1) = m ((c.tc : Thread Cert.InProjB.nD Cert.InProjB.τ).loc Cert.InProjB.main_arg1))
      ∧ r.2.sem = fun _ => 0)

def quiescent_InProjBIdeal [hInProjBIdeal : Cert.InProjBIdeal.Facts] : Prop :=
  ∀ (m : (ℓ : Loc Cert.InProjBIdeal.nD Cert.InProjBIdeal.τ Cert.InProjBIdeal.sig) → Buf (Elt Ideal) ℓ) (g : Dev Cert.InProjBIdeal.nD → PrngReg), Pre_InProjBIdeal m →
    θ_run (Cert.InProjBIdeal.defs (F := Ideal)) (onTc (τ := Cert.InProjBIdeal.τ) (Cert.InProjBIdeal.main (F := Ideal))) ⟨m, fun _ => 0, g⟩ (fun r => (∀ c : Dev Cert.InProjBIdeal.nD,
      r.2.mem ((c.tc : Thread Cert.InProjBIdeal.nD Cert.InProjBIdeal.τ).loc Cert.InProjBIdeal.main_arg0) = m ((c.tc : Thread Cert.InProjBIdeal.nD Cert.InProjBIdeal.τ).loc Cert.InProjBIdeal.main_arg0)
      ∧ r.2.mem ((c.tc : Thread Cert.InProjBIdeal.nD Cert.InProjBIdeal.τ).loc Cert.InProjBIdeal.main_arg1) = m ((c.tc : Thread Cert.InProjBIdeal.nD Cert.InProjBIdeal.τ).loc Cert.InProjBIdeal.main_arg1))
      ∧ r.2.sem = fun _ => 0)

def quiescent_InProjBRefIdeal [hInProjBRefIdeal : Cert.InProjBRefIdeal.Facts] : Prop :=
  ∀ (m : (ℓ : Loc Cert.InProjBRefIdeal.nD Cert.InProjBRefIdeal.τ Cert.InProjBRefIdeal.sig) → Buf (Elt Ideal) ℓ) (g : Dev Cert.InProjBRefIdeal.nD → PrngReg), Pre_InProjBRefIdeal m →
    θ_run (Cert.InProjBRefIdeal.defs (F := Ideal)) (onTc (τ := Cert.InProjBRefIdeal.τ) (Cert.InProjBRefIdeal.main (F := Ideal))) ⟨m, fun _ => 0, g⟩ (fun r => (∀ c : Dev Cert.InProjBRefIdeal.nD,
      r.2.mem ((c.tc : Thread Cert.InProjBRefIdeal.nD Cert.InProjBRefIdeal.τ).loc Cert.InProjBRefIdeal.main_arg0) = m ((c.tc : Thread Cert.InProjBRefIdeal.nD Cert.InProjBRefIdeal.τ).loc Cert.InProjBRefIdeal.main_arg0)
      ∧ r.2.mem ((c.tc : Thread Cert.InProjBRefIdeal.nD Cert.InProjBRefIdeal.τ).loc Cert.InProjBRefIdeal.main_arg1) = m ((c.tc : Thread Cert.InProjBRefIdeal.nD Cert.InProjBRefIdeal.τ).loc Cert.InProjBRefIdeal.main_arg1))
      ∧ r.2.sem = fun _ => 0)

def quiescent_InProjA [hInProjA : Cert.InProjA.Facts] : Prop :=
  ∀ (m : (ℓ : Loc Cert.InProjA.nD Cert.InProjA.τ Cert.InProjA.sig) → Buf (Elt Bits) ℓ) (g : Dev Cert.InProjA.nD → PrngReg), Pre_InProjA m →
    θ_run (Cert.InProjA.defs (F := Bits)) (onTc (τ := Cert.InProjA.τ) (Cert.InProjA.main (F := Bits))) ⟨m, fun _ => 0, g⟩ (fun r => (∀ c : Dev Cert.InProjA.nD,
      r.2.mem ((c.tc : Thread Cert.InProjA.nD Cert.InProjA.τ).loc Cert.InProjA.main_arg0) = m ((c.tc : Thread Cert.InProjA.nD Cert.InProjA.τ).loc Cert.InProjA.main_arg0)
      ∧ r.2.mem ((c.tc : Thread Cert.InProjA.nD Cert.InProjA.τ).loc Cert.InProjA.main_arg1) = m ((c.tc : Thread Cert.InProjA.nD Cert.InProjA.τ).loc Cert.InProjA.main_arg1))
      ∧ r.2.sem = fun _ => 0)

def quiescent_InProjAIdeal [hInProjAIdeal : Cert.InProjAIdeal.Facts] : Prop :=
  ∀ (m : (ℓ : Loc Cert.InProjAIdeal.nD Cert.InProjAIdeal.τ Cert.InProjAIdeal.sig) → Buf (Elt Ideal) ℓ) (g : Dev Cert.InProjAIdeal.nD → PrngReg), Pre_InProjAIdeal m →
    θ_run (Cert.InProjAIdeal.defs (F := Ideal)) (onTc (τ := Cert.InProjAIdeal.τ) (Cert.InProjAIdeal.main (F := Ideal))) ⟨m, fun _ => 0, g⟩ (fun r => (∀ c : Dev Cert.InProjAIdeal.nD,
      r.2.mem ((c.tc : Thread Cert.InProjAIdeal.nD Cert.InProjAIdeal.τ).loc Cert.InProjAIdeal.main_arg0) = m ((c.tc : Thread Cert.InProjAIdeal.nD Cert.InProjAIdeal.τ).loc Cert.InProjAIdeal.main_arg0)
      ∧ r.2.mem ((c.tc : Thread Cert.InProjAIdeal.nD Cert.InProjAIdeal.τ).loc Cert.InProjAIdeal.main_arg1) = m ((c.tc : Thread Cert.InProjAIdeal.nD Cert.InProjAIdeal.τ).loc Cert.InProjAIdeal.main_arg1))
      ∧ r.2.sem = fun _ => 0)

def quiescent_InProjARefIdeal [hInProjARefIdeal : Cert.InProjARefIdeal.Facts] : Prop :=
  ∀ (m : (ℓ : Loc Cert.InProjARefIdeal.nD Cert.InProjARefIdeal.τ Cert.InProjARefIdeal.sig) → Buf (Elt Ideal) ℓ) (g : Dev Cert.InProjARefIdeal.nD → PrngReg), Pre_InProjARefIdeal m →
    θ_run (Cert.InProjARefIdeal.defs (F := Ideal)) (onTc (τ := Cert.InProjARefIdeal.τ) (Cert.InProjARefIdeal.main (F := Ideal))) ⟨m, fun _ => 0, g⟩ (fun r => (∀ c : Dev Cert.InProjARefIdeal.nD,
      r.2.mem ((c.tc : Thread Cert.InProjARefIdeal.nD Cert.InProjARefIdeal.τ).loc Cert.InProjARefIdeal.main_arg0) = m ((c.tc : Thread Cert.InProjARefIdeal.nD Cert.InProjARefIdeal.τ).loc Cert.InProjARefIdeal.main_arg0)
      ∧ r.2.mem ((c.tc : Thread Cert.InProjARefIdeal.nD Cert.InProjARefIdeal.τ).loc Cert.InProjARefIdeal.main_arg1) = m ((c.tc : Thread Cert.InProjARefIdeal.nD Cert.InProjARefIdeal.τ).loc Cert.InProjARefIdeal.main_arg1))
      ∧ r.2.sem = fun _ => 0)

def quiescent_MergeGates [hMergeGates : Cert.MergeGates.Facts] : Prop :=
  ∀ (m : (ℓ : Loc Cert.MergeGates.nD Cert.MergeGates.τ Cert.MergeGates.sig) → Buf (Elt Bits) ℓ) (g : Dev Cert.MergeGates.nD → PrngReg), Pre_MergeGates m →
    θ_run (Cert.MergeGates.defs (F := Bits)) (onTc (τ := Cert.MergeGates.τ) (Cert.MergeGates.main (F := Bits))) ⟨m, fun _ => 0, g⟩ (fun r => (∀ c : Dev Cert.MergeGates.nD,
      r.2.mem ((c.tc : Thread Cert.MergeGates.nD Cert.MergeGates.τ).loc Cert.MergeGates.main_arg0) = m ((c.tc : Thread Cert.MergeGates.nD Cert.MergeGates.τ).loc Cert.MergeGates.main_arg0)
      ∧ r.2.mem ((c.tc : Thread Cert.MergeGates.nD Cert.MergeGates.τ).loc Cert.MergeGates.main_arg1) = m ((c.tc : Thread Cert.MergeGates.nD Cert.MergeGates.τ).loc Cert.MergeGates.main_arg1)
      ∧ r.2.mem ((c.tc : Thread Cert.MergeGates.nD Cert.MergeGates.τ).loc Cert.MergeGates.main_arg2) = m ((c.tc : Thread Cert.MergeGates.nD Cert.MergeGates.τ).loc Cert.MergeGates.main_arg2))
      ∧ r.2.sem = fun _ => 0)

def quiescent_MergeGatesIdeal [hMergeGatesIdeal : Cert.MergeGatesIdeal.Facts] : Prop :=
  ∀ (m : (ℓ : Loc Cert.MergeGatesIdeal.nD Cert.MergeGatesIdeal.τ Cert.MergeGatesIdeal.sig) → Buf (Elt Ideal) ℓ) (g : Dev Cert.MergeGatesIdeal.nD → PrngReg), Pre_MergeGatesIdeal m →
    θ_run (Cert.MergeGatesIdeal.defs (F := Ideal)) (onTc (τ := Cert.MergeGatesIdeal.τ) (Cert.MergeGatesIdeal.main (F := Ideal))) ⟨m, fun _ => 0, g⟩ (fun r => (∀ c : Dev Cert.MergeGatesIdeal.nD,
      r.2.mem ((c.tc : Thread Cert.MergeGatesIdeal.nD Cert.MergeGatesIdeal.τ).loc Cert.MergeGatesIdeal.main_arg0) = m ((c.tc : Thread Cert.MergeGatesIdeal.nD Cert.MergeGatesIdeal.τ).loc Cert.MergeGatesIdeal.main_arg0)
      ∧ r.2.mem ((c.tc : Thread Cert.MergeGatesIdeal.nD Cert.MergeGatesIdeal.τ).loc Cert.MergeGatesIdeal.main_arg1) = m ((c.tc : Thread Cert.MergeGatesIdeal.nD Cert.MergeGatesIdeal.τ).loc Cert.MergeGatesIdeal.main_arg1)
      ∧ r.2.mem ((c.tc : Thread Cert.MergeGatesIdeal.nD Cert.MergeGatesIdeal.τ).loc Cert.MergeGatesIdeal.main_arg2) = m ((c.tc : Thread Cert.MergeGatesIdeal.nD Cert.MergeGatesIdeal.τ).loc Cert.MergeGatesIdeal.main_arg2))
      ∧ r.2.sem = fun _ => 0)

def quiescent_MergeGatesRefIdeal [hMergeGatesRefIdeal : Cert.MergeGatesRefIdeal.Facts] : Prop :=
  ∀ (m : (ℓ : Loc Cert.MergeGatesRefIdeal.nD Cert.MergeGatesRefIdeal.τ Cert.MergeGatesRefIdeal.sig) → Buf (Elt Ideal) ℓ) (g : Dev Cert.MergeGatesRefIdeal.nD → PrngReg), Pre_MergeGatesRefIdeal m →
    θ_run (Cert.MergeGatesRefIdeal.defs (F := Ideal)) (onTc (τ := Cert.MergeGatesRefIdeal.τ) (Cert.MergeGatesRefIdeal.main (F := Ideal))) ⟨m, fun _ => 0, g⟩ (fun r => (∀ c : Dev Cert.MergeGatesRefIdeal.nD,
      r.2.mem ((c.tc : Thread Cert.MergeGatesRefIdeal.nD Cert.MergeGatesRefIdeal.τ).loc Cert.MergeGatesRefIdeal.main_arg0) = m ((c.tc : Thread Cert.MergeGatesRefIdeal.nD Cert.MergeGatesRefIdeal.τ).loc Cert.MergeGatesRefIdeal.main_arg0)
      ∧ r.2.mem ((c.tc : Thread Cert.MergeGatesRefIdeal.nD Cert.MergeGatesRefIdeal.τ).loc Cert.MergeGatesRefIdeal.main_arg1) = m ((c.tc : Thread Cert.MergeGatesRefIdeal.nD Cert.MergeGatesRefIdeal.τ).loc Cert.MergeGatesRefIdeal.main_arg1)
      ∧ r.2.mem ((c.tc : Thread Cert.MergeGatesRefIdeal.nD Cert.MergeGatesRefIdeal.τ).loc Cert.MergeGatesRefIdeal.main_arg2) = m ((c.tc : Thread Cert.MergeGatesRefIdeal.nD Cert.MergeGatesRefIdeal.τ).loc Cert.MergeGatesRefIdeal.main_arg2))
      ∧ r.2.sem = fun _ => 0)

def quiescent_ProjMerge [hProjMerge : Cert.ProjMerge.Facts] : Prop :=
  ∀ (m : (ℓ : Loc Cert.ProjMerge.nD Cert.ProjMerge.τ Cert.ProjMerge.sig) → Buf (Elt Bits) ℓ) (g : Dev Cert.ProjMerge.nD → PrngReg), Pre_ProjMerge m →
    θ_run (Cert.ProjMerge.defs (F := Bits)) (onTc (τ := Cert.ProjMerge.τ) (Cert.ProjMerge.main (F := Bits))) ⟨m, fun _ => 0, g⟩ (fun r => (∀ c : Dev Cert.ProjMerge.nD,
      r.2.mem ((c.tc : Thread Cert.ProjMerge.nD Cert.ProjMerge.τ).loc Cert.ProjMerge.main_arg0) = m ((c.tc : Thread Cert.ProjMerge.nD Cert.ProjMerge.τ).loc Cert.ProjMerge.main_arg0)
      ∧ r.2.mem ((c.tc : Thread Cert.ProjMerge.nD Cert.ProjMerge.τ).loc Cert.ProjMerge.main_arg1) = m ((c.tc : Thread Cert.ProjMerge.nD Cert.ProjMerge.τ).loc Cert.ProjMerge.main_arg1)
      ∧ r.2.mem ((c.tc : Thread Cert.ProjMerge.nD Cert.ProjMerge.τ).loc Cert.ProjMerge.main_arg2) = m ((c.tc : Thread Cert.ProjMerge.nD Cert.ProjMerge.τ).loc Cert.ProjMerge.main_arg2)
      ∧ r.2.mem ((c.tc : Thread Cert.ProjMerge.nD Cert.ProjMerge.τ).loc Cert.ProjMerge.main_arg3) = m ((c.tc : Thread Cert.ProjMerge.nD Cert.ProjMerge.τ).loc Cert.ProjMerge.main_arg3)
      ∧ r.2.mem ((c.tc : Thread Cert.ProjMerge.nD Cert.ProjMerge.τ).loc Cert.ProjMerge.main_arg4) = m ((c.tc : Thread Cert.ProjMerge.nD Cert.ProjMerge.τ).loc Cert.ProjMerge.main_arg4)
      ∧ r.2.mem ((c.tc : Thread Cert.ProjMerge.nD Cert.ProjMerge.τ).loc Cert.ProjMerge.main_arg5) = m ((c.tc : Thread Cert.ProjMerge.nD Cert.ProjMerge.τ).loc Cert.ProjMerge.main_arg5)
      ∧ r.2.mem ((c.tc : Thread Cert.ProjMerge.nD Cert.ProjMerge.τ).loc Cert.ProjMerge.main_arg6) = m ((c.tc : Thread Cert.ProjMerge.nD Cert.ProjMerge.τ).loc Cert.ProjMerge.main_arg6))
      ∧ r.2.sem = fun _ => 0)

def quiescent_ProjMergeIdeal [hProjMergeIdeal : Cert.ProjMergeIdeal.Facts] : Prop :=
  ∀ (m : (ℓ : Loc Cert.ProjMergeIdeal.nD Cert.ProjMergeIdeal.τ Cert.ProjMergeIdeal.sig) → Buf (Elt Ideal) ℓ) (g : Dev Cert.ProjMergeIdeal.nD → PrngReg), Pre_ProjMergeIdeal m →
    θ_run (Cert.ProjMergeIdeal.defs (F := Ideal)) (onTc (τ := Cert.ProjMergeIdeal.τ) (Cert.ProjMergeIdeal.main (F := Ideal))) ⟨m, fun _ => 0, g⟩ (fun r => (∀ c : Dev Cert.ProjMergeIdeal.nD,
      r.2.mem ((c.tc : Thread Cert.ProjMergeIdeal.nD Cert.ProjMergeIdeal.τ).loc Cert.ProjMergeIdeal.main_arg0) = m ((c.tc : Thread Cert.ProjMergeIdeal.nD Cert.ProjMergeIdeal.τ).loc Cert.ProjMergeIdeal.main_arg0)
      ∧ r.2.mem ((c.tc : Thread Cert.ProjMergeIdeal.nD Cert.ProjMergeIdeal.τ).loc Cert.ProjMergeIdeal.main_arg1) = m ((c.tc : Thread Cert.ProjMergeIdeal.nD Cert.ProjMergeIdeal.τ).loc Cert.ProjMergeIdeal.main_arg1)
      ∧ r.2.mem ((c.tc : Thread Cert.ProjMergeIdeal.nD Cert.ProjMergeIdeal.τ).loc Cert.ProjMergeIdeal.main_arg2) = m ((c.tc : Thread Cert.ProjMergeIdeal.nD Cert.ProjMergeIdeal.τ).loc Cert.ProjMergeIdeal.main_arg2)
      ∧ r.2.mem ((c.tc : Thread Cert.ProjMergeIdeal.nD Cert.ProjMergeIdeal.τ).loc Cert.ProjMergeIdeal.main_arg3) = m ((c.tc : Thread Cert.ProjMergeIdeal.nD Cert.ProjMergeIdeal.τ).loc Cert.ProjMergeIdeal.main_arg3)
      ∧ r.2.mem ((c.tc : Thread Cert.ProjMergeIdeal.nD Cert.ProjMergeIdeal.τ).loc Cert.ProjMergeIdeal.main_arg4) = m ((c.tc : Thread Cert.ProjMergeIdeal.nD Cert.ProjMergeIdeal.τ).loc Cert.ProjMergeIdeal.main_arg4)
      ∧ r.2.mem ((c.tc : Thread Cert.ProjMergeIdeal.nD Cert.ProjMergeIdeal.τ).loc Cert.ProjMergeIdeal.main_arg5) = m ((c.tc : Thread Cert.ProjMergeIdeal.nD Cert.ProjMergeIdeal.τ).loc Cert.ProjMergeIdeal.main_arg5)
      ∧ r.2.mem ((c.tc : Thread Cert.ProjMergeIdeal.nD Cert.ProjMergeIdeal.τ).loc Cert.ProjMergeIdeal.main_arg6) = m ((c.tc : Thread Cert.ProjMergeIdeal.nD Cert.ProjMergeIdeal.τ).loc Cert.ProjMergeIdeal.main_arg6))
      ∧ r.2.sem = fun _ => 0)

def quiescent_ProjMergeRefIdeal [hProjMergeRefIdeal : Cert.ProjMergeRefIdeal.Facts] : Prop :=
  ∀ (m : (ℓ : Loc Cert.ProjMergeRefIdeal.nD Cert.ProjMergeRefIdeal.τ Cert.ProjMergeRefIdeal.sig) → Buf (Elt Ideal) ℓ) (g : Dev Cert.ProjMergeRefIdeal.nD → PrngReg), Pre_ProjMergeRefIdeal m →
    θ_run (Cert.ProjMergeRefIdeal.defs (F := Ideal)) (onTc (τ := Cert.ProjMergeRefIdeal.τ) (Cert.ProjMergeRefIdeal.main (F := Ideal))) ⟨m, fun _ => 0, g⟩ (fun r => (∀ c : Dev Cert.ProjMergeRefIdeal.nD,
      r.2.mem ((c.tc : Thread Cert.ProjMergeRefIdeal.nD Cert.ProjMergeRefIdeal.τ).loc Cert.ProjMergeRefIdeal.main_arg0) = m ((c.tc : Thread Cert.ProjMergeRefIdeal.nD Cert.ProjMergeRefIdeal.τ).loc Cert.ProjMergeRefIdeal.main_arg0)
      ∧ r.2.mem ((c.tc : Thread Cert.ProjMergeRefIdeal.nD Cert.ProjMergeRefIdeal.τ).loc Cert.ProjMergeRefIdeal.main_arg1) = m ((c.tc : Thread Cert.ProjMergeRefIdeal.nD Cert.ProjMergeRefIdeal.τ).loc Cert.ProjMergeRefIdeal.main_arg1)
      ∧ r.2.mem ((c.tc : Thread Cert.ProjMergeRefIdeal.nD Cert.ProjMergeRefIdeal.τ).loc Cert.ProjMergeRefIdeal.main_arg2) = m ((c.tc : Thread Cert.ProjMergeRefIdeal.nD Cert.ProjMergeRefIdeal.τ).loc Cert.ProjMergeRefIdeal.main_arg2)
      ∧ r.2.mem ((c.tc : Thread Cert.ProjMergeRefIdeal.nD Cert.ProjMergeRefIdeal.τ).loc Cert.ProjMergeRefIdeal.main_arg3) = m ((c.tc : Thread Cert.ProjMergeRefIdeal.nD Cert.ProjMergeRefIdeal.τ).loc Cert.ProjMergeRefIdeal.main_arg3)
      ∧ r.2.mem ((c.tc : Thread Cert.ProjMergeRefIdeal.nD Cert.ProjMergeRefIdeal.τ).loc Cert.ProjMergeRefIdeal.main_arg4) = m ((c.tc : Thread Cert.ProjMergeRefIdeal.nD Cert.ProjMergeRefIdeal.τ).loc Cert.ProjMergeRefIdeal.main_arg4)
      ∧ r.2.mem ((c.tc : Thread Cert.ProjMergeRefIdeal.nD Cert.ProjMergeRefIdeal.τ).loc Cert.ProjMergeRefIdeal.main_arg5) = m ((c.tc : Thread Cert.ProjMergeRefIdeal.nD Cert.ProjMergeRefIdeal.τ).loc Cert.ProjMergeRefIdeal.main_arg5)
      ∧ r.2.mem ((c.tc : Thread Cert.ProjMergeRefIdeal.nD Cert.ProjMergeRefIdeal.τ).loc Cert.ProjMergeRefIdeal.main_arg6) = m ((c.tc : Thread Cert.ProjMergeRefIdeal.nD Cert.ProjMergeRefIdeal.τ).loc Cert.ProjMergeRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_NbrAttn [hNbrAttn : Cert.NbrAttn.Facts] : Prop :=
  ∀ (m : (ℓ : Loc Cert.NbrAttn.nD Cert.NbrAttn.τ Cert.NbrAttn.sig) → Buf (Elt Bits) ℓ) (g : Dev Cert.NbrAttn.nD → PrngReg), Pre_NbrAttn m →
    θ_run (Cert.NbrAttn.defs (F := Bits)) (onTc (τ := Cert.NbrAttn.τ) (Cert.NbrAttn.main (F := Bits))) ⟨m, fun _ => 0, g⟩ (fun r => (∀ c : Dev Cert.NbrAttn.nD,
      r.2.mem ((c.tc : Thread Cert.NbrAttn.nD Cert.NbrAttn.τ).loc Cert.NbrAttn.main_arg0) = m ((c.tc : Thread Cert.NbrAttn.nD Cert.NbrAttn.τ).loc Cert.NbrAttn.main_arg0)
      ∧ r.2.mem ((c.tc : Thread Cert.NbrAttn.nD Cert.NbrAttn.τ).loc Cert.NbrAttn.main_arg1) = m ((c.tc : Thread Cert.NbrAttn.nD Cert.NbrAttn.τ).loc Cert.NbrAttn.main_arg1))
      ∧ r.2.sem = fun _ => 0)

def quiescent_NbrAttnIdeal [hNbrAttnIdeal : Cert.NbrAttnIdeal.Facts] : Prop :=
  ∀ (m : (ℓ : Loc Cert.NbrAttnIdeal.nD Cert.NbrAttnIdeal.τ Cert.NbrAttnIdeal.sig) → Buf (Elt Ideal) ℓ) (g : Dev Cert.NbrAttnIdeal.nD → PrngReg), Pre_NbrAttnIdeal m →
    θ_run (Cert.NbrAttnIdeal.defs (F := Ideal)) (onTc (τ := Cert.NbrAttnIdeal.τ) (Cert.NbrAttnIdeal.main (F := Ideal))) ⟨m, fun _ => 0, g⟩ (fun r => (∀ c : Dev Cert.NbrAttnIdeal.nD,
      r.2.mem ((c.tc : Thread Cert.NbrAttnIdeal.nD Cert.NbrAttnIdeal.τ).loc Cert.NbrAttnIdeal.main_arg0) = m ((c.tc : Thread Cert.NbrAttnIdeal.nD Cert.NbrAttnIdeal.τ).loc Cert.NbrAttnIdeal.main_arg0)
      ∧ r.2.mem ((c.tc : Thread Cert.NbrAttnIdeal.nD Cert.NbrAttnIdeal.τ).loc Cert.NbrAttnIdeal.main_arg1) = m ((c.tc : Thread Cert.NbrAttnIdeal.nD Cert.NbrAttnIdeal.τ).loc Cert.NbrAttnIdeal.main_arg1))
      ∧ r.2.sem = fun _ => 0)

def quiescent_NbrAttnIdeal_pre_finite_scores [hNbrAttnIdeal : Cert.NbrAttnIdeal.Facts] [hPre_finite_scores : Cert.Pre_finite_scores.Facts] : Prop :=
  ∀ (m : (ℓ : Loc Cert.NbrAttnIdeal.nD Cert.NbrAttnIdeal.τ Cert.NbrAttnIdeal.sig) → Buf (Elt Ideal) ℓ) (g : Dev Cert.NbrAttnIdeal.nD → PrngReg), Pre_NbrAttnIdeal_finite_scores m →
    θ_run (Cert.NbrAttnIdeal.defs (F := Ideal)) (onTc (τ := Cert.NbrAttnIdeal.τ) (Cert.NbrAttnIdeal.main (F := Ideal))) ⟨m, fun _ => 0, g⟩ (fun r => (∀ c : Dev Cert.NbrAttnIdeal.nD,
      r.2.mem ((c.tc : Thread Cert.NbrAttnIdeal.nD Cert.NbrAttnIdeal.τ).loc Cert.NbrAttnIdeal.main_arg0) = m ((c.tc : Thread Cert.NbrAttnIdeal.nD Cert.NbrAttnIdeal.τ).loc Cert.NbrAttnIdeal.main_arg0)
      ∧ r.2.mem ((c.tc : Thread Cert.NbrAttnIdeal.nD Cert.NbrAttnIdeal.τ).loc Cert.NbrAttnIdeal.main_arg1) = m ((c.tc : Thread Cert.NbrAttnIdeal.nD Cert.NbrAttnIdeal.τ).loc Cert.NbrAttnIdeal.main_arg1))
      ∧ r.2.sem = fun _ => 0)

def quiescent_NbrAttnRefIdeal [hNbrAttnRefIdeal : Cert.NbrAttnRefIdeal.Facts] : Prop :=
  ∀ (m : (ℓ : Loc Cert.NbrAttnRefIdeal.nD Cert.NbrAttnRefIdeal.τ Cert.NbrAttnRefIdeal.sig) → Buf (Elt Ideal) ℓ) (g : Dev Cert.NbrAttnRefIdeal.nD → PrngReg), Pre_NbrAttnRefIdeal m →
    θ_run (Cert.NbrAttnRefIdeal.defs (F := Ideal)) (onTc (τ := Cert.NbrAttnRefIdeal.τ) (Cert.NbrAttnRefIdeal.main (F := Ideal))) ⟨m, fun _ => 0, g⟩ (fun r => (∀ c : Dev Cert.NbrAttnRefIdeal.nD,
      r.2.mem ((c.tc : Thread Cert.NbrAttnRefIdeal.nD Cert.NbrAttnRefIdeal.τ).loc Cert.NbrAttnRefIdeal.main_arg0) = m ((c.tc : Thread Cert.NbrAttnRefIdeal.nD Cert.NbrAttnRefIdeal.τ).loc Cert.NbrAttnRefIdeal.main_arg0)
      ∧ r.2.mem ((c.tc : Thread Cert.NbrAttnRefIdeal.nD Cert.NbrAttnRefIdeal.τ).loc Cert.NbrAttnRefIdeal.main_arg1) = m ((c.tc : Thread Cert.NbrAttnRefIdeal.nD Cert.NbrAttnRefIdeal.τ).loc Cert.NbrAttnRefIdeal.main_arg1))
      ∧ r.2.sem = fun _ => 0)

def quiescent_NbrAttnRefIdeal_pre_finite_scores [hNbrAttnRefIdeal : Cert.NbrAttnRefIdeal.Facts] [hPre_finite_scores : Cert.Pre_finite_scores.Facts] : Prop :=
  ∀ (m : (ℓ : Loc Cert.NbrAttnRefIdeal.nD Cert.NbrAttnRefIdeal.τ Cert.NbrAttnRefIdeal.sig) → Buf (Elt Ideal) ℓ) (g : Dev Cert.NbrAttnRefIdeal.nD → PrngReg), Pre_NbrAttnRefIdeal_finite_scores m →
    θ_run (Cert.NbrAttnRefIdeal.defs (F := Ideal)) (onTc (τ := Cert.NbrAttnRefIdeal.τ) (Cert.NbrAttnRefIdeal.main (F := Ideal))) ⟨m, fun _ => 0, g⟩ (fun r => (∀ c : Dev Cert.NbrAttnRefIdeal.nD,
      r.2.mem ((c.tc : Thread Cert.NbrAttnRefIdeal.nD Cert.NbrAttnRefIdeal.τ).loc Cert.NbrAttnRefIdeal.main_arg0) = m ((c.tc : Thread Cert.NbrAttnRefIdeal.nD Cert.NbrAttnRefIdeal.τ).loc Cert.NbrAttnRefIdeal.main_arg0)
      ∧ r.2.mem ((c.tc : Thread Cert.NbrAttnRefIdeal.nD Cert.NbrAttnRefIdeal.τ).loc Cert.NbrAttnRefIdeal.main_arg1) = m ((c.tc : Thread Cert.NbrAttnRefIdeal.nD Cert.NbrAttnRefIdeal.τ).loc Cert.NbrAttnRefIdeal.main_arg1))
      ∧ r.2.sem = fun _ => 0)

def preserves_InProjC_InProjCIdeal : Prop :=
  True

def algebraic_InProjCIdeal_InProjCRefIdeal [hInProjCIdeal : Cert.InProjCIdeal.Facts] [hInProjCRefIdeal : Cert.InProjCRefIdeal.Facts] : Prop :=
  ∀ (m : (ℓ : Loc Cert.InProjCIdeal.nD Cert.InProjCIdeal.τ Cert.InProjCIdeal.sig) → Buf (Elt Ideal) ℓ) (g : Dev Cert.InProjCIdeal.nD → PrngReg)
    (m' : (ℓ : Loc Cert.InProjCRefIdeal.nD Cert.InProjCRefIdeal.τ Cert.InProjCRefIdeal.sig) → Buf (Elt Ideal) ℓ) (g' : Dev Cert.InProjCRefIdeal.nD → PrngReg), Pre_InProjCIdeal m →
    (∀ c : Dev Cert.InProjCIdeal.nD,
      m' ((c.tc : Thread Cert.InProjCRefIdeal.nD Cert.InProjCRefIdeal.τ).loc Cert.InProjCRefIdeal.main_arg0) = m ((c.tc : Thread Cert.InProjCIdeal.nD Cert.InProjCIdeal.τ).loc Cert.InProjCIdeal.main_arg0)
      ∧ m' ((c.tc : Thread Cert.InProjCRefIdeal.nD Cert.InProjCRefIdeal.τ).loc Cert.InProjCRefIdeal.main_arg1) = m ((c.tc : Thread Cert.InProjCIdeal.nD Cert.InProjCIdeal.τ).loc Cert.InProjCIdeal.main_arg1)) →
    ∃ (v0 : (c : Dev Cert.InProjCIdeal.nD) → Buf (Elt Ideal) ((c.tc : Thread Cert.InProjCIdeal.nD Cert.InProjCIdeal.τ).loc Cert.InProjCIdeal.main_v1)),
      θ_run (Cert.InProjCIdeal.defs (F := Ideal)) (onTc (τ := Cert.InProjCIdeal.τ) (Cert.InProjCIdeal.main (F := Ideal))) ⟨m, fun _ => 0, g⟩ (fun r => ∀ c : Dev Cert.InProjCIdeal.nD,
          r.2.mem ((c.tc : Thread Cert.InProjCIdeal.nD Cert.InProjCIdeal.τ).loc Cert.InProjCIdeal.main_v1) = v0 c
          ∧ r.2.mem ((c.tc : Thread Cert.InProjCIdeal.nD Cert.InProjCIdeal.τ).loc Cert.InProjCIdeal.main_arg0) = m ((c.tc : Thread Cert.InProjCIdeal.nD Cert.InProjCIdeal.τ).loc Cert.InProjCIdeal.main_arg0)
          ∧ r.2.mem ((c.tc : Thread Cert.InProjCIdeal.nD Cert.InProjCIdeal.τ).loc Cert.InProjCIdeal.main_arg1) = m ((c.tc : Thread Cert.InProjCIdeal.nD Cert.InProjCIdeal.τ).loc Cert.InProjCIdeal.main_arg1))
      ∧ θ_run (Cert.InProjCRefIdeal.defs (F := Ideal)) (onTc (τ := Cert.InProjCRefIdeal.τ) (Cert.InProjCRefIdeal.main (F := Ideal))) ⟨m', fun _ => 0, g'⟩ (fun r => ∀ c : Dev Cert.InProjCRefIdeal.nD,
          r.2.mem ((c.tc : Thread Cert.InProjCRefIdeal.nD Cert.InProjCRefIdeal.τ).loc Cert.InProjCRefIdeal.main_v5) = v0 c
          ∧ r.2.mem ((c.tc : Thread Cert.InProjCRefIdeal.nD Cert.InProjCRefIdeal.τ).loc Cert.InProjCRefIdeal.main_arg0) = m' ((c.tc : Thread Cert.InProjCRefIdeal.nD Cert.InProjCRefIdeal.τ).loc Cert.InProjCRefIdeal.main_arg0)
          ∧ r.2.mem ((c.tc : Thread Cert.InProjCRefIdeal.nD Cert.InProjCRefIdeal.τ).loc Cert.InProjCRefIdeal.main_arg1) = m' ((c.tc : Thread Cert.InProjCRefIdeal.nD Cert.InProjCRefIdeal.τ).loc Cert.InProjCRefIdeal.main_arg1))

def preserves_InProjB_InProjBIdeal : Prop :=
  True

def algebraic_InProjBIdeal_InProjBRefIdeal [hInProjBIdeal : Cert.InProjBIdeal.Facts] [hInProjBRefIdeal : Cert.InProjBRefIdeal.Facts] : Prop :=
  ∀ (m : (ℓ : Loc Cert.InProjBIdeal.nD Cert.InProjBIdeal.τ Cert.InProjBIdeal.sig) → Buf (Elt Ideal) ℓ) (g : Dev Cert.InProjBIdeal.nD → PrngReg)
    (m' : (ℓ : Loc Cert.InProjBRefIdeal.nD Cert.InProjBRefIdeal.τ Cert.InProjBRefIdeal.sig) → Buf (Elt Ideal) ℓ) (g' : Dev Cert.InProjBRefIdeal.nD → PrngReg), Pre_InProjBIdeal m →
    (∀ c : Dev Cert.InProjBIdeal.nD,
      m' ((c.tc : Thread Cert.InProjBRefIdeal.nD Cert.InProjBRefIdeal.τ).loc Cert.InProjBRefIdeal.main_arg0) = m ((c.tc : Thread Cert.InProjBIdeal.nD Cert.InProjBIdeal.τ).loc Cert.InProjBIdeal.main_arg0)
      ∧ m' ((c.tc : Thread Cert.InProjBRefIdeal.nD Cert.InProjBRefIdeal.τ).loc Cert.InProjBRefIdeal.main_arg1) = m ((c.tc : Thread Cert.InProjBIdeal.nD Cert.InProjBIdeal.τ).loc Cert.InProjBIdeal.main_arg1)) →
    ∃ (v0 : (c : Dev Cert.InProjBIdeal.nD) → Buf (Elt Ideal) ((c.tc : Thread Cert.InProjBIdeal.nD Cert.InProjBIdeal.τ).loc Cert.InProjBIdeal.main_v1)),
      θ_run (Cert.InProjBIdeal.defs (F := Ideal)) (onTc (τ := Cert.InProjBIdeal.τ) (Cert.InProjBIdeal.main (F := Ideal))) ⟨m, fun _ => 0, g⟩ (fun r => ∀ c : Dev Cert.InProjBIdeal.nD,
          r.2.mem ((c.tc : Thread Cert.InProjBIdeal.nD Cert.InProjBIdeal.τ).loc Cert.InProjBIdeal.main_v1) = v0 c
          ∧ r.2.mem ((c.tc : Thread Cert.InProjBIdeal.nD Cert.InProjBIdeal.τ).loc Cert.InProjBIdeal.main_arg0) = m ((c.tc : Thread Cert.InProjBIdeal.nD Cert.InProjBIdeal.τ).loc Cert.InProjBIdeal.main_arg0)
          ∧ r.2.mem ((c.tc : Thread Cert.InProjBIdeal.nD Cert.InProjBIdeal.τ).loc Cert.InProjBIdeal.main_arg1) = m ((c.tc : Thread Cert.InProjBIdeal.nD Cert.InProjBIdeal.τ).loc Cert.InProjBIdeal.main_arg1))
      ∧ θ_run (Cert.InProjBRefIdeal.defs (F := Ideal)) (onTc (τ := Cert.InProjBRefIdeal.τ) (Cert.InProjBRefIdeal.main (F := Ideal))) ⟨m', fun _ => 0, g'⟩ (fun r => ∀ c : Dev Cert.InProjBRefIdeal.nD,
          r.2.mem ((c.tc : Thread Cert.InProjBRefIdeal.nD Cert.InProjBRefIdeal.τ).loc Cert.InProjBRefIdeal.main_v5) = v0 c
          ∧ r.2.mem ((c.tc : Thread Cert.InProjBRefIdeal.nD Cert.InProjBRefIdeal.τ).loc Cert.InProjBRefIdeal.main_arg0) = m' ((c.tc : Thread Cert.InProjBRefIdeal.nD Cert.InProjBRefIdeal.τ).loc Cert.InProjBRefIdeal.main_arg0)
          ∧ r.2.mem ((c.tc : Thread Cert.InProjBRefIdeal.nD Cert.InProjBRefIdeal.τ).loc Cert.InProjBRefIdeal.main_arg1) = m' ((c.tc : Thread Cert.InProjBRefIdeal.nD Cert.InProjBRefIdeal.τ).loc Cert.InProjBRefIdeal.main_arg1))

def preserves_InProjA_InProjAIdeal : Prop :=
  True

def algebraic_InProjAIdeal_InProjARefIdeal [hInProjAIdeal : Cert.InProjAIdeal.Facts] [hInProjARefIdeal : Cert.InProjARefIdeal.Facts] : Prop :=
  ∀ (m : (ℓ : Loc Cert.InProjAIdeal.nD Cert.InProjAIdeal.τ Cert.InProjAIdeal.sig) → Buf (Elt Ideal) ℓ) (g : Dev Cert.InProjAIdeal.nD → PrngReg)
    (m' : (ℓ : Loc Cert.InProjARefIdeal.nD Cert.InProjARefIdeal.τ Cert.InProjARefIdeal.sig) → Buf (Elt Ideal) ℓ) (g' : Dev Cert.InProjARefIdeal.nD → PrngReg), Pre_InProjAIdeal m →
    (∀ c : Dev Cert.InProjAIdeal.nD,
      m' ((c.tc : Thread Cert.InProjARefIdeal.nD Cert.InProjARefIdeal.τ).loc Cert.InProjARefIdeal.main_arg0) = m ((c.tc : Thread Cert.InProjAIdeal.nD Cert.InProjAIdeal.τ).loc Cert.InProjAIdeal.main_arg0)
      ∧ m' ((c.tc : Thread Cert.InProjARefIdeal.nD Cert.InProjARefIdeal.τ).loc Cert.InProjARefIdeal.main_arg1) = m ((c.tc : Thread Cert.InProjAIdeal.nD Cert.InProjAIdeal.τ).loc Cert.InProjAIdeal.main_arg1)) →
    ∃ (v0 : (c : Dev Cert.InProjAIdeal.nD) → Buf (Elt Ideal) ((c.tc : Thread Cert.InProjAIdeal.nD Cert.InProjAIdeal.τ).loc Cert.InProjAIdeal.main_v1)),
      θ_run (Cert.InProjAIdeal.defs (F := Ideal)) (onTc (τ := Cert.InProjAIdeal.τ) (Cert.InProjAIdeal.main (F := Ideal))) ⟨m, fun _ => 0, g⟩ (fun r => ∀ c : Dev Cert.InProjAIdeal.nD,
          r.2.mem ((c.tc : Thread Cert.InProjAIdeal.nD Cert.InProjAIdeal.τ).loc Cert.InProjAIdeal.main_v1) = v0 c
          ∧ r.2.mem ((c.tc : Thread Cert.InProjAIdeal.nD Cert.InProjAIdeal.τ).loc Cert.InProjAIdeal.main_arg0) = m ((c.tc : Thread Cert.InProjAIdeal.nD Cert.InProjAIdeal.τ).loc Cert.InProjAIdeal.main_arg0)
          ∧ r.2.mem ((c.tc : Thread Cert.InProjAIdeal.nD Cert.InProjAIdeal.τ).loc Cert.InProjAIdeal.main_arg1) = m ((c.tc : Thread Cert.InProjAIdeal.nD Cert.InProjAIdeal.τ).loc Cert.InProjAIdeal.main_arg1))
      ∧ θ_run (Cert.InProjARefIdeal.defs (F := Ideal)) (onTc (τ := Cert.InProjARefIdeal.τ) (Cert.InProjARefIdeal.main (F := Ideal))) ⟨m', fun _ => 0, g'⟩ (fun r => ∀ c : Dev Cert.InProjARefIdeal.nD,
          r.2.mem ((c.tc : Thread Cert.InProjARefIdeal.nD Cert.InProjARefIdeal.τ).loc Cert.InProjARefIdeal.main_v5) = v0 c
          ∧ r.2.mem ((c.tc : Thread Cert.InProjARefIdeal.nD Cert.InProjARefIdeal.τ).loc Cert.InProjARefIdeal.main_arg0) = m' ((c.tc : Thread Cert.InProjARefIdeal.nD Cert.InProjARefIdeal.τ).loc Cert.InProjARefIdeal.main_arg0)
          ∧ r.2.mem ((c.tc : Thread Cert.InProjARefIdeal.nD Cert.InProjARefIdeal.τ).loc Cert.InProjARefIdeal.main_arg1) = m' ((c.tc : Thread Cert.InProjARefIdeal.nD Cert.InProjARefIdeal.τ).loc Cert.InProjARefIdeal.main_arg1))

def preserves_MergeGates_MergeGatesIdeal : Prop :=
  True

def algebraic_MergeGatesIdeal_MergeGatesRefIdeal [hMergeGatesIdeal : Cert.MergeGatesIdeal.Facts] [hMergeGatesRefIdeal : Cert.MergeGatesRefIdeal.Facts] : Prop :=
  ∀ (m : (ℓ : Loc Cert.MergeGatesIdeal.nD Cert.MergeGatesIdeal.τ Cert.MergeGatesIdeal.sig) → Buf (Elt Ideal) ℓ) (g : Dev Cert.MergeGatesIdeal.nD → PrngReg)
    (m' : (ℓ : Loc Cert.MergeGatesRefIdeal.nD Cert.MergeGatesRefIdeal.τ Cert.MergeGatesRefIdeal.sig) → Buf (Elt Ideal) ℓ) (g' : Dev Cert.MergeGatesRefIdeal.nD → PrngReg), Pre_MergeGatesIdeal m →
    (∀ c : Dev Cert.MergeGatesIdeal.nD,
      m' ((c.tc : Thread Cert.MergeGatesRefIdeal.nD Cert.MergeGatesRefIdeal.τ).loc Cert.MergeGatesRefIdeal.main_arg0) = m ((c.tc : Thread Cert.MergeGatesIdeal.nD Cert.MergeGatesIdeal.τ).loc Cert.MergeGatesIdeal.main_arg0)
      ∧ m' ((c.tc : Thread Cert.MergeGatesRefIdeal.nD Cert.MergeGatesRefIdeal.τ).loc Cert.MergeGatesRefIdeal.main_arg1) = m ((c.tc : Thread Cert.MergeGatesIdeal.nD Cert.MergeGatesIdeal.τ).loc Cert.MergeGatesIdeal.main_arg1)
      ∧ m' ((c.tc : Thread Cert.MergeGatesRefIdeal.nD Cert.MergeGatesRefIdeal.τ).loc Cert.MergeGatesRefIdeal.main_arg2) = m ((c.tc : Thread Cert.MergeGatesIdeal.nD Cert.MergeGatesIdeal.τ).loc Cert.MergeGatesIdeal.main_arg2)) →
    ∃ (v0 : (c : Dev Cert.MergeGatesIdeal.nD) → Buf (Elt Ideal) ((c.tc : Thread Cert.MergeGatesIdeal.nD Cert.MergeGatesIdeal.τ).loc Cert.MergeGatesIdeal.main_v1)),
      θ_run (Cert.MergeGatesIdeal.defs (F := Ideal)) (onTc (τ := Cert.MergeGatesIdeal.τ) (Cert.MergeGatesIdeal.main (F := Ideal))) ⟨m, fun _ => 0, g⟩ (fun r => ∀ c : Dev Cert.MergeGatesIdeal.nD,
          r.2.mem ((c.tc : Thread Cert.MergeGatesIdeal.nD Cert.MergeGatesIdeal.τ).loc Cert.MergeGatesIdeal.main_v1) = v0 c
          ∧ r.2.mem ((c.tc : Thread Cert.MergeGatesIdeal.nD Cert.MergeGatesIdeal.τ).loc Cert.MergeGatesIdeal.main_arg0) = m ((c.tc : Thread Cert.MergeGatesIdeal.nD Cert.MergeGatesIdeal.τ).loc Cert.MergeGatesIdeal.main_arg0)
          ∧ r.2.mem ((c.tc : Thread Cert.MergeGatesIdeal.nD Cert.MergeGatesIdeal.τ).loc Cert.MergeGatesIdeal.main_arg1) = m ((c.tc : Thread Cert.MergeGatesIdeal.nD Cert.MergeGatesIdeal.τ).loc Cert.MergeGatesIdeal.main_arg1)
          ∧ r.2.mem ((c.tc : Thread Cert.MergeGatesIdeal.nD Cert.MergeGatesIdeal.τ).loc Cert.MergeGatesIdeal.main_arg2) = m ((c.tc : Thread Cert.MergeGatesIdeal.nD Cert.MergeGatesIdeal.τ).loc Cert.MergeGatesIdeal.main_arg2))
      ∧ θ_run (Cert.MergeGatesRefIdeal.defs (F := Ideal)) (onTc (τ := Cert.MergeGatesRefIdeal.τ) (Cert.MergeGatesRefIdeal.main (F := Ideal))) ⟨m', fun _ => 0, g'⟩ (fun r => ∀ c : Dev Cert.MergeGatesRefIdeal.nD,
          r.2.mem ((c.tc : Thread Cert.MergeGatesRefIdeal.nD Cert.MergeGatesRefIdeal.τ).loc Cert.MergeGatesRefIdeal.main_v15) = v0 c
          ∧ r.2.mem ((c.tc : Thread Cert.MergeGatesRefIdeal.nD Cert.MergeGatesRefIdeal.τ).loc Cert.MergeGatesRefIdeal.main_arg0) = m' ((c.tc : Thread Cert.MergeGatesRefIdeal.nD Cert.MergeGatesRefIdeal.τ).loc Cert.MergeGatesRefIdeal.main_arg0)
          ∧ r.2.mem ((c.tc : Thread Cert.MergeGatesRefIdeal.nD Cert.MergeGatesRefIdeal.τ).loc Cert.MergeGatesRefIdeal.main_arg1) = m' ((c.tc : Thread Cert.MergeGatesRefIdeal.nD Cert.MergeGatesRefIdeal.τ).loc Cert.MergeGatesRefIdeal.main_arg1)
          ∧ r.2.mem ((c.tc : Thread Cert.MergeGatesRefIdeal.nD Cert.MergeGatesRefIdeal.τ).loc Cert.MergeGatesRefIdeal.main_arg2) = m' ((c.tc : Thread Cert.MergeGatesRefIdeal.nD Cert.MergeGatesRefIdeal.τ).loc Cert.MergeGatesRefIdeal.main_arg2))

def preserves_ProjMerge_ProjMergeIdeal : Prop :=
  True

def algebraic_ProjMergeIdeal_ProjMergeRefIdeal [hProjMergeIdeal : Cert.ProjMergeIdeal.Facts] [hProjMergeRefIdeal : Cert.ProjMergeRefIdeal.Facts] : Prop :=
  ∀ (m : (ℓ : Loc Cert.ProjMergeIdeal.nD Cert.ProjMergeIdeal.τ Cert.ProjMergeIdeal.sig) → Buf (Elt Ideal) ℓ) (g : Dev Cert.ProjMergeIdeal.nD → PrngReg)
    (m' : (ℓ : Loc Cert.ProjMergeRefIdeal.nD Cert.ProjMergeRefIdeal.τ Cert.ProjMergeRefIdeal.sig) → Buf (Elt Ideal) ℓ) (g' : Dev Cert.ProjMergeRefIdeal.nD → PrngReg), Pre_ProjMergeIdeal m →
    (∀ c : Dev Cert.ProjMergeIdeal.nD,
      m' ((c.tc : Thread Cert.ProjMergeRefIdeal.nD Cert.ProjMergeRefIdeal.τ).loc Cert.ProjMergeRefIdeal.main_arg0) = m ((c.tc : Thread Cert.ProjMergeIdeal.nD Cert.ProjMergeIdeal.τ).loc Cert.ProjMergeIdeal.main_arg0)
      ∧ m' ((c.tc : Thread Cert.ProjMergeRefIdeal.nD Cert.ProjMergeRefIdeal.τ).loc Cert.ProjMergeRefIdeal.main_arg1) = m ((c.tc : Thread Cert.ProjMergeIdeal.nD Cert.ProjMergeIdeal.τ).loc Cert.ProjMergeIdeal.main_arg1)
      ∧ m' ((c.tc : Thread Cert.ProjMergeRefIdeal.nD Cert.ProjMergeRefIdeal.τ).loc Cert.ProjMergeRefIdeal.main_arg2) = m ((c.tc : Thread Cert.ProjMergeIdeal.nD Cert.ProjMergeIdeal.τ).loc Cert.ProjMergeIdeal.main_arg2)
      ∧ m' ((c.tc : Thread Cert.ProjMergeRefIdeal.nD Cert.ProjMergeRefIdeal.τ).loc Cert.ProjMergeRefIdeal.main_arg3) = m ((c.tc : Thread Cert.ProjMergeIdeal.nD Cert.ProjMergeIdeal.τ).loc Cert.ProjMergeIdeal.main_arg3)
      ∧ m' ((c.tc : Thread Cert.ProjMergeRefIdeal.nD Cert.ProjMergeRefIdeal.τ).loc Cert.ProjMergeRefIdeal.main_arg4) = m ((c.tc : Thread Cert.ProjMergeIdeal.nD Cert.ProjMergeIdeal.τ).loc Cert.ProjMergeIdeal.main_arg4)
      ∧ m' ((c.tc : Thread Cert.ProjMergeRefIdeal.nD Cert.ProjMergeRefIdeal.τ).loc Cert.ProjMergeRefIdeal.main_arg5) = m ((c.tc : Thread Cert.ProjMergeIdeal.nD Cert.ProjMergeIdeal.τ).loc Cert.ProjMergeIdeal.main_arg5)
      ∧ m' ((c.tc : Thread Cert.ProjMergeRefIdeal.nD Cert.ProjMergeRefIdeal.τ).loc Cert.ProjMergeRefIdeal.main_arg6) = m ((c.tc : Thread Cert.ProjMergeIdeal.nD Cert.ProjMergeIdeal.τ).loc Cert.ProjMergeIdeal.main_arg6)) →
    ∃ (v0 : (c : Dev Cert.ProjMergeIdeal.nD) → Buf (Elt Ideal) ((c.tc : Thread Cert.ProjMergeIdeal.nD Cert.ProjMergeIdeal.τ).loc Cert.ProjMergeIdeal.main_v0)),
      θ_run (Cert.ProjMergeIdeal.defs (F := Ideal)) (onTc (τ := Cert.ProjMergeIdeal.τ) (Cert.ProjMergeIdeal.main (F := Ideal))) ⟨m, fun _ => 0, g⟩ (fun r => ∀ c : Dev Cert.ProjMergeIdeal.nD,
          r.2.mem ((c.tc : Thread Cert.ProjMergeIdeal.nD Cert.ProjMergeIdeal.τ).loc Cert.ProjMergeIdeal.main_v0) = v0 c
          ∧ r.2.mem ((c.tc : Thread Cert.ProjMergeIdeal.nD Cert.ProjMergeIdeal.τ).loc Cert.ProjMergeIdeal.main_arg0) = m ((c.tc : Thread Cert.ProjMergeIdeal.nD Cert.ProjMergeIdeal.τ).loc Cert.ProjMergeIdeal.main_arg0)
          ∧ r.2.mem ((c.tc : Thread Cert.ProjMergeIdeal.nD Cert.ProjMergeIdeal.τ).loc Cert.ProjMergeIdeal.main_arg1) = m ((c.tc : Thread Cert.ProjMergeIdeal.nD Cert.ProjMergeIdeal.τ).loc Cert.ProjMergeIdeal.main_arg1)
          ∧ r.2.mem ((c.tc : Thread Cert.ProjMergeIdeal.nD Cert.ProjMergeIdeal.τ).loc Cert.ProjMergeIdeal.main_arg2) = m ((c.tc : Thread Cert.ProjMergeIdeal.nD Cert.ProjMergeIdeal.τ).loc Cert.ProjMergeIdeal.main_arg2)
          ∧ r.2.mem ((c.tc : Thread Cert.ProjMergeIdeal.nD Cert.ProjMergeIdeal.τ).loc Cert.ProjMergeIdeal.main_arg3) = m ((c.tc : Thread Cert.ProjMergeIdeal.nD Cert.ProjMergeIdeal.τ).loc Cert.ProjMergeIdeal.main_arg3)
          ∧ r.2.mem ((c.tc : Thread Cert.ProjMergeIdeal.nD Cert.ProjMergeIdeal.τ).loc Cert.ProjMergeIdeal.main_arg4) = m ((c.tc : Thread Cert.ProjMergeIdeal.nD Cert.ProjMergeIdeal.τ).loc Cert.ProjMergeIdeal.main_arg4)
          ∧ r.2.mem ((c.tc : Thread Cert.ProjMergeIdeal.nD Cert.ProjMergeIdeal.τ).loc Cert.ProjMergeIdeal.main_arg5) = m ((c.tc : Thread Cert.ProjMergeIdeal.nD Cert.ProjMergeIdeal.τ).loc Cert.ProjMergeIdeal.main_arg5)
          ∧ r.2.mem ((c.tc : Thread Cert.ProjMergeIdeal.nD Cert.ProjMergeIdeal.τ).loc Cert.ProjMergeIdeal.main_arg6) = m ((c.tc : Thread Cert.ProjMergeIdeal.nD Cert.ProjMergeIdeal.τ).loc Cert.ProjMergeIdeal.main_arg6))
      ∧ θ_run (Cert.ProjMergeRefIdeal.defs (F := Ideal)) (onTc (τ := Cert.ProjMergeRefIdeal.τ) (Cert.ProjMergeRefIdeal.main (F := Ideal))) ⟨m', fun _ => 0, g'⟩ (fun r => ∀ c : Dev Cert.ProjMergeRefIdeal.nD,
          r.2.mem ((c.tc : Thread Cert.ProjMergeRefIdeal.nD Cert.ProjMergeRefIdeal.τ).loc Cert.ProjMergeRefIdeal.main_v22) = v0 c
          ∧ r.2.mem ((c.tc : Thread Cert.ProjMergeRefIdeal.nD Cert.ProjMergeRefIdeal.τ).loc Cert.ProjMergeRefIdeal.main_arg0) = m' ((c.tc : Thread Cert.ProjMergeRefIdeal.nD Cert.ProjMergeRefIdeal.τ).loc Cert.ProjMergeRefIdeal.main_arg0)
          ∧ r.2.mem ((c.tc : Thread Cert.ProjMergeRefIdeal.nD Cert.ProjMergeRefIdeal.τ).loc Cert.ProjMergeRefIdeal.main_arg1) = m' ((c.tc : Thread Cert.ProjMergeRefIdeal.nD Cert.ProjMergeRefIdeal.τ).loc Cert.ProjMergeRefIdeal.main_arg1)
          ∧ r.2.mem ((c.tc : Thread Cert.ProjMergeRefIdeal.nD Cert.ProjMergeRefIdeal.τ).loc Cert.ProjMergeRefIdeal.main_arg2) = m' ((c.tc : Thread Cert.ProjMergeRefIdeal.nD Cert.ProjMergeRefIdeal.τ).loc Cert.ProjMergeRefIdeal.main_arg2)
          ∧ r.2.mem ((c.tc : Thread Cert.ProjMergeRefIdeal.nD Cert.ProjMergeRefIdeal.τ).loc Cert.ProjMergeRefIdeal.main_arg3) = m' ((c.tc : Thread Cert.ProjMergeRefIdeal.nD Cert.ProjMergeRefIdeal.τ).loc Cert.ProjMergeRefIdeal.main_arg3)
          ∧ r.2.mem ((c.tc : Thread Cert.ProjMergeRefIdeal.nD Cert.ProjMergeRefIdeal.τ).loc Cert.ProjMergeRefIdeal.main_arg4) = m' ((c.tc : Thread Cert.ProjMergeRefIdeal.nD Cert.ProjMergeRefIdeal.τ).loc Cert.ProjMergeRefIdeal.main_arg4)
          ∧ r.2.mem ((c.tc : Thread Cert.ProjMergeRefIdeal.nD Cert.ProjMergeRefIdeal.τ).loc Cert.ProjMergeRefIdeal.main_arg5) = m' ((c.tc : Thread Cert.ProjMergeRefIdeal.nD Cert.ProjMergeRefIdeal.τ).loc Cert.ProjMergeRefIdeal.main_arg5)
          ∧ r.2.mem ((c.tc : Thread Cert.ProjMergeRefIdeal.nD Cert.ProjMergeRefIdeal.τ).loc Cert.ProjMergeRefIdeal.main_arg6) = m' ((c.tc : Thread Cert.ProjMergeRefIdeal.nD Cert.ProjMergeRefIdeal.τ).loc Cert.ProjMergeRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v12) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v13) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_NbrAttn_NbrAttnIdeal : Prop :=
  True

def algebraic_NbrAttnIdeal_NbrAttnRefIdeal_pre_finite_scores [hNbrAttnIdeal : Cert.NbrAttnIdeal.Facts] [hNbrAttnRefIdeal : Cert.NbrAttnRefIdeal.Facts] [hPre_finite_scores : Cert.Pre_finite_scores.Facts] : Prop :=
  ∀ (m : (ℓ : Loc Cert.NbrAttnIdeal.nD Cert.NbrAttnIdeal.τ Cert.NbrAttnIdeal.sig) → Buf (Elt Ideal) ℓ) (g : Dev Cert.NbrAttnIdeal.nD → PrngReg)
    (m' : (ℓ : Loc Cert.NbrAttnRefIdeal.nD Cert.NbrAttnRefIdeal.τ Cert.NbrAttnRefIdeal.sig) → Buf (Elt Ideal) ℓ) (g' : Dev Cert.NbrAttnRefIdeal.nD → PrngReg), Pre_NbrAttnIdeal_finite_scores m →
    (∀ c : Dev Cert.NbrAttnIdeal.nD,
      m' ((c.tc : Thread Cert.NbrAttnRefIdeal.nD Cert.NbrAttnRefIdeal.τ).loc Cert.NbrAttnRefIdeal.main_arg0) = m ((c.tc : Thread Cert.NbrAttnIdeal.nD Cert.NbrAttnIdeal.τ).loc Cert.NbrAttnIdeal.main_arg0)
      ∧ m' ((c.tc : Thread Cert.NbrAttnRefIdeal.nD Cert.NbrAttnRefIdeal.τ).loc Cert.NbrAttnRefIdeal.main_arg1) = m ((c.tc : Thread Cert.NbrAttnIdeal.nD Cert.NbrAttnIdeal.τ).loc Cert.NbrAttnIdeal.main_arg1)) →
    ∃ (v0 : (c : Dev Cert.NbrAttnIdeal.nD) → Buf (Elt Ideal) ((c.tc : Thread Cert.NbrAttnIdeal.nD Cert.NbrAttnIdeal.τ).loc Cert.NbrAttnIdeal.main_v61)),
      θ_run (Cert.NbrAttnIdeal.defs (F := Ideal)) (onTc (τ := Cert.NbrAttnIdeal.τ) (Cert.NbrAttnIdeal.main (F := Ideal))) ⟨m, fun _ => 0, g⟩ (fun r => ∀ c : Dev Cert.NbrAttnIdeal.nD,
          r.2.mem ((c.tc : Thread Cert.NbrAttnIdeal.nD Cert.NbrAttnIdeal.τ).loc Cert.NbrAttnIdeal.main_v61) = v0 c
          ∧ r.2.mem ((c.tc : Thread Cert.NbrAttnIdeal.nD Cert.NbrAttnIdeal.τ).loc Cert.NbrAttnIdeal.main_arg0) = m ((c.tc : Thread Cert.NbrAttnIdeal.nD Cert.NbrAttnIdeal.τ).loc Cert.NbrAttnIdeal.main_arg0)
          ∧ r.2.mem ((c.tc : Thread Cert.NbrAttnIdeal.nD Cert.NbrAttnIdeal.τ).loc Cert.NbrAttnIdeal.main_arg1) = m ((c.tc : Thread Cert.NbrAttnIdeal.nD Cert.NbrAttnIdeal.τ).loc Cert.NbrAttnIdeal.main_arg1))
      ∧ θ_run (Cert.NbrAttnRefIdeal.defs (F := Ideal)) (onTc (τ := Cert.NbrAttnRefIdeal.τ) (Cert.NbrAttnRefIdeal.main (F := Ideal))) ⟨m', fun _ => 0, g'⟩ (fun r => ∀ c : Dev Cert.NbrAttnRefIdeal.nD,
          r.2.mem ((c.tc : Thread Cert.NbrAttnRefIdeal.nD Cert.NbrAttnRefIdeal.τ).loc Cert.NbrAttnRefIdeal.main_v137) = v0 c
          ∧ r.2.mem ((c.tc : Thread Cert.NbrAttnRefIdeal.nD Cert.NbrAttnRefIdeal.τ).loc Cert.NbrAttnRefIdeal.main_arg0) = m' ((c.tc : Thread Cert.NbrAttnRefIdeal.nD Cert.NbrAttnRefIdeal.τ).loc Cert.NbrAttnRefIdeal.main_arg0)
          ∧ r.2.mem ((c.tc : Thread Cert.NbrAttnRefIdeal.nD Cert.NbrAttnRefIdeal.τ).loc Cert.NbrAttnRefIdeal.main_arg1) = m' ((c.tc : Thread Cert.NbrAttnRefIdeal.nD Cert.NbrAttnRefIdeal.τ).loc Cert.NbrAttnRefIdeal.main_arg1))

def Claim : Prop :=
  ∃ (hInProjC : Cert.InProjC.Facts) (hInProjCIdeal : Cert.InProjCIdeal.Facts) (hInProjCRefIdeal : Cert.InProjCRefIdeal.Facts) (hInProjB : Cert.InProjB.Facts) (hInProjBIdeal : Cert.InProjBIdeal.Facts) (hInProjBRefIdeal : Cert.InProjBRefIdeal.Facts) (hInProjA : Cert.InProjA.Facts) (hInProjAIdeal : Cert.InProjAIdeal.Facts) (hInProjARefIdeal : Cert.InProjARefIdeal.Facts) (hMergeGates : Cert.MergeGates.Facts) (hMergeGatesIdeal : Cert.MergeGatesIdeal.Facts) (hMergeGatesRefIdeal : Cert.MergeGatesRefIdeal.Facts) (hProjMerge : Cert.ProjMerge.Facts) (hProjMergeIdeal : Cert.ProjMergeIdeal.Facts) (hProjMergeRefIdeal : Cert.ProjMergeRefIdeal.Facts) (hOutProj : Cert.OutProj.Facts) (hOutProjIdeal : Cert.OutProjIdeal.Facts) (hOutProjRefIdeal : Cert.OutProjRefIdeal.Facts) (hFinalNorm : Cert.FinalNorm.Facts) (hFinalNormIdeal : Cert.FinalNormIdeal.Facts) (hFinalNormRefIdeal : Cert.FinalNormRefIdeal.Facts) (hNbrAttn : Cert.NbrAttn.Facts) (hNbrAttnIdeal : Cert.NbrAttnIdeal.Facts) (hNbrAttnRefIdeal : Cert.NbrAttnRefIdeal.Facts) (hPre_finite_scores : Cert.Pre_finite_scores.Facts),
    quiescent_InProjC (hInProjC := hInProjC)
    ∧ quiescent_InProjCIdeal (hInProjCIdeal := hInProjCIdeal)
    ∧ quiescent_InProjCRefIdeal (hInProjCRefIdeal := hInProjCRefIdeal)
    ∧ quiescent_InProjB (hInProjB := hInProjB)
    ∧ quiescent_InProjBIdeal (hInProjBIdeal := hInProjBIdeal)
    ∧ quiescent_InProjBRefIdeal (hInProjBRefIdeal := hInProjBRefIdeal)
    ∧ quiescent_InProjA (hInProjA := hInProjA)
    ∧ quiescent_InProjAIdeal (hInProjAIdeal := hInProjAIdeal)
    ∧ quiescent_InProjARefIdeal (hInProjARefIdeal := hInProjARefIdeal)
    ∧ quiescent_MergeGates (hMergeGates := hMergeGates)
    ∧ quiescent_MergeGatesIdeal (hMergeGatesIdeal := hMergeGatesIdeal)
    ∧ quiescent_MergeGatesRefIdeal (hMergeGatesRefIdeal := hMergeGatesRefIdeal)
    ∧ quiescent_ProjMerge (hProjMerge := hProjMerge)
    ∧ quiescent_ProjMergeIdeal (hProjMergeIdeal := hProjMergeIdeal)
    ∧ quiescent_ProjMergeRefIdeal (hProjMergeRefIdeal := hProjMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_NbrAttn (hNbrAttn := hNbrAttn)
    ∧ quiescent_NbrAttnIdeal (hNbrAttnIdeal := hNbrAttnIdeal)
    ∧ quiescent_NbrAttnIdeal_pre_finite_scores (hNbrAttnIdeal := hNbrAttnIdeal) (hPre_finite_scores := hPre_finite_scores)
    ∧ quiescent_NbrAttnRefIdeal (hNbrAttnRefIdeal := hNbrAttnRefIdeal)
    ∧ quiescent_NbrAttnRefIdeal_pre_finite_scores (hNbrAttnRefIdeal := hNbrAttnRefIdeal) (hPre_finite_scores := hPre_finite_scores)
    ∧ preserves_InProjC_InProjCIdeal
    ∧ algebraic_InProjCIdeal_InProjCRefIdeal (hInProjCIdeal := hInProjCIdeal) (hInProjCRefIdeal := hInProjCRefIdeal)
    ∧ preserves_InProjB_InProjBIdeal
    ∧ algebraic_InProjBIdeal_InProjBRefIdeal (hInProjBIdeal := hInProjBIdeal) (hInProjBRefIdeal := hInProjBRefIdeal)
    ∧ preserves_InProjA_InProjAIdeal
    ∧ algebraic_InProjAIdeal_InProjARefIdeal (hInProjAIdeal := hInProjAIdeal) (hInProjARefIdeal := hInProjARefIdeal)
    ∧ preserves_MergeGates_MergeGatesIdeal
    ∧ algebraic_MergeGatesIdeal_MergeGatesRefIdeal (hMergeGatesIdeal := hMergeGatesIdeal) (hMergeGatesRefIdeal := hMergeGatesRefIdeal)
    ∧ preserves_ProjMerge_ProjMergeIdeal
    ∧ algebraic_ProjMergeIdeal_ProjMergeRefIdeal (hProjMergeIdeal := hProjMergeIdeal) (hProjMergeRefIdeal := hProjMergeRefIdeal)
    ∧ preserves_OutProj_OutProjIdeal
    ∧ algebraic_OutProjIdeal_OutProjRefIdeal (hOutProjIdeal := hOutProjIdeal) (hOutProjRefIdeal := hOutProjRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_NbrAttn_NbrAttnIdeal
    ∧ algebraic_NbrAttnIdeal_NbrAttnRefIdeal_pre_finite_scores (hNbrAttnIdeal := hNbrAttnIdeal) (hNbrAttnRefIdeal := hNbrAttnRefIdeal) (hPre_finite_scores := hPre_finite_scores)
-- ==== Pre_finite_scores.lean ====
abbrev S8704x8192 : Shape := ⟨2, ![8704, 8192]⟩
abbrev S16x15x31 : Shape := ⟨3, ![16, 15, 31]⟩
abbrev S8704x4096 : Shape := ⟨2, ![8704, 4096]⟩
abbrev S_ : Shape := ⟨0, ![]⟩

class Facts : Prop where
  slices_S8704x8192_S8704x4096_0_0 : S8704x8192.Slices ![0, 0] S8704x4096
  bitsLt_bf16_f32 : FTy.bits .bf16 < FTy.bits .f32
  bcast_S_S8704x4096 : S_.BroadcastsInDim S8704x4096 (![] : Fin 0 → Fin S8704x4096.rank)
  bcast_S_S16x15x31 : S_.BroadcastsInDim S16x15x31 (![] : Fin 0 → Fin S16x15x31.rank)

variable [Facts]

def fn {F : FTy → Type} [FloatOps F] (main_arg0 : FVec F S8704x8192 .bf16) (main_arg1 : FVec F S16x15x31 .f32) : IVec S8704x4096 1 × IVec S16x15x31 1 :=
  let main_v0 : FVec F S8704x4096 .bf16 := (extractStridedSlice S8704x4096 ![0, 0] · slices_S8704x8192_S8704x4096_0_0) main_arg0
  let main_v1 : FVec F S8704x4096 .f32 := (extf .f32 · bitsLt_bf16_f32) main_v0
  let main_v2 : FVec F S8704x4096 .f32 := Host.absf main_v1
  let main_cst : FVec F S_ .f32 := constant S_ .f32 0x7F800000#32
  let main_v3 : FVec F S8704x4096 .f32 := broadcastInDim S8704x4096 ![] bcast_S_S8704x4096 main_cst
  let main_v4 : IVec S8704x4096 1 := cmpf .olt main_v2 main_v3
  let main_v5 : FVec F S16x15x31 .f32 := Host.absf main_arg1
  let main_cst_0 : FVec F S_ .f32 := constant S_ .f32 0x7F800000#32
  let main_v6 : FVec F S16x15x31 .f32 := broadcastInDim S16x15x31 ![] bcast_S_S16x15x31 main_cst_0
  let main_v7 : IVec S16x15x31 1 := cmpf .olt main_v5 main_v6
  (main_v4, main_v7)
-- ==== InProjC.lean ====
abbrev S8704x4096 : Shape := ⟨2, ![8704, 4096]⟩
abbrev S2x4096x16448 : Shape := ⟨3, ![2, 4096, 16448]⟩
abbrev S2x16448x4096 : Shape := ⟨3, ![2, 16448, 4096]⟩
abbrev S8704x8192 : Shape := ⟨2, ![8704, 8192]⟩
abbrev S1088x4096 : Shape := ⟨2, ![1088, 4096]⟩
abbrev S1x512x4096 : Shape := ⟨3, ![1, 512, 4096]⟩
abbrev S1088x512 : Shape := ⟨2, ![1088, 512]⟩
abbrev S512x4096 : Shape := ⟨2, ![512, 4096]⟩
abbrev S1x128x4096 : Shape := ⟨3, ![1, 128, 4096]⟩
abbrev S128x4096 : Shape := ⟨2, ![128, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S2x4096x16448, .f32⟩
  | .hbm, ⟨2, _⟩ => ⟨S2x16448x4096, .f32⟩
  | .hbm, ⟨3, _⟩ => ⟨S8704x8192, .bf16⟩
  | .local _ .vmem, ⟨0, _⟩ => ⟨S1088x4096, .bf16⟩
  | .local _ .vmem, ⟨1, _⟩ => ⟨S1088x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1088x512, .bf16⟩
  | .local _ .vmem, ⟨5, _⟩ => ⟨S1088x512, .bf16⟩
  | .local _ .vmem, ⟨6, _⟩ => ⟨S512x4096, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let c8256_i32 : BitVec 32 := 8256#32
  let arg0 : BitVec 32 := BitVec.ofNat 32 (i 0).val
  let c512_i32 : BitVec 32 := 512#32
  let v0 : BitVec 32 := Scalar.muli arg0 c512_i32
  let v1 : BitVec 32 := Scalar.addi c8256_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8256_i32 : BitVec 32 := 8256#32
  let v1 : BitVec 32 := Scalar.addi c8256_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjCRefIdeal.lean ====
abbrev S8704x4096 : Shape := ⟨2, ![8704, 4096]⟩
abbrev S2x4096x16448 : Shape := ⟨3, ![2, 4096, 16448]⟩
abbrev S1x4096x16448 : Shape := ⟨3, ![1, 4096, 16448]⟩
abbrev S4096x16448 : Shape := ⟨2, ![4096, 16448]⟩
abbrev S8704x16448 : Shape := ⟨2, ![8704, 16448]⟩
abbrev S8704x8192 : Shape := ⟨2, ![8704, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x16448, .f32⟩
  | .hbm, ⟨2, _⟩ => ⟨S8704x4096, .f32⟩
  | .hbm, ⟨3, _⟩ => ⟨S1x4096x16448, .f32⟩
  | .hbm, ⟨4, _⟩ => ⟨S4096x16448, .f32⟩
  | .hbm, ⟨5, _⟩ => ⟨S8704x16448, .f32⟩
  | .hbm, ⟨6, _⟩ => ⟨S8704x8192, .f32⟩
  | .hbm, ⟨7, _⟩ => ⟨S8704x8192, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InProjB.lean ====
abbrev S8704x4096 : Shape := ⟨2, ![8704, 4096]⟩
abbrev S2x4096x16448 : Shape := ⟨3, ![2, 4096, 16448]⟩
abbrev S2x16448x4096 : Shape := ⟨3, ![2, 16448, 4096]⟩
abbrev S8704x5120 : Shape := ⟨2, ![8704, 5120]⟩
abbrev S1088x4096 : Shape := ⟨2, ![1088, 4096]⟩
abbrev S1x512x4096 : Shape := ⟨3, ![1, 512, 4096]⟩
abbrev S1088x512 : Shape := ⟨2, ![1088, 512]⟩
abbrev S512x4096 : Shape := ⟨2, ![512, 4096]⟩
abbrev S1x128x4096 : Shape := ⟨3, ![1, 128, 4096]⟩
abbrev S128x4096 : Shape := ⟨2, ![128, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S2x4096x16448, .f32⟩
  | .hbm, ⟨2, _⟩ => ⟨S2x16448x4096, .f32⟩
  | .hbm, ⟨3, _⟩ => ⟨S8704x5120, .bf16⟩
  | .local _ .vmem, ⟨0, _⟩ => ⟨S1088x4096, .bf16⟩
  | .local _ .vmem, ⟨1, _⟩ => ⟨S1088x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1088x512, .bf16⟩
  | .local _ .vmem, ⟨5, _⟩ => ⟨S1088x512, .bf16⟩
  | .local _ .vmem, ⟨6, _⟩ => ⟨S512x4096, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 8], ![false, false]⟩

def k0_mult1 (i : grid0.Coords) : BitVec 32 :=
  let c3104_i32 : BitVec 32 := 3104#32
  let arg0 : BitVec 32 := BitVec.ofNat 32 (i 0).val
  let c512_i32 : BitVec 32 := 512#32
  let v0 : BitVec 32 := Scalar.muli arg0 c512_i32
  let v1 : BitVec 32 := Scalar.addi c3104_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c3104_i32 : BitVec 32 := 3104#32
  let v1 : BitVec 32 := Scalar.addi c3104_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjBRefIdeal.lean ====
abbrev S8704x4096 : Shape := ⟨2, ![8704, 4096]⟩
abbrev S2x4096x16448 : Shape := ⟨3, ![2, 4096, 16448]⟩
abbrev S1x4096x16448 : Shape := ⟨3, ![1, 4096, 16448]⟩
abbrev S4096x16448 : Shape := ⟨2, ![4096, 16448]⟩
abbrev S8704x16448 : Shape := ⟨2, ![8704, 16448]⟩
abbrev S8704x5120 : Shape := ⟨2, ![8704, 5120]⟩

abbrev nBuf : Space → Nat
  | .hbm => 8
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x16448, .f32⟩
  | .hbm, ⟨2, _⟩ => ⟨S8704x4096, .f32⟩
  | .hbm, ⟨3, _⟩ => ⟨S1x4096x16448, .f32⟩
  | .hbm, ⟨4, _⟩ => ⟨S4096x16448, .f32⟩
  | .hbm, ⟨5, _⟩ => ⟨S8704x16448, .f32⟩
  | .hbm, ⟨6, _⟩ => ⟨S8704x5120, .f32⟩
  | .hbm, ⟨7, _⟩ => ⟨S8704x5120, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InProjA.lean ====
abbrev S8704x4096 : Shape := ⟨2, ![8704, 4096]⟩
abbrev S2x4096x16448 : Shape := ⟨3, ![2, 4096, 16448]⟩
abbrev S2x16448x4096 : Shape := ⟨3, ![2, 16448, 4096]⟩
abbrev S8704x3072 : Shape := ⟨2, ![8704, 3072]⟩
abbrev S1088x4096 : Shape := ⟨2, ![1088, 4096]⟩
abbrev S1x512x4096 : Shape := ⟨3, ![1, 512, 4096]⟩
abbrev S1088x512 : Shape := ⟨2, ![1088, 512]⟩
abbrev S512x4096 : Shape := ⟨2, ![512, 4096]⟩
abbrev S1x128x4096 : Shape := ⟨3, ![1, 128, 4096]⟩
abbrev S128x4096 : Shape := ⟨2, ![128, 4096]⟩

abbrev nBuf : Space → Nat
  | .hbm => 4
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S2x4096x16448, .f32⟩
  | .hbm, ⟨2, _⟩ => ⟨S2x16448x4096, .f32⟩
  | .hbm, ⟨3, _⟩ => ⟨S8704x3072, .bf16⟩
  | .local _ .vmem, ⟨0, _⟩ => ⟨S1088x4096, .bf16⟩
  | .local _ .vmem, ⟨1, _⟩ => ⟨S1088x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1088x512, .bf16⟩
  | .local _ .vmem, ⟨5, _⟩ => ⟨S1088x512, .bf16⟩
  | .local _ .vmem, ⟨6, _⟩ => ⟨S512x4096, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjARefIdeal.lean ====
abbrev S8704x4096 : Shape := ⟨2, ![8704, 4096]⟩
abbrev S2x4096x16448 : Shape := ⟨3, ![2, 4096, 16448]⟩
abbrev S1x4096x16448 : Shape := ⟨3, ![1, 4096, 16448]⟩
abbrev S4096x16448 : Shape := ⟨2, ![4096, 16448]⟩
abbrev S8704x16448 : Shape := ⟨2, ![8704, 16448]⟩
abbrev S8704x3072 : Shape := ⟨2, ![8704, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x16448, .f32⟩
  | .hbm, ⟨2, _⟩ => ⟨S8704x4096, .f32⟩
  | .hbm, ⟨3, _⟩ => ⟨S1x4096x16448, .f32⟩
  | .hbm, ⟨4, _⟩ => ⟨S4096x16448, .f32⟩
  | .hbm, ⟨5, _⟩ => ⟨S8704x16448, .f32⟩
  | .hbm, ⟨6, _⟩ => ⟨S8704x3072, .f32⟩
  | .hbm, ⟨7, _⟩ => ⟨S8704x3072, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MergeGates.lean ====
abbrev S8704x4096 : Shape := ⟨2, ![8704, 4096]⟩
abbrev S2x4096x12288 : Shape := ⟨3, ![2, 4096, 12288]⟩
abbrev S2x12288 : Shape := ⟨2, ![2, 12288]⟩
abbrev S2x1x12288 : Shape := ⟨3, ![2, 1, 12288]⟩
abbrev S8704x12288 : Shape := ⟨2, ![8704, 12288]⟩
abbrev S1088x4096 : Shape := ⟨2, ![1088, 4096]⟩
abbrev S1x4096x512 : Shape := ⟨3, ![1, 4096, 512]⟩
abbrev S1x1x512 : Shape := ⟨3, ![1, 1, 512]⟩
abbrev S1088x512 : Shape := ⟨2, ![1088, 512]⟩
abbrev S4096x512 : Shape := ⟨2, ![4096, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 5
  | .vmem => 9
  | .smem => 0
  | _ => 0

abbrev bufTy : (tb : Table) → Fin (tcTables nBuf tb) → BufTy
  | .hbm, ⟨0, _⟩ => ⟨S8704x4096, .bf16⟩
  | .hbm, ⟨1, _⟩ => ⟨S2x4096x12288, .f32⟩
  | .hbm, ⟨2, _⟩ => ⟨S2x12288, .f32⟩
  | .hbm, ⟨3, _⟩ => ⟨S2x1x12288, .f32⟩
  | .hbm, ⟨4, _⟩ => ⟨S8704x12288, .bf16⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x1x512, .f32⟩
  | .local _ .vmem, ⟨5, _⟩ => ⟨S1x1x512, .f32⟩
  | .local _ .vmem, ⟨6, _⟩ => ⟨S1088x512, .bf16⟩
  | .local _ .vmem, ⟨7, _⟩ => ⟨S1088x512, .bf16⟩
  | .local _ .vmem, ⟨8, _⟩ => ⟨S4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MergeGatesRefIdeal.lean ====
abbrev S8704x4096 : Shape := ⟨2, ![8704, 4096]⟩
abbrev S2x4096x12288 : Shape := ⟨3, ![2, 4096, 12288]⟩
abbrev S2x12288 : Shape := ⟨2, ![2, 12288]⟩
abbrev S1x4096x12288 : Shape := ⟨3, ![1, 4096, 12288]⟩
abbrev S4096x12288 : Shape := ⟨2, ![4096, 12288]⟩
abbrev S8704x12288 : Shape := ⟨2, ![8704, 12288]⟩
abbrev S1x12288 : Shape := ⟨2, ![1, 12288]⟩
abbrev S12288 : Shape := ⟨1, ![12288]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x12288, .f32⟩
  | .hbm, ⟨2, _⟩ => ⟨S2x12288, .f32⟩
  | .hbm, ⟨3, _⟩ => ⟨S8704x4096, .f32⟩
  | .hbm, ⟨4, _⟩ => ⟨S1x4096x12288, .f32⟩
  | .hbm, ⟨5, _⟩ => ⟨S4096x12288, .f32⟩
  | .hbm, ⟨6, _⟩ => ⟨S8704x12288, .f32⟩
  | .hbm, ⟨7, _⟩ => ⟨S1x12288, .f32⟩
  | .hbm, ⟨8, _⟩ => ⟨S12288, .f32⟩
  | .hbm, ⟨9, _⟩ => ⟨S1x12288, .f32⟩
  | .hbm, ⟨10, _⟩ => ⟨S8704x12288, .f32⟩
  | .hbm, ⟨11, _⟩ => ⟨S8704x12288, .f32⟩
  | .hbm, ⟨12, _⟩ => ⟨S8704x12288, .f32⟩
  | .hbm, ⟨13, _⟩ => ⟨S8704x12288, .f32⟩
  | .hbm, ⟨14, _⟩ => ⟨S_, .f32⟩
  | .hbm, ⟨15, _⟩ => ⟨S8704x12288, .f32⟩
  | .hbm, ⟨16, _⟩ => ⟨S8704x12288, .f32⟩
  | .hbm, ⟨17, _⟩ => ⟨S_, .f32⟩
  | .hbm, ⟨18, _⟩ => ⟨S8704x12288, .f32⟩
  | .hbm, ⟨19, _⟩ => ⟨S8704x12288, .f32⟩
  | .hbm, ⟨20, _⟩ => ⟨S8704x12288, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== ProjMerge.lean ====
abbrev S8704x1024 : Shape := ⟨2, ![8704, 1024]⟩
abbrev S12288x2048 : Shape := ⟨2, ![12288, 2048]⟩
abbrev S2x1024x4096 : Shape := ⟨3, ![2, 1024, 4096]⟩
abbrev S2x2048x4096 : Shape := ⟨3, ![2, 2048, 4096]⟩
abbrev S8704x12288 : Shape := ⟨2, ![8704, 12288]⟩
abbrev S8704x4096 : Shape := ⟨2, ![8704, 4096]⟩
abbrev S1088x1024 : Shape := ⟨2, ![1088, 1024]⟩
abbrev S1088x2048 : Shape := ⟨2, ![1088, 2048]⟩
abbrev S1x1024x512 : Shape := ⟨3, ![1, 1024, 512]⟩
abbrev S1x2048x512 : Shape := ⟨3, ![1, 2048, 512]⟩
abbrev S1088x512 : Shape := ⟨2, ![1088, 512]⟩
abbrev S1024x512 : Shape := ⟨2, ![1024, 512]⟩
abbrev S2048x512 : Shape := ⟨2, ![2048, 512]⟩
abbrev S1x512x512 : Shape := ⟨3, ![1, 512, 512]⟩
abbrev S512x512 : Shape := ⟨2, ![512, 512]⟩

abbrev nBuf : Space → Nat
  | .hbm => 8
  | .vmem => 23
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S12288x2048, .bf16⟩
  | .hbm, ⟨3, _⟩ => ⟨S2x1024x4096, .f32⟩
  | .hbm, ⟨4, _⟩ => ⟨S2x1024x4096, .f32⟩
  | .hbm, ⟨5, _⟩ => ⟨S2x2048x4096, .f32⟩
  | .hbm, ⟨6, _⟩ => ⟨S8704x12288, .bf16⟩
  | .hbm, ⟨7, _⟩ => ⟨S8704x4096, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1088x2048, .bf16⟩
  | .local _ .vmem, ⟨5, _⟩ => ⟨S1088x2048, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x2048x512, .f32⟩
  | .local _ .vmem, ⟨11, _⟩ => ⟨S1x2048x512, .f32⟩
  | .local _ .vmem, ⟨12, _⟩ => ⟨S1088x512, .bf16⟩
  | .local _ .vmem, ⟨13, _⟩ => ⟨S1088x512, .bf16⟩
  | .local _ .vmem, ⟨14, _⟩ => ⟨S1088x512, .bf16⟩
  | .local _ .vmem, ⟨15, _⟩ => ⟨S1088x512, .bf16⟩
  | .local _ .vmem, ⟨16, _⟩ => ⟨S1088x512, .bf16⟩
  | .local _ .vmem, ⟨17, _⟩ => ⟨S1088x512, .bf16⟩
  | .local _ .vmem, ⟨18, _⟩ => ⟨S1088x512, .bf16⟩
  | .local _ .vmem, ⟨19, _⟩ => ⟨S1088x512, .bf16⟩
  | .local _ .vmem, ⟨20, _⟩ => ⟨S1024x512, .bf16⟩
  | .local _ .vmem, ⟨21, _⟩ => ⟨S1024x512, .bf16⟩
  | .local _ .vmem, ⟨22, _⟩ => ⟨S2048x512, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1088x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1088x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1088x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1088x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjMergeRefIdeal.lean ====
abbrev S8704x1024 : Shape := ⟨2, ![8704, 1024]⟩
abbrev S12288x2048 : Shape := ⟨2, ![12288, 2048]⟩
abbrev S2x1024x4096 : Shape := ⟨3, ![2, 1024, 4096]⟩
abbrev S2x2048x4096 : Shape := ⟨3, ![2, 2048, 4096]⟩
abbrev S8704x12288 : Shape := ⟨2, ![8704, 12288]⟩
abbrev S8704x4096 : Shape := ⟨2, ![8704, 4096]⟩
abbrev S8704x2048 : Shape := ⟨2, ![8704, 2048]⟩
abbrev S1x1024x4096 : Shape := ⟨3, ![1, 1024, 4096]⟩
abbrev S1024x4096 : Shape := ⟨2, ![1024, 4096]⟩
abbrev S1x2048x4096 : Shape := ⟨3, ![1, 2048, 4096]⟩
abbrev S2048x4096 : Shape := ⟨2, ![2048, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8704x1024, .bf16⟩
  | .hbm, ⟨2, _⟩ => ⟨S12288x2048, .bf16⟩
  | .hbm, ⟨3, _⟩ => ⟨S2x1024x4096, .f32⟩
  | .hbm, ⟨4, _⟩ => ⟨S2x1024x4096, .f32⟩
  | .hbm, ⟨5, _⟩ => ⟨S2x2048x4096, .f32⟩
  | .hbm, ⟨6, _⟩ => ⟨S8704x12288, .bf16⟩
  | .hbm, ⟨7, _⟩ => ⟨S8704x12288, .f32⟩
  | .hbm, ⟨8, _⟩ => ⟨S8704x4096, .f32⟩
  | .hbm, ⟨9, _⟩ => ⟨S8704x4096, .f32⟩
  | .hbm, ⟨10, _⟩ => ⟨S8704x4096, .f32⟩
  | .hbm, ⟨11, _⟩ => ⟨S8704x2048, .bf16⟩
  | .hbm, ⟨12, _⟩ => ⟨S8704x1024, .f32⟩
  | .hbm, ⟨13, _⟩ => ⟨S1x1024x4096, .f32⟩
  | .hbm, ⟨14, _⟩ => ⟨S1024x4096, .f32⟩
  | .hbm, ⟨15, _⟩ => ⟨S8704x4096, .f32⟩
  | .hbm, ⟨16, _⟩ => ⟨S8704x4096, .f32⟩
  | .hbm, ⟨17, _⟩ => ⟨S8704x1024, .f32⟩
  | .hbm, ⟨18, _⟩ => ⟨S1x1024x4096, .f32⟩
  | .hbm, ⟨19, _⟩ => ⟨S1024x4096, .f32⟩
  | .hbm, ⟨20, _⟩ => ⟨S8704x4096, .f32⟩
  | .hbm, ⟨21, _⟩ => ⟨S8704x4096, .f32⟩
  | .hbm, ⟨22, _⟩ => ⟨S8704x4096, .f32⟩
  | .hbm, ⟨23, _⟩ => ⟨S8704x2048, .f32⟩
  | .hbm, ⟨24, _⟩ => ⟨S1x2048x4096, .f32⟩
  | .hbm, ⟨25, _⟩ => ⟨S2048x4096, .f32⟩
  | .hbm, ⟨26, _⟩ => ⟨S8704x4096, .f32⟩
  | .hbm, ⟨27, _⟩ => ⟨S8704x4096, .f32⟩
  | .hbm, ⟨28, _⟩ => ⟨S8704x4096, .f32⟩
  | .hbm, ⟨29, _⟩ => ⟨S8704x4096, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== OutProj.lean ====
abbrev S8704x4096 : Shape := ⟨2, ![8704, 4096]⟩
abbrev S2x4096x4096 : Shape := ⟨3, ![2, 4096, 4096]⟩
abbrev S8x4096 : Shape := ⟨2, ![8, 4096]⟩
abbrev S1088x4096 : Shape := ⟨2, ![1088, 4096]⟩
abbrev S1x4096x512 : Shape := ⟨3, ![1, 4096, 512]⟩
abbrev S1088x512 : Shape := ⟨2, ![1088, 512]⟩
abbrev S8x512 : Shape := ⟨2, ![8, 512]⟩
abbrev S4096x512 : Shape := ⟨2, ![4096, 512]⟩
abbrev S1x512x512 : Shape := ⟨3, ![1, 512, 512]⟩
abbrev S512x512 : Shape := ⟨2, ![512, 512]⟩
abbrev S1088x1 : Shape := ⟨2, ![1088, 1]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8704x4096, .f32⟩
  | .hbm, ⟨3, _⟩ => ⟨S8x4096, .f32⟩
  | .hbm, ⟨4, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1088x512, .f32⟩
  | .local _ .vmem, ⟨5, _⟩ => ⟨S1088x512, .f32⟩
  | .local _ .vmem, ⟨6, _⟩ => ⟨S8x512, .f32⟩
  | .local _ .vmem, ⟨7, _⟩ => ⟨S8x512, .f32⟩
  | .local _ .vmem, ⟨8, _⟩ => ⟨S1088x512, .f32⟩
  | .local _ .vmem, ⟨9, _⟩ => ⟨S1088x512, .f32⟩
  | .local _ .vmem, ⟨10, _⟩ => ⟨S4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1088x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S8704x4096 : Shape := ⟨2, ![8704, 4096]⟩
abbrev S2x4096x4096 : Shape := ⟨3, ![2, 4096, 4096]⟩
abbrev S8x4096 : Shape := ⟨2, ![8, 4096]⟩
abbrev S1x4096x4096 : Shape := ⟨3, ![1, 4096, 4096]⟩
abbrev S4096x4096 : Shape := ⟨2, ![4096, 4096]⟩
abbrev S1x4096 : Shape := ⟨2, ![1, 4096]⟩
abbrev S512x4096 : Shape := ⟨2, ![512, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8704x4096, .f32⟩
  | .hbm, ⟨3, _⟩ => ⟨S8x4096, .f32⟩
  | .hbm, ⟨4, _⟩ => ⟨S8704x4096, .f32⟩
  | .hbm, ⟨5, _⟩ => ⟨S1x4096x4096, .f32⟩
  | .hbm, ⟨6, _⟩ => ⟨S4096x4096, .f32⟩
  | .hbm, ⟨7, _⟩ => ⟨S8704x4096, .f32⟩
  | .hbm, ⟨8, _⟩ => ⟨S1x4096, .f32⟩
  | .hbm, ⟨9, _⟩ => ⟨S4096x4096, .f32⟩
  | .hbm, ⟨10, _⟩ => ⟨S1x4096, .f32⟩
  | .hbm, ⟨11, _⟩ => ⟨S4096x4096, .f32⟩
  | .hbm, ⟨12, _⟩ => ⟨S1x4096, .f32⟩
  | .hbm, ⟨13, _⟩ => ⟨S512x4096, .f32⟩
  | .hbm, ⟨14, _⟩ => ⟨S8704x4096, .f32⟩
  | .hbm, ⟨15, _⟩ => ⟨S8704x4096, .f32⟩
  | .hbm, ⟨16, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== FinalNorm.lean ====
abbrev S8704x4096 : Shape := ⟨2, ![8704, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S8704x4096 : Shape := ⟨2, ![8704, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NbrAttn.lean ====
abbrev S8704x8192 : Shape := ⟨2, ![8704, 8192]⟩
abbrev S16x15x31 : Shape := ⟨3, ![16, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S16x15x64x64 : Shape := ⟨4, ![16, 15, 64, 64]⟩
abbrev S1x1x64x64 : Shape := ⟨4, ![1, 1, 64, 64]⟩
abbrev S16x8x64x64 : Shape := ⟨4, ![16, 8, 64, 64]⟩
abbrev S16x1x8x64x64 : Shape := ⟨5, ![16, 1, 8, 64, 64]⟩
abbrev S16x8x8x64x64 : Shape := ⟨5, ![16, 8, 8, 64, 64]⟩
abbrev S16x8x64x8x64 : Shape := ⟨5, ![16, 8, 64, 8, 64]⟩
abbrev S16x8x64x512 : Shape := ⟨4, ![16, 8, 64, 512]⟩
abbrev S8192x2048 : Shape := ⟨2, ![8192, 2048]⟩
abbrev S4096x128 : Shape := ⟨2, ![4096, 128]⟩
abbrev S512x128 : Shape := ⟨2, ![512, 128]⟩
abbrev S1x8x64x512 : Shape := ⟨4, ![1, 8, 64, 512]⟩
abbrev S1024x512 : Shape := ⟨2, ![1024, 512]⟩
abbrev S256x128 : Shape := ⟨2, ![256, 128]⟩
abbrev S1024x128 : Shape := ⟨2, ![1024, 128]⟩
abbrev S64x128 : Shape := ⟨2, ![64, 128]⟩
abbrev S64x512 : Shape := ⟨2, ![64, 512]⟩
abbrev S1x1x64x512 : Shape := ⟨4, ![1, 1, 64, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 79
  | .vmem => 22
  | .smem => 0
  | _ => 0

abbrev bufTy : (tb : Table) → Fin (tcTables nBuf tb) → BufTy
  | .hbm, ⟨0, _⟩ => ⟨S8704x8192, .bf16⟩
  | .hbm, ⟨1, _⟩ => ⟨S16x15x31, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S1x64, .i32⟩
  | .hbm, ⟨15, _⟩ => ⟨S64x1, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S1x64, .i32⟩
  | .hbm, ⟨20, _⟩ => ⟨S64x1, .i32⟩
  | .hbm, ⟨21, _⟩ => ⟨S_, .i32⟩
  | .hbm, ⟨22, _⟩ => ⟨S64x1, .i32⟩
  | .hbm, ⟨23, _⟩ => ⟨S64x1, .i32⟩
  | .hbm, ⟨24, _⟩ => ⟨S64x64, .i32⟩
  | .hbm, ⟨25, _⟩ => ⟨S64x64, .i32⟩
  | .hbm, ⟨26, _⟩ => ⟨S64x64, .i1⟩
  | .hbm, ⟨27, _⟩ => ⟨S64x64, .i1⟩
  | .hbm, ⟨28, _⟩ => ⟨S1x64, .i32⟩
  | .hbm, ⟨29, _⟩ => ⟨S64x1, .i32⟩
  | .hbm, ⟨30, _⟩ => ⟨S64x64, .i32⟩
  | .hbm, ⟨31, _⟩ => ⟨S64x64, .i32⟩
  | .hbm, ⟨32, _⟩ => ⟨S64x64, .i32⟩
  | .hbm, ⟨33, _⟩ => ⟨S_, .i32⟩
  | .hbm, ⟨34, _⟩ => ⟨S64x64, .i32⟩
  | .hbm, ⟨35, _⟩ => ⟨S64x64, .i32⟩
  | .hbm, ⟨36, _⟩ => ⟨S_, .i32⟩
  | .hbm, ⟨37, _⟩ => ⟨S64x64, .i32⟩
  | .hbm, ⟨38, _⟩ => ⟨S64x64, .i32⟩
  | .hbm, ⟨39, _⟩ => ⟨S1x64x64, .i32⟩
  | .hbm, ⟨40, _⟩ => ⟨S31, .i32⟩
  | .hbm, ⟨41, _⟩ => ⟨S31x1x1, .i32⟩
  | .hbm, ⟨42, _⟩ => ⟨S31x64x64, .i32⟩
  | .hbm, ⟨43, _⟩ => ⟨S31x64x64, .i32⟩
  | .hbm, ⟨44, _⟩ => ⟨S31x64x64, .i1⟩
  | .hbm, ⟨45, _⟩ => ⟨S1x64x64, .i1⟩
  | .hbm, ⟨46, _⟩ => ⟨S31x64x64, .i1⟩
  | .hbm, ⟨47, _⟩ => ⟨S31x64x64, .i1⟩
  | .hbm, ⟨48, _⟩ => ⟨S31x64x64, .f32⟩
  | .hbm, ⟨49, _⟩ => ⟨S16x15x64x64, .f32⟩
  | .hbm, ⟨50, _⟩ => ⟨S_, .f32⟩
  | .hbm, ⟨51, _⟩ => ⟨S_, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S64x64, .f32⟩
  | .hbm, ⟨56, _⟩ => ⟨S1x1x64x64, .f32⟩
  | .hbm, ⟨57, _⟩ => ⟨S16x15x64x64, .f32⟩
  | .hbm, ⟨58, _⟩ => ⟨S16x15x64x64, .f32⟩
  | .hbm, ⟨59, _⟩ => ⟨S16x8x64x64, .f32⟩
  | .hbm, ⟨60, _⟩ => ⟨S16x8x64x64, .f32⟩
  | .hbm, ⟨61, _⟩ => ⟨S16x8x64x64, .f32⟩
  | .hbm, ⟨62, _⟩ => ⟨S16x8x64x64, .f32⟩
  | .hbm, ⟨63, _⟩ => ⟨S16x8x64x64, .f32⟩
  | .hbm, ⟨64, _⟩ => ⟨S16x8x64x64, .f32⟩
  | .hbm, ⟨65, _⟩ => ⟨S16x8x64x64, .f32⟩
  | .hbm, ⟨66, _⟩ => ⟨S16x8x64x64, .f32⟩
  | .hbm, ⟨67, _⟩ => ⟨S16x1x8x64x64, .f32⟩
  | .hbm, ⟨68, _⟩ => ⟨S16x1x8x64x64, .f32⟩
  | .hbm, ⟨69, _⟩ => ⟨S16x1x8x64x64, .f32⟩
  | .hbm, ⟨70, _⟩ => ⟨S16x1x8x64x64, .f32⟩
  | .hbm, ⟨71, _⟩ => ⟨S16x1x8x64x64, .f32⟩
  | .hbm, ⟨72, _⟩ => ⟨S16x1x8x64x64, .f32⟩
  | .hbm, ⟨73, _⟩ => ⟨S16x1x8x64x64, .f32⟩
  | .hbm, ⟨74, _⟩ => ⟨S16x1x8x64x64, .f32⟩
  | .hbm, ⟨75, _⟩ => ⟨S16x8x8x64x64, .f32⟩
  | .hbm, ⟨76, _⟩ => ⟨S16x8x64x8x64, .f32⟩
  | .hbm, ⟨77, _⟩ => ⟨S16x8x64x512, .f32⟩
  | .hbm, ⟨78, _⟩ => ⟨S8192x2048, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S1x8x64x512, .f32⟩
  | .local _ .vmem, ⟨17, _⟩ => ⟨S1x8x64x512, .f32⟩
  | .local _ .vmem, ⟨18, _⟩ => ⟨S4096x128, .bf16⟩
  | .local _ .vmem, ⟨19, _⟩ => ⟨S4096x128, .bf16⟩
  | .local _ .vmem, ⟨20, _⟩ => ⟨S1024x512, .f32⟩
  | .local _ .vmem, ⟨21, _⟩ => ⟨S1024x512, .bf16⟩
  | _, _ => ⟨S8704x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c256_i32 : BitVec 32 := 256#32
  let v3 : BitVec 32 := Scalar.muli arg0 c256_i32
  v3
def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : BitVec 32 := v3
  let v5 : Index := Scalar.indexCast v4
  let c0 : Index := 0#32
  ![v5.toNat, 0]
@[reducible] def k0_t1_loop : Scf.Loop 32 :=
  let c0_i32_1 : BitVec 32 := 0#32
  let c4_i32 : BitVec 32 := 4#32
  let v9 : BitVec 32 := Scalar.addi c0_i32_1 c4_i32
  let c1_i32 : BitVec 32 := 1#32
  ⟨c0_i32_1, v9, c1_i32⟩
def k0_mult2 (k0_t1 : Fin k0_t1_loop.trips) : BitVec 32 :=
  let c0_i32_1 : BitVec 32 := 0#32
  let c1_i32 : BitVec 32 := 1#32
  let arg14 : BitVec 32 := Scf.iv c0_i32_1 c1_i32 k0_t1
  let c1024_i32 : BitVec 32 := 1024#32
  let v10 : BitVec 32 := Scalar.muli arg14 c1024_i32
  v10
def k0_off2 (k0_t1 : Fin k0_t1_loop.trips) : Fin 2 → Nat :=
  let c0_i32_1 : BitVec 32 := 0#32
  let c1_i32 : BitVec 32 := 1#32
  let arg14 : BitVec 32 := Scf.iv c0_i32_1 c1_i32 k0_t1
  let c1024_i32 : BitVec 32 := 1024#32
  let v10 : BitVec 32 := Scalar.muli arg14 c1024_i32
  let v11 : BitVec 32 := v10
  let v12 : Index := Scalar.indexCast v11
  let c0_3 : Index := 0#32
  ![v12.toNat, 0]
def k0_mult3 (k0_t1 : Fin k0_t1_loop.trips) : BitVec 32 :=
  let c56_i32 : BitVec 32 := 56#32
  let c0_i32_6 : BitVec 32 := 0#32
  let c0_i32_1 : BitVec 32 := 0#32
  let c1_i32 : BitVec 32 := 1#32
  let arg14 : BitVec 32 := Scf.iv c0_i32_1 c1_i32 k0_t1
  let c16_i32 : BitVec 32 := 16#32
  let v18 : BitVec 32 := Scalar.muli arg14 c16_i32
  let c0_i32_4 : BitVec 32 := 0#32
  let v19 : BitVec 32 := Scalar.addi v18 c0_i32_4
  let c4_i32_5 : BitVec 32 := 4#32
  let v20 : BitVec 32 := Scalar.subi v19 c4_i32_5
  let v21 : BitVec 32 := Scalar.maxsi c0_i32_6 v20
  let v22 : BitVec 32 := Scalar.minsi c56_i32 v21
  let c64_i32 : BitVec 32 := 64#32
  let v23 : BitVec 32 := Scalar.muli v22 c64_i32
  v23
def k0_off3 (k0_t1 : Fin k0_t1_loop.trips) (c0_i32_4 : BitVec 32) : Fin 2 → Nat :=
  let c56_i32 : BitVec 32 := 56#32
  let c0_i32_6 : BitVec 32 := 0#32
  let c0_i32_1 : BitVec 32 := 0#32
  let c1_i32 : BitVec 32 := 1#32
  let arg14 : BitVec 32 := Scf.iv c0_i32_1 c1_i32 k0_t1
  let c16_i32 : BitVec 32 := 16#32
  let v18 : BitVec 32 := Scalar.muli arg14 c16_i32
  let v19 : BitVec 32 := Scalar.addi v18 c0_i32_4
  let c4_i32_5 : BitVec 32 := 4#32
  let v20 : BitVec 32 := Scalar.subi v19 c4_i32_5
  let v21 : BitVec 32 := Scalar.maxsi c0_i32_6 v20
  let v22 : BitVec 32 := Scalar.minsi c56_i32 v21
  let c64_i32 : BitVec 32 := 64#32
  let v23 : BitVec 32 := Scalar.muli v22 c64_i32
  let v24 : BitVec 32 := v23
  let v26 : Index := Scalar.indexCast v24
  let c0_7 : Index := 0#32
  ![v26.toNat, 0]
def k0_off4 (k0_t1 : Fin k0_t1_loop.trips) (c0_i32_4 : BitVec 32) : Fin 4 → Nat :=
  let c0_9 : Index := 0#32
  let c0_i32_1 : BitVec 32 := 0#32
  let c1_i32 : BitVec 32 := 1#32
  let arg14 : BitVec 32 := Scf.iv c0_i32_1 c1_i32 k0_t1
  let c16_i32 : BitVec 32 := 16#32
  let v18 : BitVec 32 := Scalar.muli arg14 c16_i32
  let v19 : BitVec 32 := Scalar.addi v18 c0_i32_4
  let c56_i32 : BitVec 32 := 56#32
  let c0_i32_6 : BitVec 32 := 0#32
  let c4_i32_5 : BitVec 32 := 4#32
  let v20 : BitVec 32 := Scalar.subi v19 c4_i32_5
  let v21 : BitVec 32 := Scalar.maxsi c0_i32_6 v20
  let v22 : BitVec 32 := Scalar.minsi c56_i32 v21
  let v29 : BitVec 32 := Scalar.subi v19 v22
  let v30 : Index := Scalar.indexCast v29
  let c0_10 : Index := 0#32
  let c0_11 : Index := 0#32
  ![0, v30.toNat, 0, 0]
def k0_mult4 (k0_t1 : Fin k0_t1_loop.trips) : BitVec 32 :=
  let c56_i32_18 : BitVec 32 := 56#32
  let c0_i32_17 : BitVec 32 := 0#32
  let c0_i32_1 : BitVec 32 := 0#32
  let c1_i32 : BitVec 32 := 1#32
  let arg14 : BitVec 32 := Scf.iv c0_i32_1 c1_i32 k0_t1
  let c16_i32_14 : BitVec 32 := 16#32
  let v37 : BitVec 32 := Scalar.muli arg14 c16_i32_14
  let c1_i32_15 : BitVec 32 := 1#32
  let v38 : BitVec 32 := Scalar.addi v37 c1_i32_15
  let c4_i32_16 : BitVec 32 := 4#32
  let v39 : BitVec 32 := Scalar.subi v38 c4_i32_16
  let v40 : BitVec 32 := Scalar.maxsi c0_i32_17 v39
  let v41 : BitVec 32 := Scalar.minsi c56_i32_18 v40
  let c64_i32_19 : BitVec 32 := 64#32
  let v42 : BitVec 32 := Scalar.muli v41 c64_i32_19
  v42
def k0_mult5 (k0_t1 : Fin k0_t1_loop.trips) : BitVec 32 :=
  let c56_i32_30 : BitVec 32 := 56#32
  let c0_i32_29 : BitVec 32 := 0#32
  let c0_i32_1 : BitVec 32 := 0#32
  let c1_i32 : BitVec 32 := 1#32
  let arg14 : BitVec 32 := Scf.iv c0_i32_1 c1_i32 k0_t1
  let c16_i32_26 : BitVec 32 := 16#32
  let v56 : BitVec 32 := Scalar.muli arg14 c16_i32_26
  let c2_i32_27 : BitVec 32 := 2#32
  let v57 : BitVec 32 := Scalar.addi v56 c2_i32_27
  let c4_i32_28 : BitVec 32 := 4#32
  let v58 : BitVec 32 := Scalar.subi v57 c4_i32_28
  let v59 : BitVec 32 := Scalar.maxsi c0_i32_29 v58
  let v60 : BitVec 32 := Scalar.minsi c56_i32_30 v59
  let c64_i32_31 : BitVec 32 := 64#32
  let v61 : BitVec 32 := Scalar.muli v60 c64_i32_31
  v61
def k0_mult6 (k0_t1 : Fin k0_t1_loop.trips) : BitVec 32 :=
  let c56_i32_41 : BitVec 32 := 56#32
  let c0_i32_40 : BitVec 32 := 0#32
  let c0_i32_1 : BitVec 32 := 0#32
  let c1_i32 : BitVec 32 := 1#32
  let arg14 : BitVec 32 := Scf.iv c0_i32_1 c1_i32 k0_t1
  let c16_i32_38 : BitVec 32 := 16#32
  let v75 : BitVec 32 := Scalar.muli arg14 c16_i32_38
  let c3_i32 : BitVec 32 := 3#32
  let v76 : BitVec 32 := Scalar.addi v75 c3_i32
  let c4_i32_39 : BitVec 32 := 4#32
  let v77 : BitVec 32 := Scalar.subi v76 c4_i32_39
  let v78 : BitVec 32 := Scalar.maxsi c0_i32_40 v77
  let v79 : BitVec 32 := Scalar.minsi c56_i32_41 v78
  let c64_i32_42 : BitVec 32 := 64#32
  let v80 : BitVec 32 := Scalar.muli v79 c64_i32_42
  v80
def k0_mult7 (k0_t1 : Fin k0_t1_loop.trips) : BitVec 32 :=
  let c56_i32_53 : BitVec 32 := 56#32
  let c0_i32_52 : BitVec 32 := 0#32
  let c0_i32_1 : BitVec 32 := 0#32
  let c1_i32 : BitVec 32 := 1#32
  let arg14 : BitVec 32 := Scf.iv c0_i32_1 c1_i32 k0_t1
  let c16_i32_49 : BitVec 32 := 16#32
  let v94 : BitVec 32 := Scalar.muli arg14 c16_i32_49
  let c4_i32_50 : BitVec 32 := 4#32
  let v95 : BitVec 32 := Scalar.addi v94 c4_i32_50
  let c4_i32_51 : BitVec 32 := 4#32
  let v96 : BitVec 32 := Scalar.subi v95 c4_i32_51
  let v97 : BitVec 32 := Scalar.maxsi c0_i32_52 v96
  let v98 : BitVec 32 := Scalar.minsi c56_i32_53 v97
  let c64_i32_54 : BitVec 32 := 64#32
  let v99 : BitVec 32 := Scalar.muli v98 c64_i32_54
  v99
def k0_mult8 (k0_t1 : Fin k0_t1_loop.trips) : BitVec 32 :=
  let c56_i32_64 : BitVec 32 := 56#32
  let c0_i32_63 : BitVec 32 := 0#32
  let c0_i32_1 : BitVec 32 := 0#32
  let c1_i32 : BitVec 32 := 1#32
  let arg14 : BitVec 32 := Scf.iv c0_i32_1 c1_i32 k0_t1
  let c16_i32_61 : BitVec 32 := 16#32
  let v113 : BitVec 32 := Scalar.muli arg14 c16_i32_61
  let c5_i32 : BitVec 32 := 5#32
  let v114 : BitVec 32 := Scalar.addi v113 c5_i32
  let c4_i32_62 : BitVec 32 := 4#32
  let v115 : BitVec 32 := Scalar.subi v114 c4_i32_62
  let v116 : BitVec 32 := Scalar.maxsi c0_i32_63 v115
  let v117 : BitVec 32 := Scalar.minsi c56_i32_64 v116
  let c64_i32_65 : BitVec 32 := 64#32
  let v118 : BitVec 32 := Scalar.muli v117 c64_i32_65
  v118
def k0_mult9 (k0_t1 : Fin k0_t1_loop.trips) : BitVec 32 :=
  let c56_i32_75 : BitVec 32 := 56#32
  let c0_i32_74 : BitVec 32 := 0#32
  let c0_i32_1 : BitVec 32 := 0#32
  let c1_i32 : BitVec 32 := 1#32
  let arg14 : BitVec 32 := Scf.iv c0_i32_1 c1_i32 k0_t1
  let c16_i32_72 : BitVec 32 := 16#32
  let v132 : BitVec 32 := Scalar.muli arg14 c16_i32_72
  let c6_i32 : BitVec 32 := 6#32
  let v133 : BitVec 32 := Scalar.addi v132 c6_i32
  let c4_i32_73 : BitVec 32 := 4#32
  let v134 : BitVec 32 := Scalar.subi v133 c4_i32_73
  let v135 : BitVec 32 := Scalar.maxsi c0_i32_74 v134
  let v136 : BitVec 32 := Scalar.minsi c56_i32_75 v135
  let c64_i32_76 : BitVec 32 := 64#32
  let v137 : BitVec 32 := Scalar.muli v136 c64_i32_76
  v137
def k0_mult10 (k0_t1 : Fin k0_t1_loop.trips) : BitVec 32 :=
  let c56_i32_86 : BitVec 32 := 56#32
  let c0_i32_85 : BitVec 32 := 0#32
  let c0_i32_1 : BitVec 32 := 0#32
  let c1_i32 : BitVec 32 := 1#32
  let arg14 : BitVec 32 := Scf.iv c0_i32_1 c1_i32 k0_t1
  let c16_i32_83 : BitVec 32 := 16#32
  let v151 : BitVec 32 := Scalar.muli arg14 c16_i32_83
  let c7_i32 : BitVec 32 := 7#32
  let v152 : BitVec 32 := Scalar.addi v151 c7_i32
  let c4_i32_84 : BitVec 32 := 4#32
  let v153 : BitVec 32 := Scalar.subi v152 c4_i32_84
  let v154 : BitVec 32 := Scalar.maxsi c0_i32_85 v153
  let v155 : BitVec 32 := Scalar.minsi c56_i32_86 v154
  let c64_i32_87 : BitVec 32 := 64#32
  let v156 : BitVec 32 := Scalar.muli v155 c64_i32_87
  v156
def k0_mult11 (k0_t1 : Fin k0_t1_loop.trips) : BitVec 32 :=
  let c56_i32_97 : BitVec 32 := 56#32
  let c0_i32_96 : BitVec 32 := 0#32
  let c0_i32_1 : BitVec 32 := 0#32
  let c1_i32 : BitVec 32 := 1#32
  let arg14 : BitVec 32 := Scf.iv c0_i32_1 c1_i32 k0_t1
  let c16_i32_94 : BitVec 32 := 16#32
  let v170 : BitVec 32 := Scalar.muli arg14 c16_i32_94
  let c8_i32 : BitVec 32 := 8#32
  let v171 : BitVec 32 := Scalar.addi v170 c8_i32
  let c4_i32_95 : BitVec 32 := 4#32
  let v172 : BitVec 32 := Scalar.subi v171 c4_i32_95
  let v173 : BitVec 32 := Scalar.maxsi c0_i32_96 v172
  let v174 : BitVec 32 := Scalar.minsi c56_i32_97 v173
  let c64_i32_98 : BitVec 32 := 64#32
  let v175 : BitVec 32 := Scalar.muli v174 c64_i32_98
  v175
def k0_mult12 (k0_t1 : Fin k0_t1_loop.trips) : BitVec 32 :=
  let c56_i32_108 : BitVec 32 := 56#32
  let c0_i32_107 : BitVec 32 := 0#32
  let c0_i32_1 : BitVec 32 := 0#32
  let c1_i32 : BitVec 32 := 1#32
  let arg14 : BitVec 32 := Scf.iv c0_i32_1 c1_i32 k0_t1
  let c16_i32_105 : BitVec 32 := 16#32
  let v189 : BitVec 32 := Scalar.muli arg14 c16_i32_105
  let c9_i32 : BitVec 32 := 9#32
  let v190 : BitVec 32 := Scalar.addi v189 c9_i32
  let c4_i32_106 : BitVec 32 := 4#32
  let v191 : BitVec 32 := Scalar.subi v190 c4_i32_106
  let v192 : BitVec 32 := Scalar.maxsi c0_i32_107 v191
  let v193 : BitVec 32 := Scalar.minsi c56_i32_108 v192
  let c64_i32_109 : BitVec 32 := 64#32
  let v194 : BitVec 32 := Scalar.muli v193 c64_i32_109
  v194
def k0_mult13 (k0_t1 : Fin k0_t1_loop.trips) : BitVec 32 :=
  let c56_i32_119 : BitVec 32 := 56#32
  let c0_i32_118 : BitVec 32 := 0#32
  let c0_i32_1 : BitVec 32 := 0#32
  let c1_i32 : BitVec 32 := 1#32
  let arg14 : BitVec 32 := Scf.iv c0_i32_1 c1_i32 k0_t1
  let c16_i32_116 : BitVec 32 := 16#32
  let v208 : BitVec 32 := Scalar.muli arg14 c16_i32_116
  let c10_i32 : BitVec 32 := 10#32
  let v209 : BitVec 32 := Scalar.addi v208 c10_i32
  let c4_i32_117 : BitVec 32 := 4#32
  let v210 : BitVec 32 := Scalar.subi v209 c4_i32_117
  let v211 : BitVec 32 := Scalar.maxsi c0_i32_118 v210
  let v212 : BitVec 32 := Scalar.minsi c56_i32_119 v211
  let c64_i32_120 : BitVec 32 := 64#32
  let v213 : BitVec 32 := Scalar.muli v212 c64_i32_120
  v213
def k0_mult14 (k0_t1 : Fin k0_t1_loop.trips) : BitVec 32 :=
  let c56_i32_130 : BitVec 32 := 56#32
  let c0_i32_129 : BitVec 32 := 0#32
  let c0_i32_1 : BitVec 32 := 0#32
  let c1_i32 : BitVec 32 := 1#32
  let arg14 : BitVec 32 := Scf.iv c0_i32_1 c1_i32 k0_t1
  let c16_i32_127 : BitVec 32 := 16#32
  let v227 : BitVec 32 := Scalar.muli arg14 c16_i32_127
  let c11_i32 : BitVec 32 := 11#32
  let v228 : BitVec 32 := Scalar.addi v227 c11_i32
  let c4_i32_128 : BitVec 32 := 4#32
  let v229 : BitVec 32 := Scalar.subi v228 c4_i32_128
  let v230 : BitVec 32 := Scalar.maxsi c0_i32_129 v229
  let v231 : BitVec 32 := Scalar.minsi c56_i32_130 v230
  let c64_i32_131 : BitVec 32 := 64#32
  let v232 : BitVec 32 := Scalar.muli v231 c64_i32_131
  v232
def k0_mult15 (k0_t1 : Fin k0_t1_loop.trips) : BitVec 32 :=
  let c56_i32_141 : BitVec 32 := 56#32
  let c0_i32_140 : BitVec 32 := 0#32
  let c0_i32_1 : BitVec 32 := 0#32
  let c1_i32 : BitVec 32 := 1#32
  let arg14 : BitVec 32 := Scf.iv c0_i32_1 c1_i32 k0_t1
  let c16_i32_138 : BitVec 32 := 16#32
  let v246 : BitVec 32 := Scalar.muli arg14 c16_i32_138
  let c12_i32 : BitVec 32 := 12#32
  let v247 : BitVec 32 := Scalar.addi v246 c12_i32
  let c4_i32_139 : BitVec 32 := 4#32
  let v248 : BitVec 32 := Scalar.subi v247 c4_i32_139
  let v249 : BitVec 32 := Scalar.maxsi c0_i32_140 v248
  let v250 : BitVec 32 := Scalar.minsi c56_i32_141 v249
  let c64_i32_142 : BitVec 32 := 64#32
  let v251 : BitVec 32 := Scalar.muli v250 c64_i32_142
  v251
def k0_mult16 (k0_t1 : Fin k0_t1_loop.trips) : BitVec 32 :=
  let c56_i32_152 : BitVec 32 := 56#32
  let c0_i32_151 : BitVec 32 := 0#32
  let c0_i32_1 : BitVec 32 := 0#32
  let c1_i32 : BitVec 32 := 1#32
  let arg14 : BitVec 32 := Scf.iv c0_i32_1 c1_i32 k0_t1
  let c16_i32_149 : BitVec 32 := 16#32
  let v265 : BitVec 32 := Scalar.muli arg14 c16_i32_149
  let c13_i32 : BitVec 32 := 13#32
  let v266 : BitVec 32 := Scalar.addi v265 c13_i32
  let c4_i32_150 : BitVec 32 := 4#32
  let v267 : BitVec 32 := Scalar.subi v266 c4_i32_150
  let v268 : BitVec 32 := Scalar.maxsi c0_i32_151 v267
  let v269 : BitVec 32 := Scalar.minsi c56_i32_152 v268
  let c64_i32_153 : BitVec 32 := 64#32
  let v270 : BitVec 32 := Scalar.muli v269 c64_i32_153
  v270
def k0_mult17 (k0_t1 : Fin k0_t1_loop.trips) : BitVec 32 :=
  let c56_i32_163 : BitVec 32 := 56#32
  let c0_i32_162 : BitVec 32 := 0#32
  let c0_i32_1 : BitVec 32 := 0#32
  let c1_i32 : BitVec 32 := 1#32
  let arg14 : BitVec 32 := Scf.iv c0_i32_1 c1_i32 k0_t1
  let c16_i32_160 : BitVec 32 := 16#32
  let v284 : BitVec 32 := Scalar.muli arg14 c16_i32_160
  let c14_i32 : BitVec 32 := 14#32
  let v285 : BitVec 32 := Scalar.addi v284 c14_i32
  let c4_i32_161 : BitVec 32 := 4#32
  let v286 : BitVec 32 := Scalar.subi v285 c4_i32_161
  let v287 : BitVec 32 := Scalar.maxsi c0_i32_162 v286
  let v288 : BitVec 32 := Scalar.minsi c56_i32_163 v287
  let c64_i32_164 : BitVec 32 := 64#32
  let v289 : BitVec 32 := Scalar.muli v288 c64_i32_164
  v289
def k0_mult18 (k0_t1 : Fin k0_t1_loop.trips) : BitVec 32 :=
  let c56_i32_174 : BitVec 32 := 56#32
  let c0_i32_173 : BitVec 32 := 0#32
  let c0_i32_1 : BitVec 32 := 0#32
  let c1_i32 : BitVec 32 := 1#32
  let arg14 : BitVec 32 := Scf.iv c0_i32_1 c1_i32 k0_t1
  let c16_i32_171 : BitVec 32 := 16#32
  let v303 : BitVec 32 := Scalar.muli arg14 c16_i32_171
  let c15_i32 : BitVec 32 := 15#32
  let v304 : BitVec 32 := Scalar.addi v303 c15_i32
  let c4_i32_172 : BitVec 32 := 4#32
  let v305 : BitVec 32 := Scalar.subi v304 c4_i32_172
  let v306 : BitVec 32 := Scalar.maxsi c0_i32_173 v305
  let v307 : BitVec 32 := Scalar.minsi c56_i32_174 v306
  let c64_i32_175 : BitVec 32 := 64#32
  let v308 : BitVec 32 := Scalar.muli v307 c64_i32_175
  v308
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c0_i32 : BitVec 32 := 0#32
  let v1 : BitVec 32 := Scalar.addi c0_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c16_i32 : BitVec 32 := 16#32
  let v1 : BitVec 32 := Scalar.addi c16_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c32_i32 : BitVec 32 := 32#32
  let v1 : BitVec 32 := Scalar.addi c32_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg0 c1_i32
  let c48_i32 : BitVec 32 := 48#32
  let v1 : BitVec 32 := Scalar.addi c48_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c16_i32 : BitVec 32 := 16#32
  let c0_i32_0 : BitVec 32 := 0#32
  ![c16_i32.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c16_i32_0 : BitVec 32 := 16#32
  let c0_i32 : BitVec 32 := 0#32
  ![c16_i32_0.toNat, v0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c16_i32 : BitVec 32 := 16#32
  let c0_i32 : BitVec 32 := 0#32
  ![c16_i32.toNat, v0.toNat]

def cc0_transform_7 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c16_i32 : BitVec 32 := 16#32
  let c0_i32 : BitVec 32 := 0#32
  ![c16_i32.toNat, v0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x8x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== NbrAttnRefIdeal.lean ====
abbrev S8704x8192 : Shape := ⟨2, ![8704, 8192]⟩
abbrev S16x15x31 : Shape := ⟨3, ![16, 15, 31]⟩
abbrev S8192x8192 : Shape := ⟨2, ![8192, 8192]⟩
abbrev S2x4096x8192 : Shape := ⟨3, ![2, 4096, 8192]⟩
abbrev S512x8192 : Shape := ⟨2, ![512, 8192]⟩
abbrev S2x256x8192 : Shape := ⟨3, ![2, 256, 8192]⟩
abbrev S2x4096x2048 : Shape := ⟨3, ![2, 4096, 2048]⟩
abbrev S2x256x2048 : Shape := ⟨3, ![2, 256, 2048]⟩
abbrev S2x256x16x128 : Shape := ⟨4, ![2, 256, 16, 128]⟩
abbrev S2x64x64x16x128 : Shape := ⟨5, ![2, 64, 64, 16, 128]⟩
abbrev S64 : Shape := ⟨1, ![64]⟩
abbrev S_ : Shape := ⟨0, ![]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S8 : Shape := ⟨1, ![8]⟩
abbrev S1x8 : Shape := ⟨2, ![1, 8]⟩
abbrev S64x8 : Shape := ⟨2, ![64, 8]⟩
abbrev S64x1x8x1 : Shape := ⟨4, ![64, 1, 8, 1]⟩
abbrev S1x64x1x16 : Shape := ⟨4, ![1, 64, 1, 16]⟩
abbrev S64x64x8x16 : Shape := ⟨4, ![64, 64, 8, 16]⟩
abbrev S64x64x8x16x1 : Shape := ⟨5, ![64, 64, 8, 16, 1]⟩
abbrev S64x64x8x16x2 : Shape := ⟨5, ![64, 64, 8, 16, 2]⟩
abbrev S2x64x64x8x16x16x128 : Shape := ⟨7, ![2, 64, 64, 8, 16, 16, 128]⟩
abbrev S16x64x64x8x16 : Shape := ⟨5, ![16, 64, 64, 8, 16]⟩
abbrev S2x16x64x64x8x16 : Shape := ⟨6, ![2, 16, 64, 64, 8, 16]⟩
abbrev S1x16x64x64x8x16 : Shape := ⟨6, ![1, 16, 64, 64, 8, 16]⟩
abbrev S2x16x64x64x128 : Shape := ⟨5, ![2, 16, 64, 64, 128]⟩
abbrev S2x16x64x64x256 : Shape := ⟨5, ![2, 16, 64, 64, 256]⟩
abbrev S2x16x64x64x384 : Shape := ⟨5, ![2, 16, 64, 64, 384]⟩
abbrev S2x16x64x64 : Shape := ⟨4, ![2, 16, 64, 64]⟩
abbrev S2x16x64x64x1 : Shape := ⟨5, ![2, 16, 64, 64, 1]⟩
abbrev S2x16x128x64x64 : Shape := ⟨5, ![2, 16, 128, 64, 64]⟩
abbrev S8192x2048 : Shape := ⟨2, ![8192, 2048]⟩

abbrev nBuf : Space → Nat
  | .hbm => 185
  | .vmem => 0
  | .smem => 0
  | _ => 0

abbrev hbmTy0_0 (i : Nat) : BufTy := match i % 128 with
  | 0 => ⟨S8704x8192, .bf16⟩
  | 1 => ⟨S16x15x31, .f32⟩
  | 2 => ⟨S8704x8192, .f32⟩
  | 3 => ⟨S8192x8192, .f32⟩
  | 4 => ⟨S2x4096x8192, .f32⟩
  | 5 => ⟨S512x8192, .f32⟩
  | 6 => ⟨S2x256x8192, .f32⟩
  | 7 => ⟨S2x4096x2048, .f32⟩
  | 8 => ⟨S2x4096x2048, .f32⟩
  | 9 => ⟨S2x4096x2048, .f32⟩
  | 10 => ⟨S2x4096x2048, .f32⟩
  | 11 => ⟨S2x256x2048, .f32⟩
  | 12 => ⟨S2x256x16x128, .f32⟩
  | 13 => ⟨S2x256x2048, .f32⟩
  | 14 => ⟨S2x256x16x128, .f32⟩
  | 15 => ⟨S2x64x64x16x128, .f32⟩
  | 16 => ⟨S2x64x64x16x128, .f32⟩
  | 17 => ⟨S2x64x64x16x128, .f32⟩
  | 18 => ⟨S64, .i32⟩
  | 19 => ⟨S_, .i32⟩
  | 20 => ⟨S64, .i32⟩
  | 21 => ⟨S64, .i32⟩
  | 22 => ⟨S_, .i32⟩
  | 23 => ⟨S_, .i32⟩
  | 24 => ⟨S_, .i32⟩
  | 25 => ⟨S64, .i32⟩
  | 26 => ⟨S64, .i32⟩
  | 27 => ⟨S_, .i32⟩
  | 28 => ⟨S64, .i32⟩
  | 29 => ⟨S64, .i32⟩
  | 30 => ⟨S64x1, .i32⟩
  | 31 => ⟨S16, .i32⟩
  | 32 => ⟨S1x16, .i32⟩
  | 33 => ⟨S64x16, .i32⟩
  | 34 => ⟨S64x16, .i32⟩
  | 35 => ⟨S64x16, .i32⟩
  | 36 => ⟨S64x1, .i32⟩
  | 37 => ⟨S64x16, .i32⟩
  | 38 => ⟨S64x16, .i32⟩
  | 39 => ⟨S64, .i32⟩
  | 40 => ⟨S_, .i32⟩
  | 41 => ⟨S64, .i32⟩
  | 42 => ⟨S64, .i32⟩
  | 43 => ⟨S_, .i32⟩
  | 44 => ⟨S_, .i32⟩
  | 45 => ⟨S_, .i32⟩
  | 46 => ⟨S64, .i32⟩
  | 47 => ⟨S64, .i32⟩
  | 48 => ⟨S_, .i32⟩
  | 49 => ⟨S64, .i32⟩
  | 50 => ⟨S64, .i32⟩
  | 51 => ⟨S64x1, .i32⟩
  | 52 => ⟨S8, .i32⟩
  | 53 => ⟨S1x8, .i32⟩
  | 54 => ⟨S64x8, .i32⟩
  | 55 => ⟨S64x8, .i32⟩
  | 56 => ⟨S64x8, .i32⟩
  | 57 => ⟨S64x1, .i32⟩
  | 58 => ⟨S64x8, .i32⟩
  | 59 => ⟨S64x8, .i32⟩
  | 60 => ⟨S64x1x8x1, .i32⟩
  | 61 => ⟨S1x64x1x16, .i32⟩
  | 62 => ⟨S_, .i32⟩
  | 63 => ⟨S64x1x8x1, .i32⟩
  | 64 => ⟨S64x1x8x1, .i1⟩
  | 65 => ⟨S_, .i32⟩
  | 66 => ⟨S64x1x8x1, .i32⟩
  | 67 => ⟨S64x1x8x1, .i32⟩
  | 68 => ⟨S64x1x8x1, .i32⟩
  | 69 => ⟨S_, .i32⟩
  | 70 => ⟨S1x64x1x16, .i32⟩
  | 71 => ⟨S1x64x1x16, .i1⟩
  | 72 => ⟨S_, .i32⟩
  | 73 => ⟨S1x64x1x16, .i32⟩
  | 74 => ⟨S1x64x1x16, .i32⟩
  | 75 => ⟨S1x64x1x16, .i32⟩
  | 76 => ⟨S64x64x8x16, .i32⟩
  | 77 => ⟨S64x64x8x16, .i32⟩
  | 78 => ⟨S64x64x8x16x1, .i32⟩
  | 79 => ⟨S64x64x8x16x1, .i32⟩
  | 80 => ⟨S64x64x8x16x2, .i32⟩
  | 81 => ⟨S2x64x64x8x16x16x128, .f32⟩
  | 82 => ⟨S64x1x8x1, .i32⟩
  | 83 => ⟨S1x64x1x16, .i32⟩
  | 84 => ⟨S_, .i32⟩
  | 85 => ⟨S64x1x8x1, .i32⟩
  | 86 => ⟨S64x1x8x1, .i1⟩
  | 87 => ⟨S_, .i32⟩
  | 88 => ⟨S64x1x8x1, .i32⟩
  | 89 => ⟨S64x1x8x1, .i32⟩
  | 90 => ⟨S64x1x8x1, .i32⟩
  | 91 => ⟨S_, .i32⟩
  | 92 => ⟨S1x64x1x16, .i32⟩
  | 93 => ⟨S1x64x1x16, .i1⟩
  | 94 => ⟨S_, .i32⟩
  | 95 => ⟨S1x64x1x16, .i32⟩
  | 96 => ⟨S1x64x1x16, .i32⟩
  | 97 => ⟨S1x64x1x16, .i32⟩
  | 98 => ⟨S64x64x8x16, .i32⟩
  | 99 => ⟨S64x64x8x16, .i32⟩
  | 100 => ⟨S64x64x8x16x1, .i32⟩
  | 101 => ⟨S64x64x8x16x1, .i32⟩
  | 102 => ⟨S64x64x8x16x2, .i32⟩
  | 103 => ⟨S2x64x64x8x16x16x128, .f32⟩
  | 104 => ⟨S64x1x8x1, .i32⟩
  | 105 => ⟨S_, .i32⟩
  | 106 => ⟨S64x1x8x1, .i32⟩
  | 107 => ⟨S64x1x8x1, .i32⟩
  | 108 => ⟨S_, .i32⟩
  | 109 => ⟨S64x1x8x1, .i32⟩
  | 110 => ⟨S64x1x8x1, .i32⟩
  | 111 => ⟨S1x64x1x16, .i32⟩
  | 112 => ⟨S_, .i32⟩
  | 113 => ⟨S1x64x1x16, .i32⟩
  | 114 => ⟨S1x64x1x16, .i32⟩
  | 115 => ⟨S_, .i32⟩
  | 116 => ⟨S1x64x1x16, .i32⟩
  | 117 => ⟨S1x64x1x16, .i32⟩
  | 118 => ⟨S_, .i32⟩
  | 119 => ⟨S64x1x8x1, .i32⟩
  | 120 => ⟨S64x1x8x1, .i1⟩
  | 121 => ⟨S_, .i32⟩
  | 122 => ⟨S64x1x8x1, .i32⟩
  | 123 => ⟨S64x1x8x1, .i32⟩
  | 124 => ⟨S64x1x8x1, .i32⟩
  | 125 => ⟨S_, .i32⟩
  | 126 => ⟨S1x64x1x16, .i32⟩
  | 127 => ⟨S1x64x1x16, .i1⟩
  | _ => ⟨S8704x8192, .bf16⟩

abbrev hbmTy0_1 (i : Nat) : BufTy := match i % 128 with
  | 0 => ⟨S_, .i32⟩
  | 1 => ⟨S1x64x1x16, .i32⟩
  | 2 => ⟨S1x64x1x16, .i32⟩
  | 3 => ⟨S1x64x1x16, .i32⟩
  | 4 => ⟨S64x64x8x16, .i32⟩
  | 5 => ⟨S64x64x8x16, .i32⟩
  | 6 => ⟨S64x64x8x16x1, .i32⟩
  | 7 => ⟨S64x64x8x16x1, .i32⟩
  | 8 => ⟨S64x64x8x16x2, .i32⟩
  | 9 => ⟨S16x64x64x8x16, .f32⟩
  | 10 => ⟨S2x16x64x64x8x16, .f32⟩
  | 11 => ⟨S_, .f32⟩
  | 12 => ⟨S2x16x64x64x8x16, .f32⟩
  | 13 => ⟨S2x16x64x64x8x16, .f32⟩
  | 14 => ⟨S1x16x64x64x8x16, .f32⟩
  | 15 => ⟨S2x16x64x64x8x16, .f32⟩
  | 16 => ⟨S2x16x64x64x8x16, .f32⟩
  | 17 => ⟨S2x16x64x64x128, .f32⟩
  | 18 => ⟨S2x16x64x64x256, .f32⟩
  | 19 => ⟨S_, .f32⟩
  | 20 => ⟨S2x16x64x64x256, .f32⟩
  | 21 => ⟨S2x16x64x64x256, .f32⟩
  | 22 => ⟨S2x16x64x64x384, .f32⟩
  | 23 => ⟨S_, .f32⟩
  | 24 => ⟨S2x16x64x64, .f32⟩
  | 25 => ⟨S_, .f32⟩
  | 26 => ⟨S2x16x64x64, .f32⟩
  | 27 => ⟨S2x16x64x64, .f32⟩
  | 28 => ⟨S2x16x64x64x1, .f32⟩
  | 29 => ⟨S2x16x64x64x384, .f32⟩
  | 30 => ⟨S2x16x64x64x384, .f32⟩
  | 31 => ⟨S2x16x64x64x384, .f32⟩
  | 32 => ⟨S_, .f32⟩
  | 33 => ⟨S2x16x64x64, .f32⟩
  | 34 => ⟨S2x16x64x64x1, .f32⟩
  | 35 => ⟨S2x16x64x64x384, .f32⟩
  | 36 => ⟨S2x16x64x64x384, .f32⟩
  | 37 => ⟨S2x16x64x64x128, .f32⟩
  | 38 => ⟨S2x16x64x64x8x16, .f32⟩
  | 39 => ⟨S2x16x64x64x256, .f32⟩
  | 40 => ⟨S2x64x64x16x128, .f32⟩
  | 41 => ⟨S2x16x128x64x64, .f32⟩
  | 42 => ⟨S2x64x64x16x128, .f32⟩
  | 43 => ⟨S2x64x64x16x128, .f32⟩
  | 44 => ⟨S2x4096x2048, .f32⟩
  | 45 => ⟨S2x4096x2048, .f32⟩
  | 46 => ⟨S2x4096x2048, .f32⟩
  | 47 => ⟨S_, .f32⟩
  | 48 => ⟨S2x4096x2048, .f32⟩
  | 49 => ⟨S2x4096x2048, .f32⟩
  | 50 => ⟨S_, .f32⟩
  | 51 => ⟨S2x4096x2048, .f32⟩
  | 52 => ⟨S2x4096x2048, .f32⟩
  | 53 => ⟨S2x4096x2048, .f32⟩
  | 54 => ⟨S2x4096x2048, .f32⟩
  | 55 => ⟨S8192x2048, .f32⟩
  | 56 => ⟨S8192x2048, .bf16⟩
  | _ => ⟨S8704x8192, .bf16⟩

abbrev hbmTy (i : Nat) : BufTy := match i / 128 with
  | 0 => hbmTy0_0 i
  | 1 => hbmTy0_1 i
  | _ => ⟨S8704x8192, .bf16⟩

abbrev bufTy : (tb : Table) → Fin (tcTables nBuf tb) → BufTy
  | .hbm, ⟨i, _⟩ => hbmTy i
  | _, _ => ⟨S8704x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_2 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_c_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_5 : Ref sig .tc := ⟨.hbm, 62, rfl⟩
abbrev main_v44 : Ref sig .tc := ⟨.hbm, 63, rfl⟩
abbrev main_v45 : Ref sig .tc := ⟨.hbm, 64, rfl⟩
abbrev main_c_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_c_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_9 : Ref sig .tc := ⟨.hbm, 84, rfl⟩
abbrev main_v62 : Ref sig .tc := ⟨.hbm, 85, rfl⟩
abbrev main_v63 : Ref sig .tc := ⟨.hbm, 86, rfl⟩
abbrev main_c_10 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_11 : Ref sig .tc := ⟨.hbm, 91, rfl⟩
abbrev main_v67 : Ref sig .tc := ⟨.hbm, 92, rfl⟩
abbrev main_v68 : Ref sig .tc := ⟨.hbm, 93, rfl⟩
abbrev main_c_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_13 : Ref sig .tc := ⟨.hbm, 105, rfl⟩
abbrev main_v79 : Ref sig .tc := ⟨.hbm, 106, rfl⟩
abbrev main_v80 : Ref sig .tc := ⟨.hbm, 107, rfl⟩
abbrev main_c_14 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_15 : Ref sig .tc := ⟨.hbm, 112, rfl⟩
abbrev main_v84 : Ref sig .tc := ⟨.hbm, 113, rfl⟩
abbrev main_v85 : Ref sig .tc := ⟨.hbm, 114, rfl⟩
abbrev main_c_16 : Ref sig .tc := ⟨.hbm, 115, rfl⟩
abbrev main_v86 : Ref sig .tc := ⟨.hbm, 116, rfl⟩
abbrev main_v87 : Ref sig .tc := ⟨.hbm, 117, rfl⟩
abbrev main_c_17 : Ref sig .tc := ⟨.hbm, 118, rfl⟩
abbrev main_v88 : Ref sig .tc := ⟨.hbm, 119, rfl⟩
abbrev main_v89 : Ref sig .tc := ⟨.hbm, 120, rfl⟩
abbrev main_c_18 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_19 : Ref sig .tc := ⟨.hbm, 125, rfl⟩
abbrev main_v93 : Ref sig .tc := ⟨.hbm, 126, rfl⟩
abbrev main_v94 : Ref sig .tc := ⟨.hbm, 127, rfl⟩
abbrev main_c_20 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_21 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_22 : Ref sig .tc := ⟨.hbm, 151, rfl⟩
abbrev main_v115 : Ref sig .tc := ⟨.hbm, 152, rfl⟩
abbrev main_cst_23 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_24 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_call2_v0 : Ref sig .tc := ⟨.hbm, 173, rfl⟩
abbrev main_call2_v1 : Ref sig .tc := ⟨.hbm, 174, rfl⟩
abbrev main_call2_cst : Ref sig .tc := ⟨.hbm, 175, rfl⟩
abbrev main_call2_v2 : Ref sig .tc := ⟨.hbm, 176, rfl⟩
abbrev main_call2_v3 : Ref sig .tc := ⟨.hbm, 177, rfl⟩
abbrev main_call2_cst_0 : Ref sig .tc := ⟨.hbm, 178, rfl⟩
abbrev main_call2_v4 : Ref sig .tc := ⟨.hbm, 179, rfl⟩
abbrev main_call2_v5 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩

abbrev nD : Nat := 1
abbrev τ : Topo := Topo.v7x

variable {F : FTy → Type} [FloatOps F]
-- ==== Proof.InProjC.lean ====
/- The input projection of the neighbourhood attention branch: the product that the kernel leaves, tile by tile, is the
   reference's whole product restricted to the branch's columns. -/
module

public import proofs.«01_k».proof.Defs
public import proofs.«01_k».proof.Proof.Gen.InProjCIdeal.Value
public import proofs.«01_k».proof.Proof.Gen.InProjCRefIdeal.Run
public import Idealize.ShloMosaic.Lib.Pointwise
public import Idealize.ShloMosaic.Lib.Quiescent
public import Idealize.ShloMosaic.Lib.Tactic
public import Idealize.ShloMosaic.Lib.Tactic.ValueTie

@[expose] public section

noncomputable section

namespace Cert.InProjCIdeal.Value

open Cert.InProjCIdeal Cert.InProjCIdeal.Gen Idealize.ShloMosaic Idealize.ShloMosaic.TcCoe Idealize.SL.Sem

theorem hz2 : (![0, 0] : Fin 2 → Nat) = fun _ => 0 := funext fun a => by fin_cases a <;> rfl

variable (m : (ℓ : Loc nD τ sig) → Buf (Elt Ideal) ℓ)

/-- The rounded copy of a weight tile: over the extended reals the tile itself, without its leading axis. -/
def tile (w : Vec Ideal S1x512x4096 .f32) : Vec Ideal S512x4096 .bf16 := fun j => w (ix3 (0 : Fin 1) (j 0) (j 1))

/-- A group of 128 rows of the tile, rounded: row `p` of the group that begins at row `b` is row `b + p` of the tile. -/
theorem rows_eq (w : Vec Ideal S1x512x4096 .f32) (b : Nat) (inb : ∀ a, (![b, 0] : Fin 2 → Nat) a + (![128, 4096] : Fin 2 → Nat) a ≤ S512x4096.size a)
    (inb' : ∀ a, (![0, b, 0] : Fin 3 → Nat) a + (![1, 128, 4096] : Fin 3 → Nat) a ≤ S1x512x4096.size a)
    (x : (Rect.unit (s := S512x4096) ![b, 0] ![128, 4096] inb).shape.Idx) :
    k0_pay1 (F := Ideal) (View.ld w (Rect.unit ![0, b, 0] ![1, 128, 4096] inb')) x = tile w ((Rect.unit ![b, 0] ![128, 4096] inb).emb x) := by
  have e : k0_pay1 (F := Ideal) (View.ld w (Rect.unit ![0, b, 0] ![1, 128, 4096] inb')) x =
      View.ld w (Rect.unit ![0, b, 0] ![1, 128, 4096] inb') (ix3 (0 : Fin 1) (x 0) (x 1)) := by
    pointwise [k0_pay1]
  rw [e]
  show w _ = w _
  congr 1
  funext a
  apply Fin.ext
  match a with
  | ⟨0, _⟩ => rfl
  | ⟨1, _⟩ => rfl
  | ⟨2, _⟩ => rfl

/-- What the point that begins a column of tiles leaves in the scratch is the weight tile. -/
theorem scratch_A (c : Dev nD) (i : grid0.Coords) (arg2 : Memref sig .tc .vmem S1088x4096 .bf16) (harg2 : arg2.IsWhole)
    (arg3 : Memref sig .tc .vmem S1x512x4096 .f32) (harg3 : arg3.IsWhole) (arg4 : Memref sig .tc .vmem S1088x512 .bf16)
    (harg4 : arg4.IsWhole) (arg5 : Memref sig .tc .vmem S512x4096 .bf16) (harg5 : arg5.IsWhole) (hc0 : cond0_0 i)
    (x0 : Vec Ideal S1088x4096 .bf16) (x1 : Vec Ideal S1x512x4096 .f32) :
    sout0_A_0 c i arg2 harg2 arg3 harg3 arg4 harg4 arg5 harg5 hc0 x0 x1 = tile x1 := by
  unfold sout0_A_0
  have hc := scover0_A_0 c i arg2 harg2 arg3 harg3 arg4 harg4 arg5 harg5 hc0 x0 x1
  rw [View.read_writes_eq_canon _ _ _ hc]
  funext y
  revert hc
  unfold kernelRun0_A
  dsimp only
  sl_unfold_words
  simp only [View.readAt_eq_ld, harg3.read_unread]
  intro hc
  refine View.canon_apply_of_pieces (tile x1) _ ?_ y (hc y)
  intro p hp
  simp only [List.mem_cons, List.not_mem_nil, or_false] at hp
  rcases hp with rfl | rfl | rfl | rfl
  · exact rows_eq x1 384 inb_S512x4096_S128x4096_384_0 inb_S1x512x4096_S1x128x4096_0_384_0
  · exact rows_eq x1 256 inb_S512x4096_S128x4096_256_0 inb_S1x512x4096_S1x128x4096_0_256_0
  · exact rows_eq x1 128 inb_S512x4096_S128x4096_128_0 inb_S1x512x4096_S1x128x4096_0_128_0
  · exact rows_eq x1 0 inb_S512x4096_S128x4096_0_0 inb_S1x512x4096_S1x128x4096_0_0_0

/-- What it leaves in the output tile is the product with the weight tile; -/
theorem out_A (c : Dev nD) (i : grid0.Coords) (arg2 : Memref sig .tc .vmem S1088x4096 .bf16) (harg2 : arg2.IsWhole)
    (arg3 : Memref sig .tc .vmem S1x512x4096 .f32) (harg3 : arg3.IsWhole) (arg4 : Memref sig .tc .vmem S1088x512 .bf16)
    (harg4 : arg4.IsWhole) (arg5 : Memref sig .tc .vmem S512x4096 .bf16) (harg5 : arg5.IsWhole) (hc0 : cond0_0 i)
    (x0 : Vec Ideal S1088x4096 .bf16) (x1 : Vec Ideal S1x512x4096 .f32) :
    out0_A_2 c i arg2 harg2 arg3 harg3 arg4 harg4 arg5 harg5 hc0 x0 x1 = k0_pay5 x0 (tile x1) := by
  have hs := scratch_A c i arg2 harg2 arg3 harg3 arg4 harg4 arg5 harg5 hc0 x0 x1
  have hc := scover0_A_0 c i arg2 harg2 arg3 harg3 arg4 harg4 arg5 harg5 hc0 x0 x1
  unfold sout0_A_0 at hs
  rw [View.read_writes_eq_canon _ _ _ hc] at hs
  unfold out0_A_2
  rw [View.read_writes_eq_canon _ _ _ (cover0_A_2 c i arg2 harg2 arg3 harg3 arg4 harg4 arg5 harg5 hc0 x0 x1)]
  unfold kernelRun0_A at hs ⊢
  dsimp only at hs ⊢
  sl_unfold_words
  rw [View.canon_unit_zero hz2]
  refine congrArg₂ k0_pay5 ?_ ?_
  · simp only [View.readAt_eq_ld, harg2.read_unread, View.ld_unit_zero (S := S1088x4096) hz2]
  · refine (View.readCov_eq_canon' _ _ _).trans (funext fun j => (congrFun hs _).trans (congrArg (tile x1) ?_))
    funext a
    apply Fin.ext
    match a with
    | ⟨0, _⟩ => show 0 + 1 * (j 0).val = (j 0).val; omega
    | ⟨1, _⟩ => show 0 + 1 * (j 1).val = (j 1).val; omega

/-- and what the points after it leave there is the product with what the scratch holds. -/
theorem out_B (c : Dev nD) (i : grid0.Coords) (arg2 : Memref sig .tc .vmem S1088x4096 .bf16) (harg2 : arg2.IsWhole)
    (arg3 : Memref sig .tc .vmem S1x512x4096 .f32) (harg3 : arg3.IsWhole) (arg4 : Memref sig .tc .vmem S1088x512 .bf16)
    (harg4 : arg4.IsWhole) (arg5 : Memref sig .tc .vmem S512x4096 .bf16) (harg5 : arg5.IsWhole) (hc0 : ¬cond0_0 i)
    (x0 : Vec Ideal S1088x4096 .bf16) (x1 : Vec Ideal S1x512x4096 .f32) (xs : Vec Ideal S512x4096 .bf16) :
    out0_B_2 c i arg2 harg2 arg3 harg3 arg4 harg4 arg5 harg5 hc0 x0 x1 xs = k0_pay5 x0 xs := by
  unfold out0_B_2
  rw [View.read_writes_eq_canon _ _ _ (cover0_B_2 c i arg2 harg2 arg3 harg3 arg4 harg4 arg5 harg5 hc0 x0 x1 xs)]
  unfold kernelRun0_B
  dsimp only
  rw [View.canon_unit_zero hz2]
  simp only [View.readAt_eq_ld, harg2.read_unread, harg5.read_unread, View.ld_unit_zero (S := S1088x4096) hz2, View.ld_unit_zero (S := S512x4096) hz2, shapeCast_self]

/-- The product of two tiles at an index. -/
theorem pay_apply (x : Vec Ideal S1088x4096 .bf16) (w : Vec Ideal S512x4096 .bf16) (j : S1088x512.Idx) :
    k0_pay5 x w j = ∑ k : Fin 4096, x (ix2 (j 0) k) * w (ix2 (j 1) k) := by
  pointwise [k0_pay5]

/-- The row tile that point `t` reads, the column offset of its weight tile, and that the weight tile changes only with
    the column of tiles. -/
theorem index_facts : ∀ t : Fin cfg0.N, win0_0.index t (0 : Fin 2) = t.val % 8 ∧ win0_0.index t (1 : Fin 2) = 0
    ∧ win0_1.index t (0 : Fin 3) = 0 ∧ win0_1.index t (1 : Fin 3) = 8256 + 512 * (t.val / 8) ∧ win0_1.index t (2 : Fin 3) = 0 :=
  (by decide +kernel : ∀ t : Fin grid0.N, _)

/-- The transposed weights that the region finds. -/
theorem V_main_v0 (c : Dev nD) : V m c main_v0 = transpose S2x16448x4096 [0, 2, 1] (m ((c : Thread nD τ).loc main_arg1)) transposes_S2x4096x16448_S2x16448x4096_0_2_1 := by
  unfold V
  after_results <;> rfl

/-- Window 0's block at a point, at an index. -/
theorem iblk0_apply (c : Dev nD) (t : Fin cfg0.N) (y : S1088x4096.Idx) (h : t.val % 8 * 1088 + (y 0).val < 8704) :
    (iblk m c 0 t : Vec Ideal S1088x4096 .bf16) y = m ((c : Thread nD τ).loc main_arg0) (ix2 (⟨t.val % 8 * 1088 + (y 0).val, h⟩ : Fin 8704) (y 1)) := by
  obtain ⟨e0, e1, -, -, -⟩ := index_facts t
  show V m c main_arg0 (((cfg0.win 0).blk t).view.emb y) = _
  rw [V_main_arg0]
  congr 1
  funext a
  apply Fin.ext
  match a with
  | ⟨0, _⟩ => show win0_0.index t (0 : Fin 2) * 1088 + 1 * (y 0).val = t.val % 8 * 1088 + (y 0).val; omega
  | ⟨1, _⟩ => show win0_0.index t (1 : Fin 2) * 4096 + 1 * (y 1).val = (y 1).val; omega

/-- The weight tile at a point, at an index. -/
theorem tile_apply (c : Dev nD) (t : Fin cfg0.N) (y : S512x4096.Idx) (h : 8256 + 512 * (t.val / 8) + (y 0).val < 16448) :
    tile (iblk m c 1 t) y = m ((c : Thread nD τ).loc main_arg1) (ix3 (0 : Fin 2) (y 1) (⟨8256 + 512 * (t.val / 8) + (y 0).val, h⟩ : Fin 16448)) := by
  obtain ⟨-, -, e0, e1, e2⟩ := index_facts t
  have e : ((cfg0.win 1).blk t).view.emb (ix3 (0 : Fin 1) (y 0) (y 1)) = ix3 (0 : Fin 2) (⟨8256 + 512 * (t.val / 8) + (y 0).val, h⟩ : Fin 16448) (y 1) := by
    funext a
    apply Fin.ext
    match a with
    | ⟨0, _⟩ => show win0_1.index t (0 : Fin 3) + 1 * 0 = 0; omega
    | ⟨1, _⟩ => show win0_1.index t (1 : Fin 3) + 1 * (y 0).val = 8256 + 512 * (t.val / 8) + (y 0).val; omega
    | ⟨2, _⟩ => show win0_1.index t (2 : Fin 3) + 1 * (y 1).val = (y 1).val; omega
  show V m c main_v0 (((cfg0.win 1).blk t).view.emb (ix3 (0 : Fin 1) (y 0) (y 1))) = _
  rw [V_main_v0, e]
  pointwise

/-- Within a column of tiles the weight tile stays. -/
theorem tile_congr (c : Dev nD) (t t' : Fin cfg0.N) (h : t.val / 8 = t'.val / 8) : tile (iblk m c 1 t) = tile (iblk m c 1 t') := by
  have hN := lt_of_lt_of_eq t.isLt (show cfg0.N = 128 from N_0)
  funext y
  have hy : (y 0).val < 512 := (y 0).isLt
  rw [tile_apply m c t y (by omega), tile_apply m c t' y (by omega)]
  congr 3
  omega

/-- After point `n` the scratch holds the column's weight tile, and the output tile the product with it. -/
theorem outs_eq (c : Dev nD) : ∀ (n : ℕ) (h : n < cfg0.N),
    outsAt0 m c n h = (k0_pay5 (iblk m c 0 ⟨n, h⟩) (tile (iblk m c 1 ⟨n, h⟩)), tile (iblk m c 1 ⟨n, h⟩))
  | 0, h => by
    rw [outsAt0_A m c ⟨0, h⟩ rfl, out_A, scratch_A]
  | n + 1, h => by
    by_cases h0 : (n + 1) % 8 = 0
    · rw [outsAt0_A m c ⟨n + 1, h⟩ h0, out_A, scratch_A]
    · have ih := outs_eq c n (Nat.lt_of_succ_lt h)
      rw [outsAt0_B m c ⟨n + 1, h⟩ h0, out_B]
      show (k0_pay5 _ (outsAt0 m c n _).2, (outsAt0 m c n _).2) = _
      rw [ih, tile_congr m c ⟨n, Nat.lt_of_succ_lt h⟩ ⟨n + 1, h⟩ (by show n / 8 = (n + 1) / 8; omega)]

/-- The whole product of the rows with the branch's columns of the first weight matrix. -/
def product (x : S8704x4096.Idx → EReal) (w : S2x4096x16448.Idx → EReal) : S8704x8192.Idx → EReal := fun i =>
  ∑ k : Fin 4096, x (ix2 (i 0) k) * w (ix3 (0 : Fin 2) k (⟨8256 + (i 1).val, Nat.add_lt_add_left (i 1).isLt 8256⟩ : Fin 16448))

/-- The result array is that product. -/
theorem G2_eq (c : Dev nD) : G2 m c = product (m ((c : Thread nD τ).loc main_arg0)) (m ((c : Thread nD τ).loc main_arg1)) := by
  funext i
  have h0 : (i 0).val < 8704 := (i 0).isLt
  have h1 : (i 1).val < 8192 := (i 1).isLt
  have hp : pt2Of i < cfg0.N := lt_of_lt_of_eq (by show 1 * ((i 0).val / 1088 - 0) + 8 * ((i 1).val / 512 - 0) < 128; omega) N_0.symm
  have hm : pt2Of i % 8 = (i 0).val / 1088 := by show (1 * ((i 0).val / 1088 - 0) + 8 * ((i 1).val / 512 - 0)) % 8 = _; omega
  have hd : pt2Of i / 8 = (i 1).val / 512 := by show (1 * ((i 0).val / 1088 - 0) + 8 * ((i 1).val / 512 - 0)) / 8 = _; omega
  unfold G2
  rw [dif_pos hp, ← outsAt0_sweep m c (pt2Of i) hp, outs_eq]
  refine (pay_apply _ _ (loc2Of i)).trans ?_
  unfold product
  refine Finset.sum_congr rfl fun k _ => ?_
  rw [iblk0_apply m c ⟨pt2Of i, hp⟩ (ix2 (loc2Of i 0) k) (by show pt2Of i % 8 * 1088 + (i 0).val % 1088 < 8704; omega),
    tile_apply m c ⟨pt2Of i, hp⟩ (ix2 (loc2Of i 1) k) (by show 8256 + 512 * (pt2Of i / 8) + (i 1).val % 512 < 16448; omega)]
  congr 2
  · congr 1
    apply Fin.ext
    show pt2Of i % 8 * 1088 + (i 0).val % 1088 = (i 0).val
    omega
  · congr 1
    apply Fin.ext
    show 8256 + 512 * (pt2Of i / 8) + (i 1).val % 512 = 8256 + (i 1).val
    omega

end Cert.InProjCIdeal.Value

namespace Cert.InProjC

open Idealize.ShloMosaic Idealize.ShloMosaic.TcCoe Idealize.SL.Sem

/-- The reference changes no semaphore and leaves its arguments. -/
theorem quiescent : quiescent_InProjCRefIdeal := fun m ρ _ =>
  (θ_run Cert.InProjCRefIdeal.defs _ _).mono (fun r h => ⟨fun c => (h c).2, sem_eq_zero_of_no_sems (by decide) r.2⟩)
    (Cert.InProjCRefIdeal.Value.run (F := Ideal) m ρ)

/-- Over the extended reals the kernel's result is the reference's. -/
theorem algebraic : algebraic_InProjCIdeal_InProjCRefIdeal := by
  intro m ρ m' ρ' _ hagree
  refine ⟨_, Cert.InProjCIdeal.Value.run (F := Ideal) m ρ, ?_⟩
  refine (θ_run Cert.InProjCRefIdeal.defs _ _).mono (fun _ h c => ⟨?_, (h c).2⟩) (Cert.InProjCRefIdeal.Value.run (F := Ideal) m' ρ')
  rw [(h c).1]
  simp only [hagree c]
  rw [Cert.InProjCIdeal.Value.G2_eq]
  funext i
  pointwise [Cert.InProjCIdeal.Value.product]

end Cert.InProjC

end
-- ==== Proof.InProjB.lean ====
/- The input projection of the matrix-memory branch: the product that the kernel leaves, tile by tile, is the
   reference's whole product restricted to the branch's columns. -/
module

public import proofs.«01_k».proof.Defs
public import proofs.«01_k».proof.Proof.Gen.InProjBIdeal.Value
public import proofs.«01_k».proof.Proof.Gen.InProjBRefIdeal.Run
public import Idealize.ShloMosaic.Lib.Pointwise
public import Idealize.ShloMosaic.Lib.Quiescent
public import Idealize.ShloMosaic.Lib.Tactic
public import Idealize.ShloMosaic.Lib.Tactic.ValueTie

@[expose] public section

noncomputable section

namespace Cert.InProjBIdeal.Value

open Cert.InProjBIdeal Cert.InProjBIdeal.Gen Idealize.ShloMosaic Idealize.ShloMosaic.TcCoe Idealize.SL.Sem

theorem hz2 : (![0, 0] : Fin 2 → Nat) = fun _ => 0 := funext fun a => by fin_cases a <;> rfl

variable (m : (ℓ : Loc nD τ sig) → Buf (Elt Ideal) ℓ)

/-- The rounded copy of a weight tile: over the extended reals the tile itself, without its leading axis. -/
def tile (w : Vec Ideal S1x512x4096 .f32) : Vec Ideal S512x4096 .bf16 := fun j => w (ix3 (0 : Fin 1) (j 0) (j 1))

/-- A group of 128 rows of the tile, rounded: row `p` of the group that begins at row `b` is row `b + p` of the tile. -/
theorem rows_eq (w : Vec Ideal S1x512x4096 .f32) (b : Nat) (inb : ∀ a, (![b, 0] : Fin 2 → Nat) a + (![128, 4096] : Fin 2 → Nat) a ≤ S512x4096.size a)
    (inb' : ∀ a, (![0, b, 0] : Fin 3 → Nat) a + (![1, 128, 4096] : Fin 3 → Nat) a ≤ S1x512x4096.size a)
    (x : (Rect.unit (s := S512x4096) ![b, 0] ![128, 4096] inb).shape.Idx) :
    k0_pay1 (F := Ideal) (View.ld w (Rect.unit ![0, b, 0] ![1, 128, 4096] inb')) x = tile w ((Rect.unit ![b, 0] ![128, 4096] inb).emb x) := by
  have e : k0_pay1 (F := Ideal) (View.ld w (Rect.unit ![0, b, 0] ![1, 128, 4096] inb')) x =
      View.ld w (Rect.unit ![0, b, 0] ![1, 128, 4096] inb') (ix3 (0 : Fin 1) (x 0) (x 1)) := by
    pointwise [k0_pay1]
  rw [e]
  show w _ = w _
  congr 1
  funext a
  apply Fin.ext
  match a with
  | ⟨0, _⟩ => rfl
  | ⟨1, _⟩ => rfl
  | ⟨2, _⟩ => rfl

/-- What the point that begins a column of tiles leaves in the scratch is the weight tile. -/
theorem scratch_A (c : Dev nD) (i : grid0.Coords) (arg2 : Memref sig .tc .vmem S1088x4096 .bf16) (harg2 : arg2.IsWhole)
    (arg3 : Memref sig .tc .vmem S1x512x4096 .f32) (harg3 : arg3.IsWhole) (arg4 : Memref sig .tc .vmem S1088x512 .bf16)
    (harg4 : arg4.IsWhole) (arg5 : Memref sig .tc .vmem S512x4096 .bf16) (harg5 : arg5.IsWhole) (hc0 : cond0_0 i)
    (x0 : Vec Ideal S1088x4096 .bf16) (x1 : Vec Ideal S1x512x4096 .f32) :
    sout0_A_0 c i arg2 harg2 arg3 harg3 arg4 harg4 arg5 harg5 hc0 x0 x1 = tile x1 := by
  unfold sout0_A_0
  have hc := scover0_A_0 c i arg2 harg2 arg3 harg3 arg4 harg4 arg5 harg5 hc0 x0 x1
  rw [View.read_writes_eq_canon _ _ _ hc]
  funext y
  revert hc
  unfold kernelRun0_A
  dsimp only
  sl_unfold_words
  simp only [View.readAt_eq_ld, harg3.read_unread]
  intro hc
  refine View.canon_apply_of_pieces (tile x1) _ ?_ y (hc y)
  intro p hp
  simp only [List.mem_cons, List.not_mem_nil, or_false] at hp
  rcases hp with rfl | rfl | rfl | rfl
  · exact rows_eq x1 384 inb_S512x4096_S128x4096_384_0 inb_S1x512x4096_S1x128x4096_0_384_0
  · exact rows_eq x1 256 inb_S512x4096_S128x4096_256_0 inb_S1x512x4096_S1x128x4096_0_256_0
  · exact rows_eq x1 128 inb_S512x4096_S128x4096_128_0 inb_S1x512x4096_S1x128x4096_0_128_0
  · exact rows_eq x1 0 inb_S512x4096_S128x4096_0_0 inb_S1x512x4096_S1x128x4096_0_0_0

/-- What it leaves in the output tile is the product with the weight tile; -/
theorem out_A (c : Dev nD) (i : grid0.Coords) (arg2 : Memref sig .tc .vmem S1088x4096 .bf16) (harg2 : arg2.IsWhole)
    (arg3 : Memref sig .tc .vmem S1x512x4096 .f32) (harg3 : arg3.IsWhole) (arg4 : Memref sig .tc .vmem S1088x512 .bf16)
    (harg4 : arg4.IsWhole) (arg5 : Memref sig .tc .vmem S512x4096 .bf16) (harg5 : arg5.IsWhole) (hc0 : cond0_0 i)
    (x0 : Vec Ideal S1088x4096 .bf16) (x1 : Vec Ideal S1x512x4096 .f32) :
    out0_A_2 c i arg2 harg2 arg3 harg3 arg4 harg4 arg5 harg5 hc0 x0 x1 = k0_pay5 x0 (tile x1) := by
  have hs := scratch_A c i arg2 harg2 arg3 harg3 arg4 harg4 arg5 harg5 hc0 x0 x1
  have hc := scover0_A_0 c i arg2 harg2 arg3 harg3 arg4 harg4 arg5 harg5 hc0 x0 x1
  unfold sout0_A_0 at hs
  rw [View.read_writes_eq_canon _ _ _ hc] at hs
  unfold out0_A_2
  rw [View.read_writes_eq_canon _ _ _ (cover0_A_2 c i arg2 harg2 arg3 harg3 arg4 harg4 arg5 harg5 hc0 x0 x1)]
  unfold kernelRun0_A at hs ⊢
  dsimp only at hs ⊢
  sl_unfold_words
  rw [View.canon_unit_zero hz2]
  refine congrArg₂ k0_pay5 ?_ ?_
  · simp only [View.readAt_eq_ld, harg2.read_unread, View.ld_unit_zero (S := S1088x4096) hz2]
  · refine (View.readCov_eq_canon' _ _ _).trans (funext fun j => (congrFun hs _).trans (congrArg (tile x1) ?_))
    funext a
    apply Fin.ext
    match a with
    | ⟨0, _⟩ => show 0 + 1 * (j 0).val = (j 0).val; omega
    | ⟨1, _⟩ => show 0 + 1 * (j 1).val = (j 1).val; omega

/-- and what the points after it leave there is the product with what the scratch holds. -/
theorem out_B (c : Dev nD) (i : grid0.Coords) (arg2 : Memref sig .tc .vmem S1088x4096 .bf16) (harg2 : arg2.IsWhole)
    (arg3 : Memref sig .tc .vmem S1x512x4096 .f32) (harg3 : arg3.IsWhole) (arg4 : Memref sig .tc .vmem S1088x512 .bf16)
    (harg4 : arg4.IsWhole) (arg5 : Memref sig .tc .vmem S512x4096 .bf16) (harg5 : arg5.IsWhole) (hc0 : ¬cond0_0 i)
    (x0 : Vec Ideal S1088x4096 .bf16) (x1 : Vec Ideal S1x512x4096 .f32) (xs : Vec Ideal S512x4096 .bf16) :
    out0_B_2 c i arg2 harg2 arg3 harg3 arg4 harg4 arg5 harg5 hc0 x0 x1 xs = k0_pay5 x0 xs := by
  unfold out0_B_2
  rw [View.read_writes_eq_canon _ _ _ (cover0_B_2 c i arg2 harg2 arg3 harg3 arg4 harg4 arg5 harg5 hc0 x0 x1 xs)]
  unfold kernelRun0_B
  dsimp only
  rw [View.canon_unit_zero hz2]
  simp only [View.readAt_eq_ld, harg2.read_unread, harg5.read_unread, View.ld_unit_zero (S := S1088x4096) hz2, View.ld_unit_zero (S := S512x4096) hz2, shapeCast_self]

/-- The product of two tiles at an index. -/
theorem pay_apply (x : Vec Ideal S1088x4096 .bf16) (w : Vec Ideal S512x4096 .bf16) (j : S1088x512.Idx) :
    k0_pay5 x w j = ∑ k : Fin 4096, x (ix2 (j 0) k) * w (ix2 (j 1) k) := by
  pointwise [k0_pay5]

/-- The row tile that point `t` reads, the column offset of its weight tile, and that the weight tile changes only with
    the column of tiles. -/
theorem index_facts : ∀ t : Fin cfg0.N, win0_0.index t (0 : Fin 2) = t.val % 8 ∧ win0_0.index t (1 : Fin 2) = 0
    ∧ win0_1.index t (0 : Fin 3) = 0 ∧ win0_1.index t (1 : Fin 3) = 3104 + 512 * (t.val / 8) ∧ win0_1.index t (2 : Fin 3) = 0 :=
  (by decide +kernel : ∀ t : Fin grid0.N, _)

/-- The transposed weights that the region finds. -/
theorem V_main_v0 (c : Dev nD) : V m c main_v0 = transpose S2x16448x4096 [0, 2, 1] (m ((c : Thread nD τ).loc main_arg1)) transposes_S2x4096x16448_S2x16448x4096_0_2_1 := by
  unfold V
  after_results <;> rfl

/-- Window 0's block at a point, at an index. -/
theorem iblk0_apply (c : Dev nD) (t : Fin cfg0.N) (y : S1088x4096.Idx) (h : t.val % 8 * 1088 + (y 0).val < 8704) :
    (iblk m c 0 t : Vec Ideal S1088x4096 .bf16) y = m ((c : Thread nD τ).loc main_arg0) (ix2 (⟨t.val % 8 * 1088 + (y 0).val, h⟩ : Fin 8704) (y 1)) := by
  obtain ⟨e0, e1, -, -, -⟩ := index_facts t
  show V m c main_arg0 (((cfg0.win 0).blk t).view.emb y) = _
  rw [V_main_arg0]
  congr 1
  funext a
  apply Fin.ext
  match a with
  | ⟨0, _⟩ => show win0_0.index t (0 : Fin 2) * 1088 + 1 * (y 0).val = t.val % 8 * 1088 + (y 0).val; omega
  | ⟨1, _⟩ => show win0_0.index t (1 : Fin 2) * 4096 + 1 * (y 1).val = (y 1).val; omega

/-- The weight tile at a point, at an index. -/
theorem tile_apply (c : Dev nD) (t : Fin cfg0.N) (y : S512x4096.Idx) (h : 3104 + 512 * (t.val / 8) + (y 0).val < 16448) :
    tile (iblk m c 1 t) y = m ((c : Thread nD τ).loc main_arg1) (ix3 (0 : Fin 2) (y 1) (⟨3104 + 512 * (t.val / 8) + (y 0).val, h⟩ : Fin 16448)) := by
  obtain ⟨-, -, e0, e1, e2⟩ := index_facts t
  have e : ((cfg0.win 1).blk t).view.emb (ix3 (0 : Fin 1) (y 0) (y 1)) = ix3 (0 : Fin 2) (⟨3104 + 512 * (t.val / 8) + (y 0).val, h⟩ : Fin 16448) (y 1) := by
    funext a
    apply Fin.ext
    match a with
    | ⟨0, _⟩ => show win0_1.index t (0 : Fin 3) + 1 * 0 = 0; omega
    | ⟨1, _⟩ => show win0_1.index t (1 : Fin 3) + 1 * (y 0).val = 3104 + 512 * (t.val / 8) + (y 0).val; omega
    | ⟨2, _⟩ => show win0_1.index t (2 : Fin 3) + 1 * (y 1).val = (y 1).val; omega
  show V m c main_v0 (((cfg0.win 1).blk t).view.emb (ix3 (0 : Fin 1) (y 0) (y 1))) = _
  rw [V_main_v0, e]
  pointwise

/-- Within a column of tiles the weight tile stays. -/
theorem tile_congr (c : Dev nD) (t t' : Fin cfg0.N) (h : t.val / 8 = t'.val / 8) : tile (iblk m c 1 t) = tile (iblk m c 1 t') := by
  have hN := lt_of_lt_of_eq t.isLt (show cfg0.N = 80 from N_0)
  funext y
  have hy : (y 0).val < 512 := (y 0).isLt
  rw [tile_apply m c t y (by omega), tile_apply m c t' y (by omega)]
  congr 3
  omega

/-- After point `n` the scratch holds the column's weight tile, and the output tile the product with it. -/
theorem outs_eq (c : Dev nD) : ∀ (n : ℕ) (h : n < cfg0.N),
    outsAt0 m c n h = (k0_pay5 (iblk m c 0 ⟨n, h⟩) (tile (iblk m c 1 ⟨n, h⟩)), tile (iblk m c 1 ⟨n, h⟩))
  | 0, h => by
    rw [outsAt0_A m c ⟨0, h⟩ rfl, out_A, scratch_A]
  | n + 1, h => by
    by_cases h0 : (n + 1) % 8 = 0
    · rw [outsAt0_A m c ⟨n + 1, h⟩ h0, out_A, scratch_A]
    · have ih := outs_eq c n (Nat.lt_of_succ_lt h)
      rw [outsAt0_B m c ⟨n + 1, h⟩ h0, out_B]
      show (k0_pay5 _ (outsAt0 m c n _).2, (outsAt0 m c n _).2) = _
      rw [ih, tile_congr m c ⟨n, Nat.lt_of_succ_lt h⟩ ⟨n + 1, h⟩ (by show n / 8 = (n + 1) / 8; omega)]

/-- The whole product of the rows with the branch's columns of the first weight matrix. -/
def product (x : S8704x4096.Idx → EReal) (w : S2x4096x16448.Idx → EReal) : S8704x5120.Idx → EReal := fun i =>
  ∑ k : Fin 4096, x (ix2 (i 0) k) * w (ix3 (0 : Fin 2) k (⟨3104 + (i 1).val, lt_of_lt_of_le (Nat.add_lt_add_left (i 1).isLt 3104) (by decide)⟩ : Fin 16448))

/-- The result array is that product. -/
theorem G2_eq (c : Dev nD) : G2 m c = product (m ((c : Thread nD τ).loc main_arg0)) (m ((c : Thread nD τ).loc main_arg1)) := by
  funext i
  have h0 : (i 0).val < 8704 := (i 0).isLt
  have h1 : (i 1).val < 5120 := (i 1).isLt
  have hp : pt2Of i < cfg0.N := lt_of_lt_of_eq (by show 1 * ((i 0).val / 1088 - 0) + 8 * ((i 1).val / 512 - 0) < 80; omega) N_0.symm
  have hm : pt2Of i % 8 = (i 0).val / 1088 := by show (1 * ((i 0).val / 1088 - 0) + 8 * ((i 1).val / 512 - 0)) % 8 = _; omega
  have hd : pt2Of i / 8 = (i 1).val / 512 := by show (1 * ((i 0).val / 1088 - 0) + 8 * ((i 1).val / 512 - 0)) / 8 = _; omega
  unfold G2
  rw [dif_pos hp, ← outsAt0_sweep m c (pt2Of i) hp, outs_eq]
  refine (pay_apply _ _ (loc2Of i)).trans ?_
  unfold product
  refine Finset.sum_congr rfl fun k _ => ?_
  rw [iblk0_apply m c ⟨pt2Of i, hp⟩ (ix2 (loc2Of i 0) k) (by show pt2Of i % 8 * 1088 + (i 0).val % 1088 < 8704; omega),
    tile_apply m c ⟨pt2Of i, hp⟩ (ix2 (loc2Of i 1) k) (by show 3104 + 512 * (pt2Of i / 8) + (i 1).val % 512 < 16448; omega)]
  congr 2
  · congr 1
    apply Fin.ext
    show pt2Of i % 8 * 1088 + (i 0).val % 1088 = (i 0).val
    omega
  · congr 1
    apply Fin.ext
    show 3104 + 512 * (pt2Of i / 8) + (i 1).val % 512 = 3104 + (i 1).val
    omega

end Cert.InProjBIdeal.Value

namespace Cert.InProjB

open Idealize.ShloMosaic Idealize.ShloMosaic.TcCoe Idealize.SL.Sem

/-- The reference changes no semaphore and leaves its arguments. -/
theorem quiescent : quiescent_InProjBRefIdeal := fun m ρ _ =>
  (θ_run Cert.InProjBRefIdeal.defs _ _).mono (fun r h => ⟨fun c => (h c).2, sem_eq_zero_of_no_sems (by decide) r.2⟩)
    (Cert.InProjBRefIdeal.Value.run (F := Ideal) m ρ)

/-- Over the extended reals the kernel's result is the reference's. -/
theorem algebraic : algebraic_InProjBIdeal_InProjBRefIdeal := by
  intro m ρ m' ρ' _ hagree
  refine ⟨_, Cert.InProjBIdeal.Value.run (F := Ideal) m ρ, ?_⟩
  refine (θ_run Cert.InProjBRefIdeal.defs _ _).mono (fun _ h c => ⟨?_, (h c).2⟩) (Cert.InProjBRefIdeal.Value.run (F := Ideal) m' ρ')
  rw [(h c).1]
  simp only [hagree c]
  rw [Cert.InProjBIdeal.Value.G2_eq]
  funext i
  pointwise [Cert.InProjBIdeal.Value.product]

end Cert.InProjB

end
-- ==== Proof.InProjA.lean ====
/- The input projection of the gated linear attention branch: the product that the kernel leaves, tile by tile, is the
   reference's whole product restricted to the branch's columns. -/
module

public import proofs.«01_k».proof.Defs
public import proofs.«01_k».proof.Proof.Gen.InProjAIdeal.Value
public import proofs.«01_k».proof.Proof.Gen.InProjARefIdeal.Run
public import Idealize.ShloMosaic.Lib.Pointwise
public import Idealize.ShloMosaic.Lib.Quiescent
public import Idealize.ShloMosaic.Lib.Tactic
public import Idealize.ShloMosaic.Lib.Tactic.ValueTie

@[expose] public section

noncomputable section

namespace Cert.InProjAIdeal.Value

open Cert.InProjAIdeal Cert.InProjAIdeal.Gen Idealize.ShloMosaic Idealize.ShloMosaic.TcCoe Idealize.SL.Sem

theorem hz2 : (![0, 0] : Fin 2 → Nat) = fun _ => 0 := funext fun a => by fin_cases a <;> rfl

variable (m : (ℓ : Loc nD τ sig) → Buf (Elt Ideal) ℓ)

/-- The rounded copy of a weight tile: over the extended reals the tile itself, without its leading axis. -/
def tile (w : Vec Ideal S1x512x4096 .f32) : Vec Ideal S512x4096 .bf16 := fun j => w (ix3 (0 : Fin 1) (j 0) (j 1))

/-- A group of 128 rows of the tile, rounded: row `p` of the group that begins at row `b` is row `b + p` of the tile. -/
theorem rows_eq (w : Vec Ideal S1x512x4096 .f32) (b : Nat) (inb : ∀ a, (![b, 0] : Fin 2 → Nat) a + (![128, 4096] : Fin 2 → Nat) a ≤ S512x4096.size a)
    (inb' : ∀ a, (![0, b, 0] : Fin 3 → Nat) a + (![1, 128, 4096] : Fin 3 → Nat) a ≤ S1x512x4096.size a)
    (x : (Rect.unit (s := S512x4096) ![b, 0] ![128, 4096] inb).shape.Idx) :
    k0_pay1 (F := Ideal) (View.ld w (Rect.unit ![0, b, 0] ![1, 128, 4096] inb')) x = tile w ((Rect.unit ![b, 0] ![128, 4096] inb).emb x) := by
  have e : k0_pay1 (F := Ideal) (View.ld w (Rect.unit ![0, b, 0] ![1, 128, 4096] inb')) x =
      View.ld w (Rect.unit ![0, b, 0] ![1, 128, 4096] inb') (ix3 (0 : Fin 1) (x 0) (x 1)) := by
    pointwise [k0_pay1]
  rw [e]
  show w _ = w _
  congr 1
  funext a
  apply Fin.ext
  match a with
  | ⟨0, _⟩ => rfl
  | ⟨1, _⟩ => rfl
  | ⟨2, _⟩ => rfl

/-- What the point that begins a column of tiles leaves in the scratch is the weight tile. -/
theorem scratch_A (c : Dev nD) (i : grid0.Coords) (arg2 : Memref sig .tc .vmem S1088x4096 .bf16) (harg2 : arg2.IsWhole)
    (arg3 : Memref sig .tc .vmem S1x512x4096 .f32) (harg3 : arg3.IsWhole) (arg4 : Memref sig .tc .vmem S1088x512 .bf16)
    (harg4 : arg4.IsWhole) (arg5 : Memref sig .tc .vmem S512x4096 .bf16) (harg5 : arg5.IsWhole) (hc0 : cond0_0 i)
    (x0 : Vec Ideal S1088x4096 .bf16) (x1 : Vec Ideal S1x512x4096 .f32) :
    sout0_A_0 c i arg2 harg2 arg3 harg3 arg4 harg4 arg5 harg5 hc0 x0 x1 = tile x1 := by
  unfold sout0_A_0
  have hc := scover0_A_0 c i arg2 harg2 arg3 harg3 arg4 harg4 arg5 harg5 hc0 x0 x1
  rw [View.read_writes_eq_canon _ _ _ hc]
  funext y
  revert hc
  unfold kernelRun0_A
  dsimp only
  sl_unfold_words
  simp only [View.readAt_eq_ld, harg3.read_unread]
  intro hc
  refine View.canon_apply_of_pieces (tile x1) _ ?_ y (hc y)
  intro p hp
  simp only [List.mem_cons, List.not_mem_nil, or_false] at hp
  rcases hp with rfl | rfl | rfl | rfl
  · exact rows_eq x1 384 inb_S512x4096_S128x4096_384_0 inb_S1x512x4096_S1x128x4096_0_384_0
  · exact rows_eq x1 256 inb_S512x4096_S128x4096_256_0 inb_S1x512x4096_S1x128x4096_0_256_0
  · exact rows_eq x1 128 inb_S512x4096_S128x4096_128_0 inb_S1x512x4096_S1x128x4096_0_128_0
  · exact rows_eq x1 0 inb_S512x4096_S128x4096_0_0 inb_S1x512x4096_S1x128x4096_0_0_0

/-- What it leaves in the output tile is the product with the weight tile; -/
theorem out_A (c : Dev nD) (i : grid0.Coords) (arg2 : Memref sig .tc .vmem S1088x4096 .bf16) (harg2 : arg2.IsWhole)
    (arg3 : Memref sig .tc .vmem S1x512x4096 .f32) (harg3 : arg3.IsWhole) (arg4 : Memref sig .tc .vmem S1088x512 .bf16)
    (harg4 : arg4.IsWhole) (arg5 : Memref sig .tc .vmem S512x4096 .bf16) (harg5 : arg5.IsWhole) (hc0 : cond0_0 i)
    (x0 : Vec Ideal S1088x4096 .bf16) (x1 : Vec Ideal S1x512x4096 .f32) :
    out0_A_2 c i arg2 harg2 arg3 harg3 arg4 harg4 arg5 harg5 hc0 x0 x1 = k0_pay5 x0 (tile x1) := by
  have hs := scratch_A c i arg2 harg2 arg3 harg3 arg4 harg4 arg5 harg5 hc0 x0 x1
  have hc := scover0_A_0 c i arg2 harg2 arg3 harg3 arg4 harg4 arg5 harg5 hc0 x0 x1
  unfold sout0_A_0 at hs
  rw [View.read_writes_eq_canon _ _ _ hc] at hs
  unfold out0_A_2
  rw [View.read_writes_eq_canon _ _ _ (cover0_A_2 c i arg2 harg2 arg3 harg3 arg4 harg4 arg5 harg5 hc0 x0 x1)]
  unfold kernelRun0_A at hs ⊢
  dsimp only at hs ⊢
  sl_unfold_words
  rw [View.canon_unit_zero hz2]
  refine congrArg₂ k0_pay5 ?_ ?_
  · simp only [View.readAt_eq_ld, harg2.read_unread, View.ld_unit_zero (S := S1088x4096) hz2]
  · refine (View.readCov_eq_canon' _ _ _).trans (funext fun j => (congrFun hs _).trans (congrArg (tile x1) ?_))
    funext a
    apply Fin.ext
    match a with
    | ⟨0, _⟩ => show 0 + 1 * (j 0).val = (j 0).val; omega
    | ⟨1, _⟩ => show 0 + 1 * (j 1).val = (j 1).val; omega

/-- and what the points after it leave there is the product with what the scratch holds. -/
theorem out_B (c : Dev nD) (i : grid0.Coords) (arg2 : Memref sig .tc .vmem S1088x4096 .bf16) (harg2 : arg2.IsWhole)
    (arg3 : Memref sig .tc .vmem S1x512x4096 .f32) (harg3 : arg3.IsWhole) (arg4 : Memref sig .tc .vmem S1088x512 .bf16)
    (harg4 : arg4.IsWhole) (arg5 : Memref sig .tc .vmem S512x4096 .bf16) (harg5 : arg5.IsWhole) (hc0 : ¬cond0_0 i)
    (x0 : Vec Ideal S1088x4096 .bf16) (x1 : Vec Ideal S1x512x4096 .f32) (xs : Vec Ideal S512x4096 .bf16) :
    out0_B_2 c i arg2 harg2 arg3 harg3 arg4 harg4 arg5 harg5 hc0 x0 x1 xs = k0_pay5 x0 xs := by
  unfold out0_B_2
  rw [View.read_writes_eq_canon _ _ _ (cover0_B_2 c i arg2 harg2 arg3 harg3 arg4 harg4 arg5 harg5 hc0 x0 x1 xs)]
  unfold kernelRun0_B
  dsimp only
  rw [View.canon_unit_zero hz2]
  simp only [View.readAt_eq_ld, harg2.read_unread, harg5.read_unread, View.ld_unit_zero (S := S1088x4096) hz2, View.ld_unit_zero (S := S512x4096) hz2, shapeCast_self]

/-- The product of two tiles at an index. -/
theorem pay_apply (x : Vec Ideal S1088x4096 .bf16) (w : Vec Ideal S512x4096 .bf16) (j : S1088x512.Idx) :
    k0_pay5 x w j = ∑ k : Fin 4096, x (ix2 (j 0) k) * w (ix2 (j 1) k) := by
  pointwise [k0_pay5]

/-- The row tile that point `t` reads, the column offset of its weight tile, and that the weight tile changes only with
    the column of tiles. -/
theorem index_facts : ∀ t : Fin cfg0.N, win0_0.index t (0 : Fin 2) = t.val % 8 ∧ win0_0.index t (1 : Fin 2) = 0
    ∧ win0_1.index t (0 : Fin 3) = 0 ∧ win0_1.index t (1 : Fin 3) = t.val / 8 ∧ win0_1.index t (2 : Fin 3) = 0 :=
  (by decide +kernel : ∀ t : Fin grid0.N, _)

/-- The transposed weights that the region finds. -/
theorem V_main_v0 (c : Dev nD) : V m c main_v0 = transpose S2x16448x4096 [0, 2, 1] (m ((c : Thread nD τ).loc main_arg1)) transposes_S2x4096x16448_S2x16448x4096_0_2_1 := by
  unfold V
  after_results <;> rfl

/-- Window 0's block at a point, at an index. -/
theorem iblk0_apply (c : Dev nD) (t : Fin cfg0.N) (y : S1088x4096.Idx) (h : t.val % 8 * 1088 + (y 0).val < 8704) :
    (iblk m c 0 t : Vec Ideal S1088x4096 .bf16) y = m ((c : Thread nD τ).loc main_arg0) (ix2 (⟨t.val % 8 * 1088 + (y 0).val, h⟩ : Fin 8704) (y 1)) := by
  obtain ⟨e0, e1, -, -, -⟩ := index_facts t
  show V m c main_arg0 (((cfg0.win 0).blk t).view.emb y) = _
  rw [V_main_arg0]
  congr 1
  funext a
  apply Fin.ext
  match a with
  | ⟨0, _⟩ => show win0_0.index t (0 : Fin 2) * 1088 + 1 * (y 0).val = t.val % 8 * 1088 + (y 0).val; omega
  | ⟨1, _⟩ => show win0_0.index t (1 : Fin 2) * 4096 + 1 * (y 1).val = (y 1).val; omega

/-- The weight tile at a point, at an index. -/
theorem tile_apply (c : Dev nD) (t : Fin cfg0.N) (y : S512x4096.Idx) (h : 512 * (t.val / 8) + (y 0).val < 16448) :
    tile (X0_1 m c t) y = m ((c : Thread nD τ).loc main_arg1) (ix3 (0 : Fin 2) (y 1) (⟨512 * (t.val / 8) + (y 0).val, h⟩ : Fin 16448)) := by
  obtain ⟨-, -, e0, e1, e2⟩ := index_facts t
  have hm := (cfg0.win 1).moved_iff (cfg0.grid.coords t) (ix3 (0 : Fin 1) (y 0) (y 1)) |>.mp (moved0_1 t _)
  have e : ((cfg0.win 1).blk t).view.emb (fun a => ⟨(ix3 (0 : Fin 1) (y 0) (y 1) : S1x512x4096.Idx) a, hm a⟩) = ix3 (0 : Fin 2) (⟨512 * (t.val / 8) + (y 0).val, h⟩ : Fin 16448) (y 1) := by
    funext a
    apply Fin.ext
    match a with
    | ⟨0, _⟩ => show win0_1.index t (0 : Fin 3) * 1 + 1 * 0 = 0; omega
    | ⟨1, _⟩ => show win0_1.index t (1 : Fin 3) * 512 + 1 * (y 0).val = 512 * (t.val / 8) + (y 0).val; omega
    | ⟨2, _⟩ => show win0_1.index t (2 : Fin 3) * 4096 + 1 * (y 1).val = (y 1).val; omega
  unfold tile X0_1 Pipeline.Window.fill
  rw [dif_pos (moved0_1 t _)]
  show V m c main_v0 (((cfg0.win 1).blk t).view.emb (fun a => ⟨(ix3 (0 : Fin 1) (y 0) (y 1) : S1x512x4096.Idx) a, hm a⟩)) = _
  rw [V_main_v0, e]
  pointwise

/-- Within a column of tiles the weight tile stays. -/
theorem tile_congr (c : Dev nD) (t t' : Fin cfg0.N) (h : t.val / 8 = t'.val / 8) : tile (X0_1 m c t) = tile (X0_1 m c t') := by
  have hN := lt_of_lt_of_eq t.isLt (show cfg0.N = 48 from N_0)
  funext y
  have hy : (y 0).val < 512 := (y 0).isLt
  rw [tile_apply m c t y (by omega), tile_apply m c t' y (by omega)]
  congr 3
  omega

/-- After point `n` the scratch holds the column's weight tile, and the output tile the product with it. -/
theorem outs_eq (c : Dev nD) : ∀ (n : ℕ) (h : n < cfg0.N),
    outsAt0 m c n h = (k0_pay5 (iblk m c 0 ⟨n, h⟩) (tile (X0_1 m c ⟨n, h⟩)), tile (X0_1 m c ⟨n, h⟩))
  | 0, h => by
    rw [outsAt0_A m c ⟨0, h⟩ rfl, out_A, scratch_A]
  | n + 1, h => by
    by_cases h0 : (n + 1) % 8 = 0
    · rw [outsAt0_A m c ⟨n + 1, h⟩ h0, out_A, scratch_A]
    · have ih := outs_eq c n (Nat.lt_of_succ_lt h)
      rw [outsAt0_B m c ⟨n + 1, h⟩ h0, out_B]
      show (k0_pay5 _ (outsAt0 m c n _).2, (outsAt0 m c n _).2) = _
      rw [ih, tile_congr m c ⟨n, Nat.lt_of_succ_lt h⟩ ⟨n + 1, h⟩ (by show n / 8 = (n + 1) / 8; omega)]

/-- The whole product of the rows with the branch's columns of the first weight matrix. -/
def product (x : S8704x4096.Idx → EReal) (w : S2x4096x16448.Idx → EReal) : S8704x3072.Idx → EReal := fun i =>
  ∑ k : Fin 4096, x (ix2 (i 0) k) * w (ix3 (0 : Fin 2) k (⟨(i 1).val, lt_of_lt_of_le (i 1).isLt (by decide)⟩ : Fin 16448))

/-- The result array is that product. -/
theorem G2_eq (c : Dev nD) : G2 m c = product (m ((c : Thread nD τ).loc main_arg0)) (m ((c : Thread nD τ).loc main_arg1)) := by
  funext i
  have h0 : (i 0).val < 8704 := (i 0).isLt
  have h1 : (i 1).val < 3072 := (i 1).isLt
  have hp : pt2Of i < cfg0.N := lt_of_lt_of_eq (by show 1 * ((i 0).val / 1088 - 0) + 8 * ((i 1).val / 512 - 0) < 48; omega) N_0.symm
  have hm : pt2Of i % 8 = (i 0).val / 1088 := by show (1 * ((i 0).val / 1088 - 0) + 8 * ((i 1).val / 512 - 0)) % 8 = _; omega
  have hd : pt2Of i / 8 = (i 1).val / 512 := by show (1 * ((i 0).val / 1088 - 0) + 8 * ((i 1).val / 512 - 0)) / 8 = _; omega
  unfold G2
  rw [dif_pos hp, ← outsAt0_sweep m c (pt2Of i) hp, outs_eq]
  refine (pay_apply _ _ (loc2Of i)).trans ?_
  unfold product
  refine Finset.sum_congr rfl fun k _ => ?_
  rw [iblk0_apply m c ⟨pt2Of i, hp⟩ (ix2 (loc2Of i 0) k) (by show pt2Of i % 8 * 1088 + (i 0).val % 1088 < 8704; omega),
    tile_apply m c ⟨pt2Of i, hp⟩ (ix2 (loc2Of i 1) k) (by show 512 * (pt2Of i / 8) + (i 1).val % 512 < 16448; omega)]
  congr 2
  · congr 1
    apply Fin.ext
    show pt2Of i % 8 * 1088 + (i 0).val % 1088 = (i 0).val
    omega
  · congr 1
    apply Fin.ext
    show 512 * (pt2Of i / 8) + (i 1).val % 512 = (i 1).val
    omega

end Cert.InProjAIdeal.Value

namespace Cert.InProjA

open Idealize.ShloMosaic Idealize.ShloMosaic.TcCoe Idealize.SL.Sem

/-- The reference changes no semaphore and leaves its arguments. -/
theorem quiescent : quiescent_InProjARefIdeal := fun m ρ _ =>
  (θ_run Cert.InProjARefIdeal.defs _ _).mono (fun r h => ⟨fun c => (h c).2, sem_eq_zero_of_no_sems (by decide) r.2⟩)
    (Cert.InProjARefIdeal.Value.run (F := Ideal) m ρ)

/-- Over the extended reals the kernel's result is the reference's. -/
theorem algebraic : algebraic_InProjAIdeal_InProjARefIdeal := by
  intro m ρ m' ρ' _ hagree
  refine ⟨_, Cert.InProjAIdeal.Value.run (F := Ideal) m ρ, ?_⟩
  refine (θ_run Cert.InProjARefIdeal.defs _ _).mono (fun _ h c => ⟨?_, (h c).2⟩) (Cert.InProjARefIdeal.Value.run (F := Ideal) m' ρ')
  rw [(h c).1]
  simp only [hagree c]
  rw [Cert.InProjAIdeal.Value.G2_eq]
  funext i
  pointwise [Cert.InProjAIdeal.Value.product]

end Cert.InProjA

end
-- ==== Proof.MergeGates.lean ====
/- The merge gates: the kernel leaves, tile by tile, the logistic of the product of the rows with the gate weights plus
   the bias, as the reference has it whole. -/
module

public import proofs.«01_k».proof.Defs
public import proofs.«01_k».proof.Proof.Gen.MergeGatesIdeal.Value
public import proofs.«01_k».proof.Proof.Gen.MergeGatesRefIdeal.Run
public import Idealize.ShloMosaic.Lib.Pointwise
public import Idealize.ShloMosaic.Lib.Quiescent
public import Idealize.ShloMosaic.Lib.Tactic
public import Idealize.ShloMosaic.Lib.Tactic.ValueTie

@[expose] public section

noncomputable section

namespace Cert.MergeGatesIdeal.Value

open Cert.MergeGatesIdeal Cert.MergeGatesIdeal.Gen Idealize.ShloMosaic Idealize.ShloMosaic.TcCoe Idealize.SL.Sem

theorem hz2 : (![0, 0] : Fin 2 → Nat) = fun _ => 0 := funext fun a => by fin_cases a <;> rfl

theorem hz3 : (![0, 0, 0] : Fin 3 → Nat) = fun _ => 0 := funext fun a => by fin_cases a <;> rfl

variable (m : (ℓ : Loc nD τ sig) → Buf (Elt Ideal) ℓ)

/-- The rounded copy of a weight tile: over the extended reals the tile itself, without its leading axis. -/
def tile (w : Vec Ideal S1x4096x512 .f32) : Vec Ideal S4096x512 .bf16 := fun j => w (ix3 (0 : Fin 1) (j 0) (j 1))

/-- A group of 512 rows of the tile, rounded: row `p` of the group that begins at row `b` is row `b + p` of the tile. -/
theorem rows_eq (w : Vec Ideal S1x4096x512 .f32) (b : Nat) (inb : ∀ a, (![b, 0] : Fin 2 → Nat) a + (![512, 512] : Fin 2 → Nat) a ≤ S4096x512.size a)
    (inb' : ∀ a, (![0, b, 0] : Fin 3 → Nat) a + (![1, 512, 512] : Fin 3 → Nat) a ≤ S1x4096x512.size a)
    (x : (Rect.unit (s := S4096x512) ![b, 0] ![512, 512] inb).shape.Idx) :
    k0_pay1 (F := Ideal) (View.ld w (Rect.unit ![0, b, 0] ![1, 512, 512] inb')) x = tile w ((Rect.unit ![b, 0] ![512, 512] inb).emb x) := by
  have e : k0_pay1 (F := Ideal) (View.ld w (Rect.unit ![0, b, 0] ![1, 512, 512] inb')) x =
      View.ld w (Rect.unit ![0, b, 0] ![1, 512, 512] inb') (ix3 (0 : Fin 1) (x 0) (x 1)) := by
    pointwise [k0_pay1]
  rw [e]
  show w _ = w _
  congr 1
  funext a
  apply Fin.ext
  match a with
  | ⟨0, _⟩ => rfl
  | ⟨1, _⟩ => rfl
  | ⟨2, _⟩ => rfl

section body

variable (c : Dev nD) (i : grid0.Coords) (arg2 : Memref sig .tc .vmem S1088x4096 .bf16) (harg2 : arg2.IsWhole)
  (arg3 : Memref sig .tc .vmem S1x4096x512 .f32) (harg3 : arg3.IsWhole) (arg4 : Memref sig .tc .vmem S1x1x512 .f32) (harg4 : arg4.IsWhole)
  (arg5 : Memref sig .tc .vmem S1088x512 .bf16) (harg5 : arg5.IsWhole) (arg6 : Memref sig .tc .vmem S4096x512 .bf16) (harg6 : arg6.IsWhole)
  (x0 : Vec Ideal S1088x4096 .bf16) (x1 : Vec Ideal S1x4096x512 .f32) (x2 : Vec Ideal S1x1x512 .f32)

/-- What the point that begins a column of tiles leaves in the scratch is the weight tile. -/
theorem scratch_A (hc0 : cond0_0 i) : sout0_A_0 c i arg2 harg2 arg3 harg3 arg4 harg4 arg5 harg5 arg6 harg6 hc0 x0 x1 x2 = tile x1 := by
  unfold sout0_A_0
  have hc := scover0_A_0 c i arg2 harg2 arg3 harg3 arg4 harg4 arg5 harg5 arg6 harg6 hc0 x0 x1 x2
  rw [View.read_writes_eq_canon _ _ _ hc]
  funext y
  revert hc
  unfold kernelRun0_A
  dsimp only
  sl_unfold_words
  simp only [View.readAt_eq_ld, harg3.read_unread]
  intro hc
  refine View.canon_apply_of_pieces (tile x1) _ ?_ y (hc y)
  intro p hp
  simp only [List.mem_cons, List.not_mem_nil, or_false] at hp
  rcases hp with rfl | rfl | rfl | rfl | rfl | rfl | rfl | rfl
  · exact rows_eq x1 3584 inb_S4096x512_S512x512_3584_0 inb_S1x4096x512_S1x512x512_0_3584_0
  · exact rows_eq x1 3072 inb_S4096x512_S512x512_3072_0 inb_S1x4096x512_S1x512x512_0_3072_0
  · exact rows_eq x1 2560 inb_S4096x512_S512x512_2560_0 inb_S1x4096x512_S1x512x512_0_2560_0
  · exact rows_eq x1 2048 inb_S4096x512_S512x512_2048_0 inb_S1x4096x512_S1x512x512_0_2048_0
  · exact rows_eq x1 1536 inb_S4096x512_S512x512_1536_0 inb_S1x4096x512_S1x512x512_0_1536_0
  · exact rows_eq x1 1024 inb_S4096x512_S512x512_1024_0 inb_S1x4096x512_S1x512x512_0_1024_0
  · exact rows_eq x1 512 inb_S4096x512_S512x512_512_0 inb_S1x4096x512_S1x512x512_0_512_0
  · exact rows_eq x1 0 inb_S4096x512_S512x512_0_0 inb_S1x4096x512_S1x512x512_0_0_0

/-- What it leaves in the output tile is the gate over the weight tile; -/
theorem out_A (hc0 : cond0_0 i) : out0_A_3 c i arg2 harg2 arg3 harg3 arg4 harg4 arg5 harg5 arg6 harg6 hc0 x0 x1 x2 = k0_pay4 x0 (tile x1) x2 := by
  have hs := scratch_A c i arg2 harg2 arg3 harg3 arg4 harg4 arg5 harg5 arg6 harg6 x0 x1 x2 hc0
  have hc := scover0_A_0 c i arg2 harg2 arg3 harg3 arg4 harg4 arg5 harg5 arg6 harg6 hc0 x0 x1 x2
  unfold sout0_A_0 at hs
  rw [View.read_writes_eq_canon _ _ _ hc] at hs
  unfold out0_A_3
  rw [View.read_writes_eq_canon _ _ _ (cover0_A_3 c i arg2 harg2 arg3 harg3 arg4 harg4 arg5 harg5 arg6 harg6 hc0 x0 x1 x2)]
  unfold kernelRun0_A at hs ⊢
  dsimp only at hs ⊢
  sl_unfold_words
  rw [View.canon_unit_zero hz2]
  have hr : ∀ L, View.canon L = tile x1 → arg6.view.readCov L (Rect.unit ![0, 0] S4096x512.size inb_S4096x512_S4096x512_0_0).toLoadRect = tile x1 := by
    intro L hL
    refine (View.readCov_eq_canon' _ _ _).trans (funext fun j => (congrFun hL _).trans (congrArg (tile x1) ?_))
    funext a
    apply Fin.ext
    match a with
    | ⟨0, _⟩ => show 0 + 1 * (j 0).val = (j 0).val; omega
    | ⟨1, _⟩ => show 0 + 1 * (j 1).val = (j 1).val; omega
  have e0 : View.readAt (Elt Ideal) arg2.view (Rect.unit ![0, 0] S1088x4096.size inb_S1088x4096_S1088x4096_0_0).toLoadRect (harg2.unread x0) = x0 := by
    simp only [View.readAt_eq_ld, harg2.read_unread, View.ld_unit_zero (S := S1088x4096) hz2]
  have e2 : View.readAt (Elt Ideal) arg4.view (Rect.unit ![0, 0, 0] S1x1x512.size inb_S1x1x512_S1x1x512_0_0_0).toLoadRect (harg4.unread x2) = x2 := by
    simp only [View.readAt_eq_ld, harg4.read_unread, View.ld_unit_zero (S := S1x1x512) hz3]
  have e1 := hr _ hs
  exact (congrArg₂ (fun a b => k0_pay4 a b _) e0 e1).trans (congrArg (k0_pay4 x0 (tile x1)) e2)

/-- and what the points after it leave there is the gate over what the scratch holds. -/
theorem out_B (hc0 : ¬cond0_0 i) (xs : Vec Ideal S4096x512 .bf16) : out0_B_3 c i arg2 harg2 arg3 harg3 arg4 harg4 arg5 harg5 arg6 harg6 hc0 x0 x1 x2 xs = k0_pay4 x0 xs x2 := by
  unfold out0_B_3
  rw [View.read_writes_eq_canon _ _ _ (cover0_B_3 c i arg2 harg2 arg3 harg3 arg4 harg4 arg5 harg5 arg6 harg6 hc0 x0 x1 x2 xs)]
  unfold kernelRun0_B
  dsimp only
  rw [View.canon_unit_zero hz2]
  simp only [View.readAt_eq_ld, harg2.read_unread, harg4.read_unread, harg6.read_unread, View.ld_unit_zero (S := S1088x4096) hz2,
    View.ld_unit_zero (S := S4096x512) hz2, View.ld_unit_zero (S := S1x1x512) hz3, shapeCast_self]

end body

/-- The gate of two tiles at an index. -/
theorem pay_apply (x : Vec Ideal S1088x4096 .bf16) (w : Vec Ideal S4096x512 .bf16) (b : Vec Ideal S1x1x512 .f32) (j : S1088x512.Idx) :
    k0_pay4 x w b j = Ideal.logistic ((∑ k : Fin 4096, x (ix2 (j 0) k) * w (ix2 k (j 1))) + b (ix3 (0 : Fin 1) (0 : Fin 1) (j 1))) := by
  pointwise [k0_pay4]

/-- The row tile that point `t` reads and the column tile of its weights and of its bias. -/
theorem index_facts : ∀ t : Fin cfg0.N, win0_0.index t (0 : Fin 2) = t.val % 8 ∧ win0_0.index t (1 : Fin 2) = 0
    ∧ win0_1.index t (0 : Fin 3) = 0 ∧ win0_1.index t (1 : Fin 3) = 0 ∧ win0_1.index t (2 : Fin 3) = t.val / 8
    ∧ win0_2.index t (0 : Fin 3) = 0 ∧ win0_2.index t (1 : Fin 3) = 0 ∧ win0_2.index t (2 : Fin 3) = t.val / 8 :=
  (by decide +kernel : ∀ t : Fin grid0.N, _)

/-- The bias that the region finds, its middle axis of extent one put in. -/
theorem V_main_v0 (c : Dev nD) : V m c main_v0 = shapeCast S2x1x12288 (m ((c : Thread nD τ).loc main_arg2)) shapeCasts_S2x12288_S2x1x12288 := by
  unfold V
  after_results <;> rfl

/-- Window 0's block at a point, at an index. -/
theorem iblk0_apply (c : Dev nD) (t : Fin cfg0.N) (y : S1088x4096.Idx) (h : t.val % 8 * 1088 + (y 0).val < 8704) :
    (iblk m c 0 t : Vec Ideal S1088x4096 .bf16) y = m ((c : Thread nD τ).loc main_arg0) (ix2 (⟨t.val % 8 * 1088 + (y 0).val, h⟩ : Fin 8704) (y 1)) := by
  obtain ⟨e0, e1, -⟩ := index_facts t
  show V m c main_arg0 (((cfg0.win 0).blk t).view.emb y) = _
  rw [V_main_arg0]
  congr 1
  funext a
  apply Fin.ext
  match a with
  | ⟨0, _⟩ => show win0_0.index t (0 : Fin 2) * 1088 + 1 * (y 0).val = t.val % 8 * 1088 + (y 0).val; omega
  | ⟨1, _⟩ => show win0_0.index t (1 : Fin 2) * 4096 + 1 * (y 1).val = (y 1).val; omega

/-- The weight tile at a point, at an index. -/
theorem tile_apply (c : Dev nD) (t : Fin cfg0.N) (y : S4096x512.Idx) (h : 512 * (t.val / 8) + (y 1).val < 12288) :
    tile (iblk m c 1 t) y = m ((c : Thread nD τ).loc main_arg1) (ix3 (0 : Fin 2) (y 0) (⟨512 * (t.val / 8) + (y 1).val, h⟩ : Fin 12288)) := by
  obtain ⟨-, -, e0, e1, e2, -⟩ := index_facts t
  show V m c main_arg1 (((cfg0.win 1).blk t).view.emb (ix3 (0 : Fin 1) (y 0) (y 1))) = _
  rw [V_main_arg1]
  congr 1
  funext a
  apply Fin.ext
  match a with
  | ⟨0, _⟩ => show win0_1.index t (0 : Fin 3) * 1 + 1 * 0 = 0; omega
  | ⟨1, _⟩ => show win0_1.index t (1 : Fin 3) * 4096 + 1 * (y 0).val = (y 0).val; omega
  | ⟨2, _⟩ => show win0_1.index t (2 : Fin 3) * 512 + 1 * (y 1).val = 512 * (t.val / 8) + (y 1).val; omega

/-- The bias's block at a point, at an index. -/
theorem iblk2_apply (c : Dev nD) (t : Fin cfg0.N) (r : Fin 512) (h : 512 * (t.val / 8) + r.val < 12288) :
    (iblk m c 2 t : Vec Ideal S1x1x512 .f32) (ix3 (0 : Fin 1) (0 : Fin 1) r)
      = m ((c : Thread nD τ).loc main_arg2) (ix2 (0 : Fin 2) (⟨512 * (t.val / 8) + r.val, h⟩ : Fin 12288)) := by
  obtain ⟨-, -, -, -, -, e0, e1, e2⟩ := index_facts t
  have e : ((cfg0.win 2).blk t).view.emb (ix3 (0 : Fin 1) (0 : Fin 1) r) = ix3 (0 : Fin 2) (0 : Fin 1) (⟨512 * (t.val / 8) + r.val, h⟩ : Fin 12288) := by
    funext a
    apply Fin.ext
    match a with
    | ⟨0, _⟩ => show win0_2.index t (0 : Fin 3) * 1 + 1 * 0 = 0; omega
    | ⟨1, _⟩ => show win0_2.index t (1 : Fin 3) * 1 + 1 * 0 = 0; omega
    | ⟨2, _⟩ => show win0_2.index t (2 : Fin 3) * 512 + 1 * r.val = 512 * (t.val / 8) + r.val; omega
  show V m c main_v0 (((cfg0.win 2).blk t).view.emb (ix3 (0 : Fin 1) (0 : Fin 1) r)) = _
  rw [V_main_v0, e]
  refine congrArg (m ((c : Thread nD τ).loc main_arg2)) (Shape.reshapeEquiv_eq_of_vals _ _ _ _ _ (rowMajor_val2 _ 12288 rfl) (rowMajor_val3 _ 12288 12288 rfl rfl) ?_)
  show 0 * 12288 + (512 * (t.val / 8) + r.val) = 0 * 12288 + 0 * 12288 + (512 * (t.val / 8) + r.val)
  omega

/-- Within a column of tiles the weight tile stays. -/
theorem tile_congr (c : Dev nD) (t t' : Fin cfg0.N) (h : t.val / 8 = t'.val / 8) : tile (iblk m c 1 t) = tile (iblk m c 1 t') := by
  have hN := lt_of_lt_of_eq t.isLt (show cfg0.N = 192 from N_0)
  funext y
  have hy : (y 1).val < 512 := (y 1).isLt
  rw [tile_apply m c t y (by omega), tile_apply m c t' y (by omega)]
  congr 3
  omega

/-- After point `n` the scratch holds the column's weight tile, and the output tile the gate over it. -/
theorem outs_eq (c : Dev nD) : ∀ (n : ℕ) (h : n < cfg0.N),
    outsAt0 m c n h = (k0_pay4 (iblk m c 0 ⟨n, h⟩) (tile (iblk m c 1 ⟨n, h⟩)) (iblk m c 2 ⟨n, h⟩), tile (iblk m c 1 ⟨n, h⟩))
  | 0, h => by
    rw [outsAt0_A m c ⟨0, h⟩ rfl, out_A, scratch_A]
  | n + 1, h => by
    by_cases h0 : (n + 1) % 8 = 0
    · rw [outsAt0_A m c ⟨n + 1, h⟩ h0, out_A, scratch_A]
    · have ih := outs_eq c n (Nat.lt_of_succ_lt h)
      rw [outsAt0_B m c ⟨n + 1, h⟩ h0, out_B]
      show (k0_pay4 _ (outsAt0 m c n _).2 _, (outsAt0 m c n _).2) = _
      rw [ih, tile_congr m c ⟨n, Nat.lt_of_succ_lt h⟩ ⟨n + 1, h⟩ (by show n / 8 = (n + 1) / 8; omega)]

/-- The gates, whole: the logistic of the product with the first gate weights plus the first bias. -/
def gates (x : S8704x4096.Idx → EReal) (w : S2x4096x12288.Idx → EReal) (b : S2x12288.Idx → EReal) : S8704x12288.Idx → EReal := fun i =>
  Ideal.logistic ((∑ k : Fin 4096, x (ix2 (i 0) k) * w (ix3 (0 : Fin 2) k (i 1))) + b (ix2 (0 : Fin 2) (i 1)))

/-- The result array is the gates. -/
theorem G3_eq (c : Dev nD) : G3 m c = gates (m ((c : Thread nD τ).loc main_arg0)) (m ((c : Thread nD τ).loc main_arg1)) (m ((c : Thread nD τ).loc main_arg2)) := by
  funext i
  have h0 : (i 0).val < 8704 := (i 0).isLt
  have h1 : (i 1).val < 12288 := (i 1).isLt
  have hp : pt3Of i < cfg0.N := lt_of_lt_of_eq (by show 1 * ((i 0).val / 1088 - 0) + 8 * ((i 1).val / 512 - 0) < 192; omega) N_0.symm
  have hm : pt3Of i % 8 = (i 0).val / 1088 := by show (1 * ((i 0).val / 1088 - 0) + 8 * ((i 1).val / 512 - 0)) % 8 = _; omega
  have hd : pt3Of i / 8 = (i 1).val / 512 := by show (1 * ((i 0).val / 1088 - 0) + 8 * ((i 1).val / 512 - 0)) / 8 = _; omega
  have hl : 512 * (pt3Of i / 8) + (i 1).val % 512 < 12288 := by omega
  have hr : pt3Of i % 8 * 1088 + (i 0).val % 1088 < 8704 := by omega
  have el : (⟨512 * (pt3Of i / 8) + (i 1).val % 512, hl⟩ : Fin 12288) = i 1 := Fin.ext (by show 512 * (pt3Of i / 8) + (i 1).val % 512 = (i 1).val; omega)
  have er : (⟨pt3Of i % 8 * 1088 + (i 0).val % 1088, hr⟩ : Fin 8704) = i 0 := Fin.ext (by show pt3Of i % 8 * 1088 + (i 0).val % 1088 = (i 0).val; omega)
  unfold G3
  rw [dif_pos hp, ← outsAt0_sweep m c (pt3Of i) hp, outs_eq]
  refine (pay_apply _ _ _ (loc3Of i)).trans ?_
  unfold gates
  refine congrArg Ideal.logistic (congrArg₂ (· + ·) (Finset.sum_congr rfl fun k _ => ?_) ?_)
  · refine congrArg₂ (· * ·) ((iblk0_apply m c ⟨pt3Of i, hp⟩ (ix2 (loc3Of i 0) k) hr).trans ?_) ((tile_apply m c ⟨pt3Of i, hp⟩ (ix2 k (loc3Of i 1)) hl).trans ?_)
    · exact congrArg (fun r => m ((c : Thread nD τ).loc main_arg0) (ix2 r k)) er
    · exact congrArg (fun r => m ((c : Thread nD τ).loc main_arg1) (ix3 (0 : Fin 2) k r)) el
  · exact (iblk2_apply m c ⟨pt3Of i, hp⟩ (loc3Of i 1) hl).trans (congrArg (fun r => m ((c : Thread nD τ).loc main_arg2) (ix2 (0 : Fin 2) r)) el)

end Cert.MergeGatesIdeal.Value

namespace Cert.MergeGates

open Idealize.ShloMosaic Idealize.ShloMosaic.TcCoe Idealize.SL.Sem

/-- The reference changes no semaphore and leaves its arguments. -/
theorem quiescent : quiescent_MergeGatesRefIdeal := fun m ρ _ =>
  (θ_run Cert.MergeGatesRefIdeal.defs _ _).mono (fun r h => ⟨fun c => (h c).2, sem_eq_zero_of_no_sems (by decide) r.2⟩)
    (Cert.MergeGatesRefIdeal.Value.run (F := Ideal) m ρ)

/-- Over the extended reals the kernel's result is the reference's. -/
theorem algebraic : algebraic_MergeGatesIdeal_MergeGatesRefIdeal := by
  intro m ρ m' ρ' _ hagree
  refine ⟨_, Cert.MergeGatesIdeal.Value.run (F := Ideal) m ρ, ?_⟩
  refine (θ_run Cert.MergeGatesRefIdeal.defs _ _).mono (fun _ h c => ⟨?_, (h c).2⟩) (Cert.MergeGatesRefIdeal.Value.run (F := Ideal) m' ρ')
  rw [(h c).1]
  simp only [hagree c]
  rw [Cert.MergeGatesIdeal.Value.G3_eq]
  funext i
  pointwise [Cert.MergeGatesIdeal.Value.gates]
  rfl

end Cert.MergeGates

end
-- ==== Proof.ProjMerge.lean ====
module

public import proofs.«01_k».proof.Defs
public import proofs.«01_k».proof.Proof.Gen.ProjMergeIdeal.Value
public import proofs.«01_k».proof.Proof.Gen.ProjMergeRefIdeal.Run
public import Idealize.ShloMosaic.Lib.Tactic.ValueTie

/- The gated merge: the kernel leaves, tile by tile, the sum of the three branches' products with their own weights, each
   times its gate, as the reference has it whole. -/

@[expose] public noncomputable section

namespace Cert.ProjMergeIdeal.Value

open Cert.ProjMergeIdeal Cert.ProjMergeIdeal.Gen Idealize.ShloMosaic Idealize.ShloMosaic.TcCoe Idealize.SL.Sem

theorem hz2 : (![0, 0] : Fin 2 → Nat) = fun _ => 0 := funext fun a => by fin_cases a <;> rfl

variable (m : (ℓ : Loc nD τ sig) → Buf (Elt Ideal) ℓ)

/-- A group of rows, rounded, at an index. -/
theorem group_eq (v : Vec Ideal S1x512x512 .f32) (x : S512x512.Idx) : k0_pay1 (F := Ideal) v x = v (ix3 (0 : Fin 1) (x 0) (x 1)) := by
  pointwise [k0_pay1]

/-- The rounded copy of a weight tile of 1024 rows: over the extended reals the tile itself, without its leading axis. -/
def tile1024 (w : Vec Ideal S1x1024x512 .f32) : Vec Ideal S1024x512 .bf16 := fun j => w (ix3 (0 : Fin 1) (j 0) (j 1))

/-- A group of 512 rows of such a tile, rounded: row `p` of the group that begins at row `b` is row `b + p` of the tile. -/
theorem rows1024_eq (w : Vec Ideal S1x1024x512 .f32) (b : Nat) (inb : ∀ a, (![b, 0] : Fin 2 → Nat) a + (![512, 512] : Fin 2 → Nat) a ≤ S1024x512.size a)
    (inb' : ∀ a, (![0, b, 0] : Fin 3 → Nat) a + (![1, 512, 512] : Fin 3 → Nat) a ≤ S1x1024x512.size a)
    (x : (Rect.unit (s := S1024x512) ![b, 0] ![512, 512] inb).shape.Idx) :
    k0_pay1 (F := Ideal) (View.ld w (Rect.unit ![0, b, 0] ![1, 512, 512] inb')) x = tile1024 w ((Rect.unit ![b, 0] ![512, 512] inb).emb x) := by
  rw [group_eq]
  show w _ = w _
  congr 1
  funext a
  apply Fin.ext
  match a with
  | ⟨0, _⟩ => rfl
  | ⟨1, _⟩ => rfl
  | ⟨2, _⟩ => rfl

/-- The rounded copy of a weight tile of 2048 rows: over the extended reals the tile itself, without its leading axis. -/
def tile2048 (w : Vec Ideal S1x2048x512 .f32) : Vec Ideal S2048x512 .bf16 := fun j => w (ix3 (0 : Fin 1) (j 0) (j 1))

/-- A group of 512 rows of such a tile, rounded: row `p` of the group that begins at row `b` is row `b + p` of the tile. -/
theorem rows2048_eq (w : Vec Ideal S1x2048x512 .f32) (b : Nat) (inb : ∀ a, (![b, 0] : Fin 2 → Nat) a + (![512, 512] : Fin 2 → Nat) a ≤ S2048x512.size a)
    (inb' : ∀ a, (![0, b, 0] : Fin 3 → Nat) a + (![1, 512, 512] : Fin 3 → Nat) a ≤ S1x2048x512.size a)
    (x : (Rect.unit (s := S2048x512) ![b, 0] ![512, 512] inb).shape.Idx) :
    k0_pay1 (F := Ideal) (View.ld w (Rect.unit ![0, b, 0] ![1, 512, 512] inb')) x = tile2048 w ((Rect.unit ![b, 0] ![512, 512] inb).emb x) := by
  rw [group_eq]
  show w _ = w _
  congr 1
  funext a
  apply Fin.ext
  match a with
  | ⟨0, _⟩ => rfl
  | ⟨1, _⟩ => rfl
  | ⟨2, _⟩ => rfl

/-- The rectangle of the whole scratch of 1024 rows sends an index to itself. -/
theorem emb1024_eq (j : S1024x512.Idx) : (Rect.unit (s := S1024x512) ![0, 0] S1024x512.size inb_S1024x512_S1024x512_0_0).toLoadRect.idx j = j := by
  funext a
  apply Fin.ext
  match a with
  | ⟨0, _⟩ => show 0 + 1 * (j 0).val = (j 0).val; omega
  | ⟨1, _⟩ => show 0 + 1 * (j 1).val = (j 1).val; omega

/-- The rectangle of the whole scratch of 2048 rows sends an index to itself. -/
theorem emb2048_eq (j : S2048x512.Idx) : (Rect.unit (s := S2048x512) ![0, 0] S2048x512.size inb_S2048x512_S2048x512_0_0).toLoadRect.idx j = j := by
  funext a
  apply Fin.ext
  match a with
  | ⟨0, _⟩ => show 0 + 1 * (j 0).val = (j 0).val; omega
  | ⟨1, _⟩ => show 0 + 1 * (j 1).val = (j 1).val; omega

section body

variable (c : Dev nD) (i : grid0.Coords) (arg2 : Memref sig .tc .vmem S1088x1024 .bf16) (harg2 : arg2.IsWhole) (arg3 : Memref sig .tc .vmem S1088x1024 .bf16) (harg3 : arg3.IsWhole)
   (arg4 : Memref sig .tc .vmem S1088x2048 .bf16) (harg4 : arg4.IsWhole) (arg5 : Memref sig .tc .vmem S1x1024x512 .f32) (harg5 : arg5.IsWhole)
   (arg6 : Memref sig .tc .vmem S1x1024x512 .f32) (harg6 : arg6.IsWhole) (arg7 : Memref sig .tc .vmem S1x2048x512 .f32) (harg7 : arg7.IsWhole)
   (arg8 : Memref sig .tc .vmem S1088x512 .bf16) (harg8 : arg8.IsWhole) (arg9 : Memref sig .tc .vmem S1088x512 .bf16) (harg9 : arg9.IsWhole)
   (arg10 : Memref sig .tc .vmem S1088x512 .bf16) (harg10 : arg10.IsWhole) (arg11 : Memref sig .tc .vmem S1088x512 .bf16) (harg11 : arg11.IsWhole)
   (arg12 : Memref sig .tc .vmem S1024x512 .bf16) (harg12 : arg12.IsWhole) (arg13 : Memref sig .tc .vmem S1024x512 .bf16) (harg13 : arg13.IsWhole)
   (arg14 : Memref sig .tc .vmem S2048x512 .bf16) (harg14 : arg14.IsWhole)
  (x0 : Vec Ideal S1088x1024 .bf16) (x1 : Vec Ideal S1088x1024 .bf16) (x2 : Vec Ideal S1088x2048 .bf16) (x3 : Vec Ideal S1x1024x512 .f32) (x4 : Vec Ideal S1x1024x512 .f32) (x5 : Vec Ideal S1x2048x512 .f32) (x6 : Vec Ideal S1088x512 .bf16) (x7 : Vec Ideal S1088x512 .bf16) (x8 : Vec Ideal S1088x512 .bf16)

/-- What the point that begins a column of tiles leaves in scratch 0 is that weight tile; -/
theorem scratch_A_0 (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = tile1024 x3 := by
  unfold sout0_A_0
  have hc := scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
  rw [View.read_writes_eq_canon _ _ _ hc]
  funext y
  refine View.canon_apply_of_pieces (tile1024 x3) _ ?_ y (hc y)
  revert hc
  unfold kernelRun0_A
  dsimp only
  sl_unfold_words
  simp only [View.readAt_eq_ld, harg5.read_unread, harg6.read_unread, harg7.read_unread]
  intro hc p hp
  simp only [List.mem_cons, List.not_mem_nil, or_false] at hp
  rcases hp with rfl | rfl
  · exact rows1024_eq x3 512 inb_S1024x512_S512x512_512_0 inb_S1x1024x512_S1x512x512_0_512_0
  · exact rows1024_eq x3 0 inb_S1024x512_S512x512_0_0 inb_S1x1024x512_S1x512x512_0_0_0

/-- What the point that begins a column of tiles leaves in scratch 1 is that weight tile; -/
theorem scratch_A_1 (hc0 : cond0_0 i) : sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = tile1024 x4 := by
  unfold sout0_A_1
  have hc := scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
  rw [View.read_writes_eq_canon _ _ _ hc]
  funext y
  refine View.canon_apply_of_pieces (tile1024 x4) _ ?_ y (hc y)
  revert hc
  unfold kernelRun0_A
  dsimp only
  sl_unfold_words
  simp only [View.readAt_eq_ld, harg5.read_unread, harg6.read_unread, harg7.read_unread]
  intro hc p hp
  simp only [List.mem_cons, List.not_mem_nil, or_false] at hp
  rcases hp with rfl | rfl
  · exact rows1024_eq x4 512 inb_S1024x512_S512x512_512_0 inb_S1x1024x512_S1x512x512_0_512_0
  · exact rows1024_eq x4 0 inb_S1024x512_S512x512_0_0 inb_S1x1024x512_S1x512x512_0_0_0

/-- What the point that begins a column of tiles leaves in scratch 2 is that weight tile; -/
theorem scratch_A_2 (hc0 : cond0_0 i) : sout0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = tile2048 x5 := by
  unfold sout0_A_2
  have hc := scover0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8
  rw [View.read_writes_eq_canon _ _ _ hc]
  funext y
  refine View.canon_apply_of_pieces (tile2048 x5) _ ?_ y (hc y)
  revert hc
  unfold kernelRun0_A
  dsimp only
  sl_unfold_words
  simp only [View.readAt_eq_ld, harg5.read_unread, harg6.read_unread, harg7.read_unread]
  intro hc p hp
  simp only [List.mem_cons, List.not_mem_nil, or_false] at hp
  rcases hp with rfl | rfl | rfl | rfl
  · exact rows2048_eq x5 1536 inb_S2048x512_S512x512_1536_0 inb_S1x2048x512_S1x512x512_0_1536_0
  · exact rows2048_eq x5 1024 inb_S2048x512_S512x512_1024_0 inb_S1x2048x512_S1x512x512_0_1024_0
  · exact rows2048_eq x5 512 inb_S2048x512_S512x512_512_0 inb_S1x2048x512_S1x512x512_0_512_0
  · exact rows2048_eq x5 0 inb_S2048x512_S512x512_0_0 inb_S1x2048x512_S1x512x512_0_0_0

/-- and what it leaves in the output tile is the merge over the three weight tiles. -/
theorem out_A (hc0 : cond0_0 i) : out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay4 x6 x0 (tile1024 x3) x7 x1 (tile1024 x4) x8 x2 (tile2048 x5) := by
  have hs0 := scratch_A_0 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0
  have hs1 := scratch_A_1 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0
  have hs2 := scratch_A_2 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 hc0
  unfold sout0_A_0 at hs0
  unfold sout0_A_1 at hs1
  unfold sout0_A_2 at hs2
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)] at hs0
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)] at hs1
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)] at hs2
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A at hs0 hs1 hs2 ⊢
  dsimp only at hs0 hs1 hs2 ⊢
  sl_unfold_words
  rw [View.canon_unit_zero hz2]
  have hr12 : ∀ L, View.canon L = tile1024 x3 → arg12.view.readCov L (Rect.unit ![0, 0] S1024x512.size inb_S1024x512_S1024x512_0_0).toLoadRect = tile1024 x3 := fun L hL =>
    (View.readCov_eq_canon' _ _ _).trans (funext fun j => (congrFun hL _).trans (congrArg (tile1024 x3) (emb1024_eq j)))
  have hr13 : ∀ L, View.canon L = tile1024 x4 → arg13.view.readCov L (Rect.unit ![0, 0] S1024x512.size inb_S1024x512_S1024x512_0_0).toLoadRect = tile1024 x4 := fun L hL =>
    (View.readCov_eq_canon' _ _ _).trans (funext fun j => (congrFun hL _).trans (congrArg (tile1024 x4) (emb1024_eq j)))
  have hr14 : ∀ L, View.canon L = tile2048 x5 → arg14.view.readCov L (Rect.unit ![0, 0] S2048x512.size inb_S2048x512_S2048x512_0_0).toLoadRect = tile2048 x5 := fun L hL =>
    (View.readCov_eq_canon' _ _ _).trans (funext fun j => (congrFun hL _).trans (congrArg (tile2048 x5) (emb2048_eq j)))
  have e0 := hr12 _ hs0
  have e1 := hr13 _ hs1
  have e2 := hr14 _ hs2
  simp only [View.readAt_eq_ld, harg2.read_unread, harg3.read_unread, harg4.read_unread, harg8.read_unread, harg9.read_unread, harg10.read_unread,
    View.ld_unit_zero (S := S1088x1024) hz2, View.ld_unit_zero (S := S1088x2048) hz2,
    View.ld_unit_zero (S := S1088x512) hz2]
  refine (congrArg (fun w => k0_pay4 x6 x0 w x7 x1 _ x8 x2 _) e0).trans ?_
  refine (congrArg (fun w => k0_pay4 x6 x0 _ x7 x1 w x8 x2 _) e1).trans ?_
  exact congrArg (fun w => k0_pay4 x6 x0 _ x7 x1 _ x8 x2 w) e2

/-- What the points after it leave there is the merge over what the scratches hold. -/
theorem out_B (hc0 : ¬cond0_0 i) (xs0 xs1 : Vec Ideal S1024x512 .bf16) (xs2 : Vec Ideal S2048x512 .bf16) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2 = k0_pay4 x6 x0 xs0 x7 x1 xs1 x8 x2 xs2 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 xs2)]
  unfold kernelRun0_B
  dsimp only
  rw [View.canon_unit_zero hz2]
  simp only [View.readAt_eq_ld, harg2.read_unread, harg3.read_unread, harg4.read_unread, harg8.read_unread, harg9.read_unread, harg10.read_unread,
    harg12.read_unread, harg13.read_unread, harg14.read_unread, View.ld_unit_zero (S := S1024x512) hz2, View.ld_unit_zero (S := S2048x512) hz2,
    View.ld_unit_zero (S := S1088x1024) hz2, View.ld_unit_zero (S := S1088x2048) hz2,
    View.ld_unit_zero (S := S1088x512) hz2, shapeCast_self]

end body

/-- The merge of a tile at an index. -/
theorem pay_apply (g1 g2 g3 : Vec Ideal S1088x512 .bf16) (y1 y2 : Vec Ideal S1088x1024 .bf16) (y3 : Vec Ideal S1088x2048 .bf16)
    (w1 w2 : Vec Ideal S1024x512 .bf16) (w3 : Vec Ideal S2048x512 .bf16) (j : S1088x512.Idx) :
    k0_pay4 g1 y1 w1 g2 y2 w2 g3 y3 w3 j = (g1 j * ∑ k : Fin 1024, y1 (ix2 (j 0) k) * w1 (ix2 k (j 1)))
      + (g2 j * ∑ k : Fin 1024, y2 (ix2 (j 0) k) * w2 (ix2 k (j 1))) + g3 j * ∑ k : Fin 2048, y3 (ix2 (j 0) k) * w3 (ix2 k (j 1)) := by
  pointwise [k0_pay4]

/-- The tiles that point `t` reads. -/
theorem index_facts : ∀ t : Fin cfg0.N, (win0_0.index t (0 : Fin 2) = t.val % 8 ∧ win0_0.index t (1 : Fin 2) = 0)
    ∧ (win0_1.index t (0 : Fin 2) = t.val % 8 ∧ win0_1.index t (1 : Fin 2) = 0)
    ∧ (win0_2.index t (0 : Fin 2) = t.val % 8 ∧ win0_2.index t (1 : Fin 2) = 0)
    ∧ (win0_3.index t (0 : Fin 3) = 0 ∧ win0_3.index t (1 : Fin 3) = 0 ∧ win0_3.index t (2 : Fin 3) = t.val / 8)
    ∧ (win0_4.index t (0 : Fin 3) = 0 ∧ win0_4.index t (1 : Fin 3) = 0 ∧ win0_4.index t (2 : Fin 3) = t.val / 8)
    ∧ (win0_5.index t (0 : Fin 3) = 0 ∧ win0_5.index t (1 : Fin 3) = 0 ∧ win0_5.index t (2 : Fin 3) = t.val / 8)
    ∧ (win0_6.index t (0 : Fin 2) = t.val % 8 ∧ win0_6.index t (1 : Fin 2) = t.val / 8)
    ∧ (win0_7.index t (0 : Fin 2) = t.val % 8 ∧ win0_7.index t (1 : Fin 2) = t.val / 8 + 8)
    ∧ (win0_8.index t (0 : Fin 2) = t.val % 8 ∧ win0_8.index t (1 : Fin 2) = t.val / 8 + 16) :=
  (by decide +kernel : ∀ t : Fin grid0.N, _)

/-- Window 0's block at a point, at an index. -/
theorem iblk0_apply (c : Dev nD) (t : Fin cfg0.N) (y : S1088x1024.Idx) (h : t.val % 8 * 1088 + (y 0).val < 8704) :
    (iblk m c 0 t : Vec Ideal S1088x1024 .bf16) y = m ((c : Thread nD τ).loc main_arg0) (ix2 (⟨t.val % 8 * 1088 + (y 0).val, h⟩ : Fin 8704) (y 1)) := by
  obtain ⟨e, -⟩ := index_facts t
  show V m c main_arg0 (((cfg0.win 0).blk t).view.emb y) = _
  rw [V_main_arg0]
  congr 1
  funext a
  apply Fin.ext
  match a with
  | ⟨0, _⟩ => show win0_0.index t (0 : Fin 2) * 1088 + 1 * (y 0).val = t.val % 8 * 1088 + (y 0).val; omega
  | ⟨1, _⟩ => show win0_0.index t (1 : Fin 2) * 1024 + 1 * (y 1).val = (y 1).val; omega

/-- Window 1's block at a point, at an index. -/
theorem iblk1_apply (c : Dev nD) (t : Fin cfg0.N) (y : S1088x1024.Idx) (h : t.val % 8 * 1088 + (y 0).val < 8704) :
    (iblk m c 1 t : Vec Ideal S1088x1024 .bf16) y = m ((c : Thread nD τ).loc main_arg1) (ix2 (⟨t.val % 8 * 1088 + (y 0).val, h⟩ : Fin 8704) (y 1)) := by
  obtain ⟨-, e, -⟩ := index_facts t
  show V m c main_arg1 (((cfg0.win 1).blk t).view.emb y) = _
  rw [V_main_arg1]
  congr 1
  funext a
  apply Fin.ext
  match a with
  | ⟨0, _⟩ => show win0_1.index t (0 : Fin 2) * 1088 + 1 * (y 0).val = t.val % 8 * 1088 + (y 0).val; omega
  | ⟨1, _⟩ => show win0_1.index t (1 : Fin 2) * 1024 + 1 * (y 1).val = (y 1).val; omega

/-- Window 2's block at a point, at an index: its array has more rows than the tiles reach. -/
theorem blk2_apply (c : Dev nD) (t : Fin cfg0.N) (y : S1088x2048.Idx) (h : t.val % 8 * 1088 + (y 0).val < 12288) :
    X0_2 m c t y = m ((c : Thread nD τ).loc main_arg2) (ix2 (⟨t.val % 8 * 1088 + (y 0).val, h⟩ : Fin 12288) (y 1)) := by
  obtain ⟨-, -, e, -⟩ := index_facts t
  have hm := (cfg0.win 2).moved_iff (cfg0.grid.coords t) y |>.mp (moved0_2 t _)
  unfold X0_2 Pipeline.Window.fill
  rw [dif_pos (moved0_2 t _)]
  show V m c main_arg2 (((cfg0.win 2).blk t).view.emb (fun a => ⟨y a, hm a⟩)) = _
  rw [V_main_arg2]
  congr 1
  funext a
  apply Fin.ext
  match a with
  | ⟨0, _⟩ => show win0_2.index t (0 : Fin 2) * 1088 + 1 * (y 0).val = t.val % 8 * 1088 + (y 0).val; omega
  | ⟨1, _⟩ => show win0_2.index t (1 : Fin 2) * 2048 + 1 * (y 1).val = (y 1).val; omega

/-- Weight tile 3 at a point, at an index. -/
theorem tile3_apply (c : Dev nD) (t : Fin cfg0.N) (y : S1024x512.Idx) (h : 512 * (t.val / 8) + (y 1).val < 4096) :
    tile1024 (iblk m c 3 t) y = m ((c : Thread nD τ).loc main_arg3) (ix3 (0 : Fin 2) (y 0) (⟨512 * (t.val / 8) + (y 1).val, h⟩ : Fin 4096)) := by
  obtain ⟨-, -, -, e, -⟩ := index_facts t
  show V m c main_arg3 (((cfg0.win 3).blk t).view.emb (ix3 (0 : Fin 1) (y 0) (y 1))) = _
  rw [V_main_arg3]
  congr 1
  funext a
  apply Fin.ext
  match a with
  | ⟨0, _⟩ => show win0_3.index t (0 : Fin 3) * 1 + 1 * 0 = 0; omega
  | ⟨1, _⟩ => show win0_3.index t (1 : Fin 3) * 1024 + 1 * (y 0).val = (y 0).val; omega
  | ⟨2, _⟩ => show win0_3.index t (2 : Fin 3) * 512 + 1 * (y 1).val = 512 * (t.val / 8) + (y 1).val; omega

/-- Within a column of tiles it stays. -/
theorem tile3_congr (c : Dev nD) (t t' : Fin cfg0.N) (h : t.val / 8 = t'.val / 8) : tile1024 (iblk m c 3 t) = tile1024 (iblk m c 3 t') := by
  have hN := lt_of_lt_of_eq t.isLt (show cfg0.N = 64 from N_0)
  funext y
  have hy : (y 1).val < 512 := (y 1).isLt
  rw [tile3_apply m c t y (by omega), tile3_apply m c t' y (by omega)]
  congr 3
  omega

/-- Weight tile 4 at a point, at an index. -/
theorem tile4_apply (c : Dev nD) (t : Fin cfg0.N) (y : S1024x512.Idx) (h : 512 * (t.val / 8) + (y 1).val < 4096) :
    tile1024 (iblk m c 4 t) y = m ((c : Thread nD τ).loc main_arg4) (ix3 (0 : Fin 2) (y 0) (⟨512 * (t.val / 8) + (y 1).val, h⟩ : Fin 4096)) := by
  obtain ⟨-, -, -, -, e, -⟩ := index_facts t
  show V m c main_arg4 (((cfg0.win 4).blk t).view.emb (ix3 (0 : Fin 1) (y 0) (y 1))) = _
  rw [V_main_arg4]
  congr 1
  funext a
  apply Fin.ext
  match a with
  | ⟨0, _⟩ => show win0_4.index t (0 : Fin 3) * 1 + 1 * 0 = 0; omega
  | ⟨1, _⟩ => show win0_4.index t (1 : Fin 3) * 1024 + 1 * (y 0).val = (y 0).val; omega
  | ⟨2, _⟩ => show win0_4.index t (2 : Fin 3) * 512 + 1 * (y 1).val = 512 * (t.val / 8) + (y 1).val; omega

/-- Within a column of tiles it stays. -/
theorem tile4_congr (c : Dev nD) (t t' : Fin cfg0.N) (h : t.val / 8 = t'.val / 8) : tile1024 (iblk m c 4 t) = tile1024 (iblk m c 4 t') := by
  have hN := lt_of_lt_of_eq t.isLt (show cfg0.N = 64 from N_0)
  funext y
  have hy : (y 1).val < 512 := (y 1).isLt
  rw [tile4_apply m c t y (by omega), tile4_apply m c t' y (by omega)]
  congr 3
  omega

/-- Weight tile 5 at a point, at an index. -/
theorem tile5_apply (c : Dev nD) (t : Fin cfg0.N) (y : S2048x512.Idx) (h : 512 * (t.val / 8) + (y 1).val < 4096) :
    tile2048 (iblk m c 5 t) y = m ((c : Thread nD τ).loc main_arg5) (ix3 (0 : Fin 2) (y 0) (⟨512 * (t.val / 8) + (y 1).val, h⟩ : Fin 4096)) := by
  obtain ⟨-, -, -, -, -, e, -⟩ := index_facts t
  show V m c main_arg5 (((cfg0.win 5).blk t).view.emb (ix3 (0 : Fin 1) (y 0) (y 1))) = _
  rw [V_main_arg5]
  congr 1
  funext a
  apply Fin.ext
  match a with
  | ⟨0, _⟩ => show win0_5.index t (0 : Fin 3) * 1 + 1 * 0 = 0; omega
  | ⟨1, _⟩ => show win0_5.index t (1 : Fin 3) * 2048 + 1 * (y 0).val = (y 0).val; omega
  | ⟨2, _⟩ => show win0_5.index t (2 : Fin 3) * 512 + 1 * (y 1).val = 512 * (t.val / 8) + (y 1).val; omega

/-- Within a column of tiles it stays. -/
theorem tile5_congr (c : Dev nD) (t t' : Fin cfg0.N) (h : t.val / 8 = t'.val / 8) : tile2048 (iblk m c 5 t) = tile2048 (iblk m c 5 t') := by
  have hN := lt_of_lt_of_eq t.isLt (show cfg0.N = 64 from N_0)
  funext y
  have hy : (y 1).val < 512 := (y 1).isLt
  rw [tile5_apply m c t y (by omega), tile5_apply m c t' y (by omega)]
  congr 3
  omega

/-- Gate tile 6 at a point, at an index. -/
theorem gate6_apply (c : Dev nD) (t : Fin cfg0.N) (y : S1088x512.Idx) (h : t.val % 8 * 1088 + (y 0).val < 8704) (h' : 512 * (t.val / 8) + (y 1).val + 0 < 12288) :
    (iblk m c 6 t : Vec Ideal S1088x512 .bf16) y = m ((c : Thread nD τ).loc main_arg6) (ix2 (⟨t.val % 8 * 1088 + (y 0).val, h⟩ : Fin 8704) (⟨512 * (t.val / 8) + (y 1).val + 0, h'⟩ : Fin 12288)) := by
  obtain ⟨-, -, -, -, -, -, e, -⟩ := index_facts t
  show V m c main_arg6 (((cfg0.win 6).blk t).view.emb y) = _
  rw [V_main_arg6]
  congr 1
  funext a
  apply Fin.ext
  match a with
  | ⟨0, _⟩ => show win0_6.index t (0 : Fin 2) * 1088 + 1 * (y 0).val = t.val % 8 * 1088 + (y 0).val; omega
  | ⟨1, _⟩ => show win0_6.index t (1 : Fin 2) * 512 + 1 * (y 1).val = 512 * (t.val / 8) + (y 1).val + 0; omega

/-- Gate tile 7 at a point, at an index. -/
theorem gate7_apply (c : Dev nD) (t : Fin cfg0.N) (y : S1088x512.Idx) (h : t.val % 8 * 1088 + (y 0).val < 8704) (h' : 512 * (t.val / 8) + (y 1).val + 4096 < 12288) :
    (iblk m c 7 t : Vec Ideal S1088x512 .bf16) y = m ((c : Thread nD τ).loc main_arg6) (ix2 (⟨t.val % 8 * 1088 + (y 0).val, h⟩ : Fin 8704) (⟨512 * (t.val / 8) + (y 1).val + 4096, h'⟩ : Fin 12288)) := by
  obtain ⟨-, -, -, -, -, -, -, e, -⟩ := index_facts t
  show V m c main_arg6 (((cfg0.win 7).blk t).view.emb y) = _
  rw [V_main_arg6]
  congr 1
  funext a
  apply Fin.ext
  match a with
  | ⟨0, _⟩ => show win0_7.index t (0 : Fin 2) * 1088 + 1 * (y 0).val = t.val % 8 * 1088 + (y 0).val; omega
  | ⟨1, _⟩ => show win0_7.index t (1 : Fin 2) * 512 + 1 * (y 1).val = 512 * (t.val / 8) + (y 1).val + 4096; omega

/-- Gate tile 8 at a point, at an index. -/
theorem gate8_apply (c : Dev nD) (t : Fin cfg0.N) (y : S1088x512.Idx) (h : t.val % 8 * 1088 + (y 0).val < 8704) (h' : 512 * (t.val / 8) + (y 1).val + 8192 < 12288) :
    (iblk m c 8 t : Vec Ideal S1088x512 .bf16) y = m ((c : Thread nD τ).loc main_arg6) (ix2 (⟨t.val % 8 * 1088 + (y 0).val, h⟩ : Fin 8704) (⟨512 * (t.val / 8) + (y 1).val + 8192, h'⟩ : Fin 12288)) := by
  obtain ⟨-, -, -, -, -, -, -, -, e⟩ := index_facts t
  show V m c main_arg6 (((cfg0.win 8).blk t).view.emb y) = _
  rw [V_main_arg6]
  congr 1
  funext a
  apply Fin.ext
  match a with
  | ⟨0, _⟩ => show win0_8.index t (0 : Fin 2) * 1088 + 1 * (y 0).val = t.val % 8 * 1088 + (y 0).val; omega
  | ⟨1, _⟩ => show win0_8.index t (1 : Fin 2) * 512 + 1 * (y 1).val = 512 * (t.val / 8) + (y 1).val + 8192; omega

/-- The merge of point `t`'s tile. -/
def mergeAt (c : Dev nD) (t : Fin cfg0.N) : Vec Ideal S1088x512 .bf16 :=
  k0_pay4 (iblk m c 6 t) (iblk m c 0 t) (tile1024 (iblk m c 3 t)) (iblk m c 7 t) (iblk m c 1 t) (tile1024 (iblk m c 4 t)) (iblk m c 8 t) (X0_2 m c t)
    (tile2048 (iblk m c 5 t))

/-- After point `n` the scratches hold the column's weight tiles, and the output tile the merge over them. -/
theorem outs_eq (c : Dev nD) : ∀ (n : ℕ) (h : n < cfg0.N), outsAt0 m c n h =
      (mergeAt m c ⟨n, h⟩, tile1024 (iblk m c 3 ⟨n, h⟩), tile1024 (iblk m c 4 ⟨n, h⟩), tile2048 (iblk m c 5 ⟨n, h⟩))
  | 0, h => by
    rw [outsAt0_A m c ⟨0, h⟩ rfl, out_A, scratch_A_0, scratch_A_1, scratch_A_2]
    rfl
  | n + 1, h => by
    by_cases h0 : (n + 1) % 8 = 0
    · rw [outsAt0_A m c ⟨n + 1, h⟩ h0, out_A, scratch_A_0, scratch_A_1, scratch_A_2]
      rfl
    · have ih := outs_eq c n (Nat.lt_of_succ_lt h)
      have hd : n / 8 = (n + 1) / 8 := by omega
      rw [outsAt0_B m c ⟨n + 1, h⟩ h0, out_B]
      show (k0_pay4 _ _ (outsAt0 m c n _).2.1 _ _ (outsAt0 m c n _).2.2.1 _ _ (outsAt0 m c n _).2.2.2, (outsAt0 m c n _).2.1, (outsAt0 m c n _).2.2.1, (outsAt0 m c n _).2.2.2) = _
      rw [ih, tile3_congr m c ⟨n, Nat.lt_of_succ_lt h⟩ ⟨n + 1, h⟩ hd, tile4_congr m c ⟨n, Nat.lt_of_succ_lt h⟩ ⟨n + 1, h⟩ hd,
        tile5_congr m c ⟨n, Nat.lt_of_succ_lt h⟩ ⟨n + 1, h⟩ hd]
      rfl

/-- The merge of the three branches, whole: gate columns `0`, `4096` and `8192` on belong to them in turn. -/
def merged (y1 y2 : S8704x1024.Idx → EReal) (y3 : S12288x2048.Idx → EReal) (w1 w2 : S2x1024x4096.Idx → EReal) (w3 : S2x2048x4096.Idx → EReal)
    (g : S8704x12288.Idx → EReal) : S8704x4096.Idx → EReal := fun i =>
  (g (ix2 (i 0) (⟨(i 1).val, lt_of_lt_of_le (i 1).isLt (by decide)⟩ : Fin 12288)) * ∑ k : Fin 1024, y1 (ix2 (i 0) k) * w1 (ix3 (0 : Fin 2) k (i 1)))
    + (g (ix2 (i 0) (⟨4096 + (i 1).val, lt_of_lt_of_le (Nat.add_lt_add_left (i 1).isLt 4096) (by decide)⟩ : Fin 12288))
        * ∑ k : Fin 1024, y2 (ix2 (i 0) k) * w2 (ix3 (0 : Fin 2) k (i 1)))
    + g (ix2 (i 0) (⟨8192 + (i 1).val, lt_of_lt_of_le (Nat.add_lt_add_left (i 1).isLt 8192) (by decide)⟩ : Fin 12288))
        * ∑ k : Fin 2048, y3 (ix2 (⟨(i 0).val, lt_of_lt_of_le (i 0).isLt (by decide)⟩ : Fin 12288) k) * w3 (ix3 (0 : Fin 2) k (i 1))

/-- The result array is that merge. -/
theorem G9_eq (c : Dev nD) : G9 m c = merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := by
  funext i
  have h0 : (i 0).val < 8704 := (i 0).isLt
  have h1 : (i 1).val < 4096 := (i 1).isLt
  have hp : pt9Of i < cfg0.N := lt_of_lt_of_eq (by show 1 * ((i 0).val / 1088 - 0) + 8 * ((i 1).val / 512 - 0) < 64; omega) N_0.symm
  have hm : pt9Of i % 8 = (i 0).val / 1088 := by show (1 * ((i 0).val / 1088 - 0) + 8 * ((i 1).val / 512 - 0)) % 8 = _; omega
  have hd : pt9Of i / 8 = (i 1).val / 512 := by show (1 * ((i 0).val / 1088 - 0) + 8 * ((i 1).val / 512 - 0)) / 8 = _; omega
  have vl : 512 * (pt9Of i / 8) + (i 1).val % 512 = (i 1).val := by omega
  have vr : pt9Of i % 8 * 1088 + (i 0).val % 1088 = (i 0).val := by omega
  have hl : 512 * (pt9Of i / 8) + (i 1).val % 512 < 4096 := by omega
  have hr : pt9Of i % 8 * 1088 + (i 0).val % 1088 < 8704 := by omega
  have el : (⟨512 * (pt9Of i / 8) + (i 1).val % 512, hl⟩ : Fin 4096) = i 1 := Fin.ext vl
  have er : (⟨pt9Of i % 8 * 1088 + (i 0).val % 1088, hr⟩ : Fin 8704) = i 0 := Fin.ext vr
  unfold G9
  rw [dif_pos hp, ← outsAt0_sweep m c (pt9Of i) hp, outs_eq]
  unfold mergeAt
  refine (pay_apply _ _ _ _ _ _ _ _ _ (loc9Of i)).trans ?_
  unfold merged
  refine congrArg₂ (· + ·) (congrArg₂ (· + ·) ?_ ?_) ?_
  · refine congrArg₂ (· * ·) ((gate6_apply m c ⟨pt9Of i, hp⟩ (loc9Of i) hr (by show 512 * (pt9Of i / 8) + (i 1).val % 512 + 0 < 12288; omega)).trans ?_) (Finset.sum_congr rfl fun k _ => ?_)
    · exact congrArg₂ (fun r l => m ((c : Thread nD τ).loc main_arg6) (ix2 r l)) er (Fin.ext (by show 512 * (pt9Of i / 8) + (i 1).val % 512 + 0 = (i 1).val; omega))
    · refine congrArg₂ (· * ·) ((iblk0_apply m c ⟨pt9Of i, hp⟩ (ix2 (loc9Of i 0) k) hr).trans ?_) ((tile3_apply m c ⟨pt9Of i, hp⟩ (ix2 k (loc9Of i 1)) hl).trans ?_)
      · exact congrArg (fun r => m ((c : Thread nD τ).loc main_arg0) (ix2 r k)) er
      · exact congrArg (fun r => m ((c : Thread nD τ).loc main_arg3) (ix3 (0 : Fin 2) k r)) el
  · refine congrArg₂ (· * ·) ((gate7_apply m c ⟨pt9Of i, hp⟩ (loc9Of i) hr (by show 512 * (pt9Of i / 8) + (i 1).val % 512 + 4096 < 12288; omega)).trans ?_) (Finset.sum_congr rfl fun k _ => ?_)
    · exact congrArg₂ (fun r l => m ((c : Thread nD τ).loc main_arg6) (ix2 r l)) er (Fin.ext (by show 512 * (pt9Of i / 8) + (i 1).val % 512 + 4096 = 4096 + (i 1).val; omega))
    · refine congrArg₂ (· * ·) ((iblk1_apply m c ⟨pt9Of i, hp⟩ (ix2 (loc9Of i 0) k) hr).trans ?_) ((tile4_apply m c ⟨pt9Of i, hp⟩ (ix2 k (loc9Of i 1)) hl).trans ?_)
      · exact congrArg (fun r => m ((c : Thread nD τ).loc main_arg1) (ix2 r k)) er
      · exact congrArg (fun r => m ((c : Thread nD τ).loc main_arg4) (ix3 (0 : Fin 2) k r)) el
  · refine congrArg₂ (· * ·) ((gate8_apply m c ⟨pt9Of i, hp⟩ (loc9Of i) hr (by show 512 * (pt9Of i / 8) + (i 1).val % 512 + 8192 < 12288; omega)).trans ?_) (Finset.sum_congr rfl fun k _ => ?_)
    · exact congrArg₂ (fun r l => m ((c : Thread nD τ).loc main_arg6) (ix2 r l)) er (Fin.ext (by show 512 * (pt9Of i / 8) + (i 1).val % 512 + 8192 = 8192 + (i 1).val; omega))
    · refine congrArg₂ (· * ·) ((blk2_apply m c ⟨pt9Of i, hp⟩ (ix2 (loc9Of i 0) k) (by show pt9Of i % 8 * 1088 + (i 0).val % 1088 < 12288; omega)).trans ?_) ((tile5_apply m c ⟨pt9Of i, hp⟩ (ix2 k (loc9Of i 1)) hl).trans ?_)
      · exact congrArg (fun r => m ((c : Thread nD τ).loc main_arg2) (ix2 r k)) (Fin.ext vr)
      · exact congrArg (fun r => m ((c : Thread nD τ).loc main_arg5) (ix3 (0 : Fin 2) k r)) el

end Cert.ProjMergeIdeal.Value

namespace Cert.ProjMerge

open Idealize.ShloMosaic Idealize.ShloMosaic.TcCoe Idealize.SL.Sem

/-- The reference changes no semaphore and leaves its arguments. -/
theorem quiescent : quiescent_ProjMergeRefIdeal := fun m ρ _ =>
  (θ_run Cert.ProjMergeRefIdeal.defs _ _).mono (fun r h => ⟨fun c => (h c).2, sem_eq_zero_of_no_sems (by decide) r.2⟩)
    (Cert.ProjMergeRefIdeal.Value.run (F := Ideal) m ρ)

/-- Over the extended reals the kernel's result is the reference's. -/
theorem algebraic : algebraic_ProjMergeIdeal_ProjMergeRefIdeal := by
  intro m ρ m' ρ' _ hagree
  refine ⟨_, Cert.ProjMergeIdeal.Value.run (F := Ideal) m ρ, ?_⟩
  refine (θ_run Cert.ProjMergeRefIdeal.defs _ _).mono (fun _ h c => ⟨?_, (h c).2⟩) (Cert.ProjMergeRefIdeal.Value.run (F := Ideal) m' ρ')
  rw [(h c).1]
  simp only [hagree c]
  rw [Cert.ProjMergeIdeal.Value.G9_eq]
  funext i
  clear h
  pointwise [Cert.ProjMergeIdeal.Value.merged]

end Cert.ProjMerge

end
-- ==== Proof.OutProj.lean ====
/- The output projection: the kernel leaves, tile by tile, the residual stream plus the row's gate times the product of
   the merged rows with the output weights, as the reference has it whole. -/
module

public import proofs.«01_k».proof.Defs
public import proofs.«01_k».proof.Proof.Gen.OutProjIdeal.Value
public import proofs.«01_k».proof.Proof.Gen.OutProjRefIdeal.Run
public import Idealize.ShloMosaic.Lib.Pointwise
public import Idealize.ShloMosaic.Lib.Quiescent
public import Idealize.ShloMosaic.Lib.Tactic
public import Idealize.ShloMosaic.Lib.Tactic.ValueTie
public import Idealize.ShloMosaic.Lib.WordCmp

@[expose] public section

noncomputable section

namespace Cert.OutProjIdeal.Value

open Cert.OutProjIdeal Cert.OutProjIdeal.Gen Idealize.ShloMosaic Idealize.ShloMosaic.TcCoe Idealize.SL.Sem

theorem hz2 : (![0, 0] : Fin 2 → Nat) = fun _ => 0 := funext fun a => by fin_cases a <;> rfl

theorem hz3 : (![0, 0, 0] : Fin 3 → Nat) = fun _ => 0 := funext fun a => by fin_cases a <;> rfl

variable (m : (ℓ : Loc nD τ sig) → Buf (Elt Ideal) ℓ)

/-- The rounded copy of a weight tile: over the extended reals the tile itself, without its leading axis. -/
def tile (w : Vec Ideal S1x4096x512 .f32) : Vec Ideal S4096x512 .bf16 := fun j => w (ix3 (0 : Fin 1) (j 0) (j 1))

/-- A group of 512 rows of the tile, rounded: row `p` of the group that begins at row `b` is row `b + p` of the tile. -/
theorem rows_eq (w : Vec Ideal S1x4096x512 .f32) (b : Nat) (inb : ∀ a, (![b, 0] : Fin 2 → Nat) a + (![512, 512] : Fin 2 → Nat) a ≤ S4096x512.size a)
    (inb' : ∀ a, (![0, b, 0] : Fin 3 → Nat) a + (![1, 512, 512] : Fin 3 → Nat) a ≤ S1x4096x512.size a)
    (x : (Rect.unit (s := S4096x512) ![b, 0] ![512, 512] inb).shape.Idx) :
    k0_pay1 (F := Ideal) (View.ld w (Rect.unit ![0, b, 0] ![1, 512, 512] inb')) x = tile w ((Rect.unit ![b, 0] ![512, 512] inb).emb x) := by
  have e : k0_pay1 (F := Ideal) (View.ld w (Rect.unit ![0, b, 0] ![1, 512, 512] inb')) x =
      View.ld w (Rect.unit ![0, b, 0] ![1, 512, 512] inb') (ix3 (0 : Fin 1) (x 0) (x 1)) := by
    pointwise [k0_pay1]
  rw [e]
  show w _ = w _
  congr 1
  funext a
  apply Fin.ext
  match a with
  | ⟨0, _⟩ => rfl
  | ⟨1, _⟩ => rfl
  | ⟨2, _⟩ => rfl

/-- Row `r` of a gate tile. -/
def gateRow (g : Vec Ideal S8x512 .f32) (r : Fin 8) : Vec Ideal S1x512 .f32 := fun j => g (ix2 r (j 1))

theorem ld_row (g : Vec Ideal S8x512 .f32) (r : Fin 8) (inb : ∀ a, (![r.val, 0] : Fin 2 → Nat) a + S1x512.size a ≤ S8x512.size a) :
    View.ld g (Rect.unit ![r.val, 0] S1x512.size inb) = gateRow g r := by
  funext j
  show g _ = g _
  congr 1
  funext a
  apply Fin.ext
  match a with
  | ⟨0, _⟩ => show r.val + 1 * (j 0).val = r.val; have h : (j 0).val < 1 := (j 0).isLt; omega
  | ⟨1, _⟩ => show 0 + 1 * (j 1).val = (j 1).val; omega

section body

variable (c : Dev nD) (i : grid0.Coords) (arg2 : Memref sig .tc .vmem S1088x4096 .bf16) (harg2 : arg2.IsWhole)
  (arg3 : Memref sig .tc .vmem S1x4096x512 .f32) (harg3 : arg3.IsWhole) (arg4 : Memref sig .tc .vmem S1088x512 .f32) (harg4 : arg4.IsWhole)
  (arg5 : Memref sig .tc .vmem S8x512 .f32) (harg5 : arg5.IsWhole) (arg6 : Memref sig .tc .vmem S1088x512 .f32) (harg6 : arg6.IsWhole)
  (arg7 : Memref sig .tc .vmem S4096x512 .bf16) (harg7 : arg7.IsWhole)
  (x0 : Vec Ideal S1088x4096 .bf16) (x1 : Vec Ideal S1x4096x512 .f32) (x2 : Vec Ideal S1088x512 .f32) (x3 : Vec Ideal S8x512 .f32)

/-- What the point that begins a column of tiles leaves in the scratch is the weight tile. -/
theorem scratch_A (hc0 : cond0_0 i) : sout0_A_0 c i arg2 harg2 arg3 harg3 arg4 harg4 arg5 harg5 arg6 harg6 arg7 harg7 hc0 x0 x1 x2 x3 = tile x1 := by
  unfold sout0_A_0
  have hc := scover0_A_0 c i arg2 harg2 arg3 harg3 arg4 harg4 arg5 harg5 arg6 harg6 arg7 harg7 hc0 x0 x1 x2 x3
  rw [View.read_writes_eq_canon _ _ _ hc]
  funext y
  revert hc
  unfold kernelRun0_A
  dsimp only
  sl_unfold_words
  simp only [View.readAt_eq_ld, harg3.read_unread]
  intro hc
  refine View.canon_apply_of_pieces (tile x1) _ ?_ y (hc y)
  intro p hp
  simp only [List.mem_cons, List.not_mem_nil, or_false] at hp
  rcases hp with rfl | rfl | rfl | rfl | rfl | rfl | rfl | rfl
  · exact rows_eq x1 3584 inb_S4096x512_S512x512_3584_0 inb_S1x4096x512_S1x512x512_0_3584_0
  · exact rows_eq x1 3072 inb_S4096x512_S512x512_3072_0 inb_S1x4096x512_S1x512x512_0_3072_0
  · exact rows_eq x1 2560 inb_S4096x512_S512x512_2560_0 inb_S1x4096x512_S1x512x512_0_2560_0
  · exact rows_eq x1 2048 inb_S4096x512_S512x512_2048_0 inb_S1x4096x512_S1x512x512_0_2048_0
  · exact rows_eq x1 1536 inb_S4096x512_S512x512_1536_0 inb_S1x4096x512_S1x512x512_0_1536_0
  · exact rows_eq x1 1024 inb_S4096x512_S512x512_1024_0 inb_S1x4096x512_S1x512x512_0_1024_0
  · exact rows_eq x1 512 inb_S4096x512_S512x512_512_0 inb_S1x4096x512_S1x512x512_0_512_0
  · exact rows_eq x1 0 inb_S4096x512_S512x512_0_0 inb_S1x4096x512_S1x512x512_0_0_0

/-- What it leaves in the output tile is the update over the weight tile; -/
theorem out_A (hc0 : cond0_0 i) : out0_A_4 c i arg2 harg2 arg3 harg3 arg4 harg4 arg5 harg5 arg6 harg6 arg7 harg7 hc0 x0 x1 x2 x3 = k0_pay4 i x0 (tile x1) (gateRow x3 2) (gateRow x3 1) (gateRow x3 0) x2 := by
  have hs := scratch_A c i arg2 harg2 arg3 harg3 arg4 harg4 arg5 harg5 arg6 harg6 arg7 harg7 x0 x1 x2 x3 hc0
  have hc := scover0_A_0 c i arg2 harg2 arg3 harg3 arg4 harg4 arg5 harg5 arg6 harg6 arg7 harg7 hc0 x0 x1 x2 x3
  unfold sout0_A_0 at hs
  rw [View.read_writes_eq_canon _ _ _ hc] at hs
  unfold out0_A_4
  rw [View.read_writes_eq_canon _ _ _ (cover0_A_4 c i arg2 harg2 arg3 harg3 arg4 harg4 arg5 harg5 arg6 harg6 arg7 harg7 hc0 x0 x1 x2 x3)]
  unfold kernelRun0_A at hs ⊢
  dsimp only at hs ⊢
  sl_unfold_words
  rw [View.canon_unit_zero hz2]
  have hr : ∀ L, View.canon L = tile x1 → arg7.view.readCov L (Rect.unit ![0, 0] S4096x512.size inb_S4096x512_S4096x512_0_0).toLoadRect = tile x1 := by
    intro L hL
    refine (View.readCov_eq_canon' _ _ _).trans (funext fun j => (congrFun hL _).trans (congrArg (tile x1) ?_))
    funext a
    apply Fin.ext
    match a with
    | ⟨0, _⟩ => show 0 + 1 * (j 0).val = (j 0).val; omega
    | ⟨1, _⟩ => show 0 + 1 * (j 1).val = (j 1).val; omega
  have e1 := hr _ hs
  simp only [View.readAt_eq_ld, harg2.read_unread, harg4.read_unread, harg5.read_unread, View.ld_unit_zero (S := S1088x4096) hz2,
    View.ld_unit_zero (S := S1088x512) hz2]
  rw [← ld_row x3 0 inb_S8x512_S1x512_0_0, ← ld_row x3 1 inb_S8x512_S1x512_1_0, ← ld_row x3 2 inb_S8x512_S1x512_2_0]
  exact congrArg (fun w => k0_pay4 i x0 w _ _ _ x2) e1

/-- and what the points after it leave there is the update over what the scratch holds. -/
theorem out_B (hc0 : ¬cond0_0 i) (xs : Vec Ideal S4096x512 .bf16) :
    out0_B_4 c i arg2 harg2 arg3 harg3 arg4 harg4 arg5 harg5 arg6 harg6 arg7 harg7 hc0 x0 x1 x2 x3 xs = k0_pay4 i x0 xs (gateRow x3 2) (gateRow x3 1) (gateRow x3 0) x2 := by
  unfold out0_B_4
  rw [View.read_writes_eq_canon _ _ _ (cover0_B_4 c i arg2 harg2 arg3 harg3 arg4 harg4 arg5 harg5 arg6 harg6 arg7 harg7 hc0 x0 x1 x2 x3 xs)]
  unfold kernelRun0_B
  dsimp only
  rw [View.canon_unit_zero hz2]
  simp only [View.readAt_eq_ld, harg2.read_unread, harg4.read_unread, harg5.read_unread, harg7.read_unread, View.ld_unit_zero (S := S1088x4096) hz2,
    View.ld_unit_zero (S := S4096x512) hz2, View.ld_unit_zero (S := S1088x512) hz2, shapeCast_self]
  rw [← ld_row x3 0 inb_S8x512_S1x512_0_0, ← ld_row x3 1 inb_S8x512_S1x512_1_0, ← ld_row x3 2 inb_S8x512_S1x512_2_0]
  rfl

end body

/-- The row number that the kernel computes in words, against a bound. -/
theorem row_lt (a b n : Nat) (ha : a < 8) (hb : b < 1088) (hn : n < 2 ^ 31) {α : Type} (x y : α) :
    Scalar.select (IntOp.cmpi .slt (IntOp.addi (Scalar.muli (BitVec.ofNat 32 a) 1088#32) (BitVec.ofNat 32 b)) (BitVec.ofNat 32 n)) x y
      = if a * 1088 + b < n then x else y := by
  have e : IntOp.addi (Scalar.muli (BitVec.ofNat 32 a) 1088#32) (BitVec.ofNat 32 b) = BitVec.ofNat 32 (a * 1088 + b) := by
    show BitVec.ofNat 32 a * BitVec.ofNat 32 1088 + BitVec.ofNat 32 b = _
    rw [← BitVec.ofNat_mul, ← BitVec.ofNat_add]
  rw [e]
  show (if _ = 1#1 then x else y) = _
  simp only [WordCmp.cmpi_slt_ofNat_eq_one_iff (w := 32) (a := a * 1088 + b) (b := n) (by omega) (by omega)]

/-- The gate of row `r`: the first sequence's, the second's, then the context's. -/
def pick (r : Nat) (g0 g1 g2 : EReal) : EReal := if r < 4096 then g0 else if r < 8192 then g1 else g2

/-- The update of a tile at an index. -/
theorem pay_apply (i : grid0.Coords) (x : Vec Ideal S1088x4096 .bf16) (w : Vec Ideal S4096x512 .bf16) (g2 g1 g0 : Vec Ideal S1x512 .f32)
    (xr : Vec Ideal S1088x512 .f32) (j : S1088x512.Idx) :
    k0_pay4 i x w g2 g1 g0 xr j = xr j + pick ((i 1).val * 1088 + (j 0).val) (g0 (ix2 (0 : Fin 1) (j 1))) (g1 (ix2 (0 : Fin 1) (j 1))) (g2 (ix2 (0 : Fin 1) (j 1)))
      * ∑ k : Fin 4096, x (ix2 (j 0) k) * w (ix2 k (j 1)) := by
  pointwise [k0_pay4]
  have ha : (i 1).val < 8 := (i 1).isLt
  have hb : (j 0).val < 1088 := (j 0).isLt
  rw [row_lt (i 1).val (j 0).val 4096 ha hb (by omega), row_lt (i 1).val (j 0).val 8192 ha hb (by omega)]
  rfl

/-- The tiles that point `t` reads. -/
theorem index_facts : ∀ t : Fin cfg0.N, win0_0.index t (0 : Fin 2) = t.val % 8 ∧ win0_0.index t (1 : Fin 2) = 0
    ∧ win0_1.index t (0 : Fin 3) = 0 ∧ win0_1.index t (1 : Fin 3) = 0 ∧ win0_1.index t (2 : Fin 3) = t.val / 8
    ∧ win0_2.index t (0 : Fin 2) = t.val % 8 ∧ win0_2.index t (1 : Fin 2) = t.val / 8
    ∧ win0_3.index t (0 : Fin 2) = 0 ∧ win0_3.index t (1 : Fin 2) = t.val / 8
    ∧ (grid0.coords t 1).val = t.val % 8 :=
  (by decide +kernel : ∀ t : Fin grid0.N, _)

/-- Window 0's block at a point, at an index. -/
theorem iblk0_apply (c : Dev nD) (t : Fin cfg0.N) (y : S1088x4096.Idx) (h : t.val % 8 * 1088 + (y 0).val < 8704) :
    (iblk m c 0 t : Vec Ideal S1088x4096 .bf16) y = m ((c : Thread nD τ).loc main_arg0) (ix2 (⟨t.val % 8 * 1088 + (y 0).val, h⟩ : Fin 8704) (y 1)) := by
  obtain ⟨e0, e1, -⟩ := index_facts t
  show V m c main_arg0 (((cfg0.win 0).blk t).view.emb y) = _
  rw [V_main_arg0]
  congr 1
  funext a
  apply Fin.ext
  match a with
  | ⟨0, _⟩ => show win0_0.index t (0 : Fin 2) * 1088 + 1 * (y 0).val = t.val % 8 * 1088 + (y 0).val; omega
  | ⟨1, _⟩ => show win0_0.index t (1 : Fin 2) * 4096 + 1 * (y 1).val = (y 1).val; omega

/-- The weight tile at a point, at an index. -/
theorem tile_apply (c : Dev nD) (t : Fin cfg0.N) (y : S4096x512.Idx) (h : 512 * (t.val / 8) + (y 1).val < 4096) :
    tile (iblk m c 1 t) y = m ((c : Thread nD τ).loc main_arg1) (ix3 (0 : Fin 2) (y 0) (⟨512 * (t.val / 8) + (y 1).val, h⟩ : Fin 4096)) := by
  obtain ⟨-, -, e0, e1, e2, -⟩ := index_facts t
  show V m c main_arg1 (((cfg0.win 1).blk t).view.emb (ix3 (0 : Fin 1) (y 0) (y 1))) = _
  rw [V_main_arg1]
  congr 1
  funext a
  apply Fin.ext
  match a with
  | ⟨0, _⟩ => show win0_1.index t (0 : Fin 3) * 1 + 1 * 0 = 0; omega
  | ⟨1, _⟩ => show win0_1.index t (1 : Fin 3) * 4096 + 1 * (y 0).val = (y 0).val; omega
  | ⟨2, _⟩ => show win0_1.index t (2 : Fin 3) * 512 + 1 * (y 1).val = 512 * (t.val / 8) + (y 1).val; omega

/-- The residual's block at a point, at an index. -/
theorem iblk2_apply (c : Dev nD) (t : Fin cfg0.N) (y : S1088x512.Idx) (h : t.val % 8 * 1088 + (y 0).val < 8704) (h' : 512 * (t.val / 8) + (y 1).val < 4096) :
    (iblk m c 2 t : Vec Ideal S1088x512 .f32) y = m ((c : Thread nD τ).loc main_arg2) (ix2 (⟨t.val % 8 * 1088 + (y 0).val, h⟩ : Fin 8704) (⟨512 * (t.val / 8) + (y 1).val, h'⟩ : Fin 4096)) := by
  obtain ⟨-, -, -, -, -, e0, e1, -⟩ := index_facts t
  show V m c main_arg2 (((cfg0.win 2).blk t).view.emb y) = _
  rw [V_main_arg2]
  congr 1
  funext a
  apply Fin.ext
  match a with
  | ⟨0, _⟩ => show win0_2.index t (0 : Fin 2) * 1088 + 1 * (y 0).val = t.val % 8 * 1088 + (y 0).val; omega
  | ⟨1, _⟩ => show win0_2.index t (1 : Fin 2) * 512 + 1 * (y 1).val = 512 * (t.val / 8) + (y 1).val; omega

/-- A row of the gates' block at a point, at an index. -/
theorem gate_apply (c : Dev nD) (t : Fin cfg0.N) (r : Fin 8) (l : Fin 512) (h' : 512 * (t.val / 8) + l.val < 4096) :
    gateRow (iblk m c 3 t) r (ix2 (0 : Fin 1) l) = m ((c : Thread nD τ).loc main_arg3) (ix2 r (⟨512 * (t.val / 8) + l.val, h'⟩ : Fin 4096)) := by
  obtain ⟨-, -, -, -, -, -, -, e0, e1, -⟩ := index_facts t
  show V m c main_arg3 (((cfg0.win 3).blk t).view.emb (ix2 r l)) = _
  rw [V_main_arg3]
  congr 1
  funext a
  apply Fin.ext
  match a with
  | ⟨0, _⟩ => show win0_3.index t (0 : Fin 2) * 8 + 1 * r.val = r.val; omega
  | ⟨1, _⟩ => show win0_3.index t (1 : Fin 2) * 512 + 1 * l.val = 512 * (t.val / 8) + l.val; omega

/-- Within a column of tiles the weight tile stays. -/
theorem tile_congr (c : Dev nD) (t t' : Fin cfg0.N) (h : t.val / 8 = t'.val / 8) : tile (iblk m c 1 t) = tile (iblk m c 1 t') := by
  have hN := lt_of_lt_of_eq t.isLt (show cfg0.N = 64 from N_0)
  funext y
  have hy : (y 1).val < 512 := (y 1).isLt
  rw [tile_apply m c t y (by omega), tile_apply m c t' y (by omega)]
  congr 3
  omega

/-- The update of point `t`'s tile. -/
def update (c : Dev nD) (t : Fin cfg0.N) : Vec Ideal S1088x512 .f32 :=
  k0_pay4 (grid0.coords t) (iblk m c 0 t) (tile (iblk m c 1 t)) (gateRow (iblk m c 3 t) 2) (gateRow (iblk m c 3 t) 1) (gateRow (iblk m c 3 t) 0) (iblk m c 2 t)

/-- After point `n` the scratch holds the column's weight tile, and the output tile the update over it. -/
theorem outs_eq (c : Dev nD) : ∀ (n : ℕ) (h : n < cfg0.N), outsAt0 m c n h = (update m c ⟨n, h⟩, tile (iblk m c 1 ⟨n, h⟩))
  | 0, h => by
    rw [outsAt0_A m c ⟨0, h⟩ rfl, out_A, scratch_A]
    rfl
  | n + 1, h => by
    by_cases h0 : (n + 1) % 8 = 0
    · rw [outsAt0_A m c ⟨n + 1, h⟩ h0, out_A, scratch_A]
      rfl
    · have ih := outs_eq c n (Nat.lt_of_succ_lt h)
      rw [outsAt0_B m c ⟨n + 1, h⟩ h0, out_B]
      show (k0_pay4 _ _ (outsAt0 m c n _).2 _ _ _ _, (outsAt0 m c n _).2) = _
      rw [ih, tile_congr m c ⟨n, Nat.lt_of_succ_lt h⟩ ⟨n + 1, h⟩ (by show n / 8 = (n + 1) / 8; omega)]
      rfl

/-- The residual stream after the layer, whole. -/
def residual (x : S8704x4096.Idx → EReal) (w : S2x4096x4096.Idx → EReal) (xr : S8704x4096.Idx → EReal) (g : S8x4096.Idx → EReal) : S8704x4096.Idx → EReal := fun i =>
  xr i + pick (i 0).val (g (ix2 (0 : Fin 8) (i 1))) (g (ix2 (1 : Fin 8) (i 1))) (g (ix2 (2 : Fin 8) (i 1)))
    * ∑ k : Fin 4096, x (ix2 (i 0) k) * w (ix3 (0 : Fin 2) k (i 1))

/-- The result array is that stream. -/
theorem G4_eq (c : Dev nD) : G4 m c = residual (m ((c : Thread nD τ).loc main_arg0)) (m ((c : Thread nD τ).loc main_arg1))
    (m ((c : Thread nD τ).loc main_arg2)) (m ((c : Thread nD τ).loc main_arg3)) := by
  funext i
  have h0 : (i 0).val < 8704 := (i 0).isLt
  have h1 : (i 1).val < 4096 := (i 1).isLt
  have hp : pt4Of i < cfg0.N := lt_of_lt_of_eq (by show 1 * ((i 0).val / 1088 - 0) + 8 * ((i 1).val / 512 - 0) < 64; omega) N_0.symm
  have hm : pt4Of i % 8 = (i 0).val / 1088 := by show (1 * ((i 0).val / 1088 - 0) + 8 * ((i 1).val / 512 - 0)) % 8 = _; omega
  have hd : pt4Of i / 8 = (i 1).val / 512 := by show (1 * ((i 0).val / 1088 - 0) + 8 * ((i 1).val / 512 - 0)) / 8 = _; omega
  have hl : 512 * (pt4Of i / 8) + (i 1).val % 512 < 4096 := by omega
  have hr : pt4Of i % 8 * 1088 + (i 0).val % 1088 < 8704 := by omega
  have el : (⟨512 * (pt4Of i / 8) + (i 1).val % 512, hl⟩ : Fin 4096) = i 1 := Fin.ext (by show 512 * (pt4Of i / 8) + (i 1).val % 512 = (i 1).val; omega)
  have er : (⟨pt4Of i % 8 * 1088 + (i 0).val % 1088, hr⟩ : Fin 8704) = i 0 := Fin.ext (by show pt4Of i % 8 * 1088 + (i 0).val % 1088 = (i 0).val; omega)
  have ei : ix2 (i 0) (i 1) = i := by funext a; match a with | ⟨0, _⟩ => rfl | ⟨1, _⟩ => rfl
  have ec : (grid0.coords ⟨pt4Of i, hp⟩ 1).val * 1088 + (loc4Of i 0).val = (i 0).val := by
    rw [(index_facts ⟨pt4Of i, hp⟩).2.2.2.2.2.2.2.2.2]
    show pt4Of i % 8 * 1088 + (i 0).val % 1088 = (i 0).val
    omega
  have hg : ∀ r : Fin 8, gateRow (iblk m c 3 ⟨pt4Of i, hp⟩) r (ix2 (0 : Fin 1) (loc4Of i 1)) = m ((c : Thread nD τ).loc main_arg3) (ix2 r (i 1)) := fun r =>
    (gate_apply m c ⟨pt4Of i, hp⟩ r (loc4Of i 1) hl).trans (congrArg (fun l => m ((c : Thread nD τ).loc main_arg3) (ix2 r l)) el)
  unfold G4
  rw [dif_pos hp, ← outsAt0_sweep m c (pt4Of i) hp, outs_eq]
  unfold update
  refine (pay_apply _ _ _ _ _ _ _ (loc4Of i)).trans ?_
  unfold residual
  rw [ec, hg 0, hg 1, hg 2]
  refine congrArg₂ (· + ·) ?_ (congrArg₂ (· * ·) rfl (Finset.sum_congr rfl fun k _ => ?_))
  · refine (iblk2_apply m c ⟨pt4Of i, hp⟩ (loc4Of i) hr hl).trans ?_
    exact (congrArg₂ (fun r l => m ((c : Thread nD τ).loc main_arg2) (ix2 r l)) er el).trans (congrArg (m ((c : Thread nD τ).loc main_arg2)) ei)
  · refine congrArg₂ (· * ·) ((iblk0_apply m c ⟨pt4Of i, hp⟩ (ix2 (loc4Of i 0) k) hr).trans ?_) ((tile_apply m c ⟨pt4Of i, hp⟩ (ix2 k (loc4Of i 1)) hl).trans ?_)
    · exact congrArg (fun r => m ((c : Thread nD τ).loc main_arg0) (ix2 r k)) er
    · exact congrArg (fun r => m ((c : Thread nD τ).loc main_arg1) (ix3 (0 : Fin 2) k r)) el

end Cert.OutProjIdeal.Value

namespace Cert.OutProj

open Idealize.ShloMosaic Idealize.ShloMosaic.TcCoe Idealize.SL.Sem

/-- The reference changes no semaphore and leaves its arguments. -/
theorem quiescent : quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- Over the extended reals the kernel's result is the reference's. -/
theorem algebraic : algebraic_OutProjIdeal_OutProjRefIdeal := by
  intro m ρ m' ρ' _ hagree
  refine ⟨_, Cert.OutProjIdeal.Value.run (F := Ideal) m ρ, ?_⟩
  refine (θ_run Cert.OutProjRefIdeal.defs _ _).mono (fun _ h c => ⟨?_, (h c).2⟩) (Cert.OutProjRefIdeal.Value.run (F := Ideal) m' ρ')
  rw [(h c).1]
  simp only [hagree c]
  rw [Cert.OutProjIdeal.Value.G4_eq]
  funext i
  clear h
  pointwise [Cert.OutProjIdeal.Value.residual, Cert.OutProjIdeal.Value.pick]
  rw [(hagree c).2.2.2]
  refine congrArg₂ (· + ·) rfl (congrArg₂ (· * ·) ?_ rfl)
  by_cases h0 : (i 0).val < 4096
  · rw [dif_pos h0, if_pos h0]
  · rw [dif_neg h0, if_neg h0]
    by_cases h1 : (i 0).val < 8192
    · rw [dif_pos (by omega), if_pos h1]
    · rw [dif_neg (by omega), if_neg h1]

end Cert.OutProj

end
-- ==== Proof.FinalNorm.lean ====
module

public import proofs.«01_k».proof.Defs
public import proofs.«01_k».proof.Proof.Gen.FinalNormIdeal.Value
public import proofs.«01_k».proof.Proof.Gen.FinalNormRefIdeal.Run
public import Idealize.ShloMosaic.Lib.Tactic.ValueTie

/- The final norm: the kernel leaves, tile by tile, each row over the root of its mean square, times the scale, as the
   reference has it whole. -/

@[expose] public noncomputable section

namespace Cert.FinalNormIdeal.Value

open Cert.FinalNormIdeal Cert.FinalNormIdeal.Gen Idealize.ShloMosaic Idealize.ShloMosaic.TcCoe Idealize.SL.Sem

theorem hz2 : (![0, 0] : Fin 2 → Nat) = fun _ => 0 := funext fun a => by fin_cases a <;> rfl

variable (m : (ℓ : Loc nD τ sig) → Buf (Elt Ideal) ℓ)

/-- An entry over the root of its row's mean square, times the scale. -/
def scaled (x sq g : EReal) : EReal := x * Ideal.rsqrt (Ideal.div sq (Ideal.ofBits FTy.f32 0x45800000#32) + Ideal.ofBits FTy.f32 0x358637BD#32) * g

/-- The norm of a tile at an index. -/
theorem pay_apply (x : Vec Ideal S256x4096 .f32) (g : Vec Ideal S1x4096 .f32) (j : S256x4096.Idx) :
    k0_pay1 x g j = scaled (x j) (∑ k : Fin 4096, x (ix2 (j 0) k) * x (ix2 (j 0) k)) (g (ix2 (0 : Fin 1) (j 1))) := by
  pointwise [k0_pay1]
  rfl

/-- What the body leaves in the output tile is the norm of its tile. -/
theorem out_eq (x : Vec Ideal S256x4096 .f32) (g : Vec Ideal S1x4096 .f32) : out0_2 x g = k0_pay1 x g := by
  unfold out0_2
  rw [View.canon_unit_zero hz2, View.ld_unit_zero (S := S256x4096) hz2, View.ld_unit_zero (S := S1x4096) hz2]

/-- The tiles that point `t` reads and writes. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ win0_2.flush t = true :=
  (by decide +kernel : ∀ t : Fin grid0.N, _)

/-- The scale that the host lays out as a row. -/
theorem V_main_v0 (c : Dev nD) : (V m c main_v0 : Vec Ideal S1x4096 .f32) = shapeCast S1x4096 (m ((c : Thread nD τ).loc main_arg1)) shapeCasts_S4096_S1x4096 := by
  unfold V
  after_results <;> rfl

/-- The rows' tile at a point, at an index. -/
theorem iblk0_apply (c : Dev nD) (t : Fin cfg0.N) (y : S256x4096.Idx) (h : t.val * 256 + (y 0).val < 8704) :
    (iblk m c 0 t : Vec Ideal S256x4096 .f32) y = m ((c : Thread nD τ).loc main_arg0) (ix2 (⟨t.val * 256 + (y 0).val, h⟩ : Fin 8704) (y 1)) := by
  obtain ⟨e0, e1, -⟩ := index_facts t
  show V m c main_arg0 (((cfg0.win 0).blk t).view.emb y) = _
  rw [V_main_arg0]
  congr 1
  funext a
  apply Fin.ext
  match a with
  | ⟨0, _⟩ => show win0_0.index t (0 : Fin 2) * 256 + 1 * (y 0).val = t.val * 256 + (y 0).val; omega
  | ⟨1, _⟩ => show win0_0.index t (1 : Fin 2) * 4096 + 1 * (y 1).val = (y 1).val; omega

/-- The scale's tile at a point, at an index. -/
theorem iblk1_apply (c : Dev nD) (t : Fin cfg0.N) (l : Fin 4096) :
    (iblk m c 1 t : Vec Ideal S1x4096 .f32) (ix2 (0 : Fin 1) l) = m ((c : Thread nD τ).loc main_arg1) (ix1 l) := by
  obtain ⟨-, -, e0, e1, -⟩ := index_facts t
  have e : ((cfg0.win 1).blk t).view.emb (ix2 (0 : Fin 1) l) = ix2 (0 : Fin 1) l := by
    funext a
    apply Fin.ext
    match a with
    | ⟨0, _⟩ => show win0_1.index t (0 : Fin 2) * 1 + 1 * 0 = 0; omega
    | ⟨1, _⟩ => show win0_1.index t (1 : Fin 2) * 4096 + 1 * l.val = l.val; omega
  show V m c main_v0 (((cfg0.win 1).blk t).view.emb (ix2 (0 : Fin 1) l)) = _
  rw [V_main_v0, e]
  refine congrArg (m ((c : Thread nD τ).loc main_arg1)) (Shape.reshapeEquiv_eq_of_vals _ _ _ _ _ (rowMajor_val1 _) (rowMajor_val2 _ 4096 rfl) ?_)
  show l.val = 0 * 4096 + l.val
  omega

/-- The norm of the first 8192 rows, whole. -/
def normed (x : S8704x4096.Idx → EReal) (g : S4096.Idx → EReal) : S8192x4096.Idx → EReal := fun i =>
  scaled (x (ix2 (⟨(i 0).val, lt_of_lt_of_le (i 0).isLt (by decide)⟩ : Fin 8704) (i 1)))
    (∑ k : Fin 4096, x (ix2 (⟨(i 0).val, lt_of_lt_of_le (i 0).isLt (by decide)⟩ : Fin 8704) k) * x (ix2 (⟨(i 0).val, lt_of_lt_of_le (i 0).isLt (by decide)⟩ : Fin 8704) k))
    (g (ix1 (i 1)))

/-- What a point writes back is its tile of that. -/
theorem flushed_eq (c : Dev nD) (t : Fin cfg0.N) :
    (dats m 0 c).flushed 2 t = ((cfg0.win 2).blk t).view.read (Elt Ideal) (normed (m ((c : Thread nD τ).loc main_arg0)) (m ((c : Thread nD τ).loc main_arg1))) := by
  have hN := lt_of_lt_of_eq t.isLt (show cfg0.N = 32 from N_0)
  obtain ⟨-, -, -, -, e0, e1, -⟩ := index_facts t
  rw [flushed2, out_eq]
  funext y
  have hy0 : (y 0).val < 256 := (y 0).isLt
  have hr : t.val * 256 + (y 0).val < 8704 := by omega
  have b0 : (((cfg0.win 2).blk t).view.emb y 0).val = t.val * 256 + (y 0).val := by
    show win0_2.index t (0 : Fin 2) * 256 + 1 * (y 0).val = _; omega
  have b1 : ((cfg0.win 2).blk t).view.emb y 1 = y 1 := Fin.ext (by show win0_2.index t (1 : Fin 2) * 4096 + 1 * (y 1).val = (y 1).val; omega)
  show k0_pay1 (iblk m c 0 t) (iblk m c 1 t) y = normed _ _ (((cfg0.win 2).blk t).view.emb y)
  refine (pay_apply _ _ y).trans ?_
  have row : ∀ l : Fin 4096, (iblk m c 0 t : Vec Ideal S256x4096 .f32) (ix2 (y 0) l) = m ((c : Thread nD τ).loc main_arg0)
      (ix2 (⟨(((cfg0.win 2).blk t).view.emb y 0).val, b0.trans_lt hr⟩ : Fin 8704) l) := fun l =>
    (iblk0_apply m c t (ix2 (y 0) l) hr).trans (congrArg (fun r => m ((c : Thread nD τ).loc main_arg0) (ix2 r l)) (Fin.ext b0.symm))
  have ey : ix2 (y 0) (y 1) = y := by funext a; match a with | ⟨0, _⟩ => rfl | ⟨1, _⟩ => rfl
  unfold normed
  rw [b1]
  have r1 := (congrArg (iblk m c 0 t : Vec Ideal S256x4096 .f32) ey).symm.trans (row (y 1))
  refine (congrArg (fun x => scaled x _ _) r1).trans ?_
  refine (congrArg (fun g => scaled _ _ g) (iblk1_apply m c t (y 1))).trans ?_
  exact congrArg (fun s => scaled _ s _) (Finset.sum_congr rfl fun k _ => congrArg₂ (· * ·) (row k) (row k))

/-- The result array is that norm. -/
theorem array_eq (c : Dev nD) : (dats m 0 c).arrAt 2 cfg0.N = normed (m ((c : Thread nD τ).loc main_arg0)) (m ((c : Thread nD τ).loc main_arg1)) := by
  refine (dats m 0 c).arrAt_eq_of_cover 2 _ (fun t _ => flushed_eq m c t) fun i => ?_
  have h0 : (i 0).val < 8192 := (i 0).isLt
  have h1 : (i 1).val < 4096 := (i 1).isLt
  have hp : (i 0).val / 256 < cfg0.N := lt_of_lt_of_eq (by omega : (i 0).val / 256 < 32) N_0.symm
  obtain ⟨-, -, -, -, e0, e1, hf⟩ := index_facts ⟨(i 0).val / 256, hp⟩
  refine ⟨⟨(i 0).val / 256, hp⟩, hf, ?_⟩
  show i ∈ ((View.whole main_v1).slice (win0_2.rect ⟨(i 0).val / 256, hp⟩)).set
  rw [View.set_slice_whole, Rect.mem_set_unit]
  intro a
  match a with
  | ⟨0, _⟩ => show win0_2.index ⟨(i 0).val / 256, hp⟩ (0 : Fin 2) * 256 ≤ (i 0).val ∧ (i 0).val < win0_2.index ⟨(i 0).val / 256, hp⟩ (0 : Fin 2) * 256 + 256; rw [e0]; show (i 0).val / 256 * 256 ≤ (i 0).val ∧ (i 0).val < (i 0).val / 256 * 256 + 256; omega
  | ⟨1, _⟩ => show win0_2.index ⟨(i 0).val / 256, hp⟩ (1 : Fin 2) * 4096 ≤ (i 1).val ∧ (i 1).val < win0_2.index ⟨(i 0).val / 256, hp⟩ (1 : Fin 2) * 4096 + 4096; rw [e1]; omega

end Cert.FinalNormIdeal.Value

namespace Cert.FinalNorm

open Idealize.ShloMosaic Idealize.ShloMosaic.TcCoe Idealize.SL.Sem

/-- The reference changes no semaphore and leaves its arguments. -/
theorem quiescent : quiescent_FinalNormRefIdeal := fun m ρ _ =>
  (θ_run Cert.FinalNormRefIdeal.defs _ _).mono (fun r h => ⟨fun c => (h c).2, sem_eq_zero_of_no_sems (by decide) r.2⟩)
    (Cert.FinalNormRefIdeal.Value.run (F := Ideal) m ρ)

/-- Over the extended reals the kernel's result is the reference's. -/
theorem algebraic : algebraic_FinalNormIdeal_FinalNormRefIdeal := by
  intro m ρ m' ρ' _ hagree
  refine ⟨_, Cert.FinalNormIdeal.Value.run_blocks (F := Ideal) m ρ, ?_⟩
  refine (θ_run Cert.FinalNormRefIdeal.defs _ _).mono (fun _ h c => ⟨?_, (h c).2⟩) (Cert.FinalNormRefIdeal.Value.run (F := Ideal) m' ρ')
  rw [(h c).1]
  simp only [hagree c]
  rw [Cert.FinalNormIdeal.Value.array_eq]
  funext i
  clear h
  pointwise [Cert.FinalNormIdeal.Value.normed, Cert.FinalNormIdeal.Value.scaled]

end Cert.FinalNorm

end
-- ==== Proof.NbrAttnRun.lean ====
/- The run of the neighborhood attention's body: what one trip of its loop over blocks of sixteen grid rows stores,
   the loop by its invariant, the body, and from these the frame. -/
module

public import proofs.«01_k».proof.Proof.Gen.NbrAttnIdeal.Frame
public import proofs.«01_k».proof.Proof.Gen.NbrAttnIdeal.Skeleton
public import Idealize.ShloMosaic.Lib.Claim
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.NbrAttnIdeal.Attn

open Cert.NbrAttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One trip of the loop at a symbolic `k`: the tile of sixteen grid rows that it stores, a function of the blocks
    alone, with the triple that says so. The score and weight scratches may hold anything before and after. -/
def trip (𝒱 : Variants) (c : Dev nD) (bd : Option 𝒱.V) (i : grid0.Coords) (a2 : Memref sig .tc .vmem S4096x128 .bf16) (h2 : a2.IsWhole) (a3 : Memref sig .tc .vmem S4096x128 .bf16) (h3 : a3.IsWhole) (a4 : Memref sig .tc .vmem S4096x128 .bf16) (h4 : a4.IsWhole) (a5 : Memref sig .tc .vmem S4096x128 .bf16) (h5 : a5.IsWhole) (a6 : Memref sig .tc .vmem S512x128 .bf16) (h6 : a6.IsWhole) (a7 : Memref sig .tc .vmem S512x128 .bf16) (h7 : a7.IsWhole) (a8 : Memref sig .tc .vmem S512x128 .bf16) (h8 : a8.IsWhole) (a9 : Memref sig .tc .vmem S512x128 .bf16) (h9 : a9.IsWhole) (a10 : Memref sig .tc .vmem S1x8x64x512 .f32) (h10 : a10.IsWhole) (a11 : Memref sig .tc .vmem S4096x128 .bf16) (h11 : a11.IsWhole) (a12 : Memref sig .tc .vmem S1024x512 .f32) (h12 : a12.IsWhole) (a13 : Memref sig .tc .vmem S1024x512 .bf16) (h13 : a13.IsWhole)
    (hc : k0_cond1 i = 1#1) (kc vc : Vec F S256x128 .bf16) (x2 : Vec F S4096x128 .bf16) (x3 : Vec F S4096x128 .bf16) (x4 : Vec F S4096x128 .bf16) (x5 : Vec F S4096x128 .bf16) (x10 : Vec F S1x8x64x512 .f32) (k : Fin k0_t1_loop.trips) :
    { t : FVec F S1024x128 .bf16 // ∀ (E : Set ℕ) (f11 : BufTy.Contents (Elt F) a11.view.ty) (f12 : BufTy.Contents (Elt F) a12.view.ty) (f13 : BufTy.Contents (Elt F) a13.view.ty),
      (iprop((a2.view.loc (c : Thread nD τ) ↦[a2.view.set]{fullShare} (h2.unread x2)) ∗ (a3.view.loc (c : Thread nD τ) ↦[a3.view.set]{fullShare} (h3.unread x3)) ∗ (a4.view.loc (c : Thread nD τ) ↦[a4.view.set]{fullShare} (h4.unread x4)) ∗ (a5.view.loc (c : Thread nD τ) ↦[a5.view.set]{fullShare} (h5.unread x5)) ∗ (a10.view.loc (c : Thread nD τ) ↦[a10.view.set]{fullShare} (h10.unread x10)) ∗ (a11.view.loc (c : Thread nD τ) ↦[a11.view.set]{fullShare} f11) ∗ (a12.view.loc (c : Thread nD τ) ↦[a12.view.set]{fullShare} f12) ∗ (a13.view.loc (c : Thread nD τ) ↦[a13.view.set]{fullShare} f13)) : sProp 𝕄)
      ⊢ wp frame (wpE (defs₀ (F := F)) 𝒱 (c : Thread nD τ) bd) E (k0_t1_body (F := F) i a2 h2 a3 h3 a4 h4 a5 h5 a6 h6 a7 h7 a8 h8 a9 h9 a10 h10 a11 h11 a12 h12 a13 h13 hc kc vc k PUnit.unit)
        (fun _ => iprop((a2.view.loc (c : Thread nD τ) ↦[a2.view.set]{fullShare} (h2.unread x2)) ∗ (a3.view.loc (c : Thread nD τ) ↦[a3.view.set]{fullShare} (h3.unread x3)) ∗ (a4.view.loc (c : Thread nD τ) ↦[a4.view.set]{fullShare} (h4.unread x4)) ∗ (a5.view.loc (c : Thread nD τ) ↦[a5.view.set]{fullShare} (h5.unread x5)) ∗ (a10.view.loc (c : Thread nD τ) ↦[a10.view.set]{fullShare} (h10.unread x10))
          ∗ (a11.view.loc (c : Thread nD τ) ↦[a11.view.set]{fullShare} (a11.view.writes (Elt F) f11 [⟨Rect.unit (s := S4096x128) (k0_off2 k) S1024x128.size (k0_off2_inb i k hc), t⟩])) ∗ (∃ g, (a12.view.loc (c : Thread nD τ) ↦[a12.view.set]{fullShare} g)) ∗ (∃ g, (a13.view.loc (c : Thread nD τ) ↦[a13.view.set]{fullShare} g)))) } := by
  have hk : k.val < 4 := Nat.lt_of_lt_of_le k.isLt k0_t1_abs.2.1
  refine ⟨?_, fun E f11 f12 f13 => ?run⟩
  case run =>
    unfold k0_t1_body
    iintro ⟨HR2, HR3, HR4, HR5, HR10, HW11, HW12, HW13⟩
    sl_exec
    sl_step
    isplitl [HR2]; · iexact HR2
    isplitl [HR3]; · iexact HR3
    isplitl [HR4]; · iexact HR4
    isplitl [HR5]; · iexact HR5
    isplitl [HR10]; · iexact HR10
    isplitl [HW11]; · iexact HW11
    isplitl [HW12]; · iexists _; iexact HW12
    iexists _; iexact HW13

/-- The tiles that the trips before `k` stored, the last first. -/
def tiles (𝒱 : Variants) (c : Dev nD) (bd : Option 𝒱.V) (i : grid0.Coords) (a2 : Memref sig .tc .vmem S4096x128 .bf16) (h2 : a2.IsWhole) (a3 : Memref sig .tc .vmem S4096x128 .bf16) (h3 : a3.IsWhole) (a4 : Memref sig .tc .vmem S4096x128 .bf16) (h4 : a4.IsWhole) (a5 : Memref sig .tc .vmem S4096x128 .bf16) (h5 : a5.IsWhole) (a6 : Memref sig .tc .vmem S512x128 .bf16) (h6 : a6.IsWhole) (a7 : Memref sig .tc .vmem S512x128 .bf16) (h7 : a7.IsWhole) (a8 : Memref sig .tc .vmem S512x128 .bf16) (h8 : a8.IsWhole) (a9 : Memref sig .tc .vmem S512x128 .bf16) (h9 : a9.IsWhole) (a10 : Memref sig .tc .vmem S1x8x64x512 .f32) (h10 : a10.IsWhole) (a11 : Memref sig .tc .vmem S4096x128 .bf16) (h11 : a11.IsWhole) (a12 : Memref sig .tc .vmem S1024x512 .f32) (h12 : a12.IsWhole) (a13 : Memref sig .tc .vmem S1024x512 .bf16) (h13 : a13.IsWhole)
    (hc : k0_cond1 i = 1#1) (kc vc : Vec F S256x128 .bf16) (x2 : Vec F S4096x128 .bf16) (x3 : Vec F S4096x128 .bf16) (x4 : Vec F S4096x128 .bf16) (x5 : Vec F S4096x128 .bf16) (x10 : Vec F S1x8x64x512 .f32) : ℕ → List (View.Piece (Elt F) S4096x128 .bf16)
  | 0 => []
  | k + 1 => if h : k < k0_t1_loop.trips then
      ⟨Rect.unit (s := S4096x128) (k0_off2 ⟨k, h⟩) S1024x128.size (k0_off2_inb i ⟨k, h⟩ hc), (trip 𝒱 c bd i a2 h2 a3 h3 a4 h4 a5 h5 a6 h6 a7 h7 a8 h8 a9 h9 a10 h10 a11 h11 a12 h12 a13 h13 hc kc vc x2 x3 x4 x5 x10 ⟨k, h⟩).1⟩
        :: tiles 𝒱 c bd i a2 h2 a3 h3 a4 h4 a5 h5 a6 h6 a7 h7 a8 h8 a9 h9 a10 h10 a11 h11 a12 h12 a13 h13 hc kc vc x2 x3 x4 x5 x10 k
    else tiles 𝒱 c bd i a2 h2 a3 h3 a4 h4 a5 h5 a6 h6 a7 h7 a8 h8 a9 h9 a10 h10 a11 h11 a12 h12 a13 h13 hc kc vc x2 x3 x4 x5 x10 k

/-- Trip `k` puts its tile in front. -/
theorem tiles_succ (𝒱 : Variants) (c : Dev nD) (bd : Option 𝒱.V) (i : grid0.Coords) (a2 : Memref sig .tc .vmem S4096x128 .bf16) (h2 : a2.IsWhole) (a3 : Memref sig .tc .vmem S4096x128 .bf16) (h3 : a3.IsWhole) (a4 : Memref sig .tc .vmem S4096x128 .bf16) (h4 : a4.IsWhole) (a5 : Memref sig .tc .vmem S4096x128 .bf16) (h5 : a5.IsWhole) (a6 : Memref sig .tc .vmem S512x128 .bf16) (h6 : a6.IsWhole) (a7 : Memref sig .tc .vmem S512x128 .bf16) (h7 : a7.IsWhole) (a8 : Memref sig .tc .vmem S512x128 .bf16) (h8 : a8.IsWhole) (a9 : Memref sig .tc .vmem S512x128 .bf16) (h9 : a9.IsWhole) (a10 : Memref sig .tc .vmem S1x8x64x512 .f32) (h10 : a10.IsWhole) (a11 : Memref sig .tc .vmem S4096x128 .bf16) (h11 : a11.IsWhole) (a12 : Memref sig .tc .vmem S1024x512 .f32) (h12 : a12.IsWhole) (a13 : Memref sig .tc .vmem S1024x512 .bf16) (h13 : a13.IsWhole)
    (hc : k0_cond1 i = 1#1) (kc vc : Vec F S256x128 .bf16) (x2 : Vec F S4096x128 .bf16) (x3 : Vec F S4096x128 .bf16) (x4 : Vec F S4096x128 .bf16) (x5 : Vec F S4096x128 .bf16) (x10 : Vec F S1x8x64x512 .f32) (k : Fin k0_t1_loop.trips) :
    tiles 𝒱 c bd i a2 h2 a3 h3 a4 h4 a5 h5 a6 h6 a7 h7 a8 h8 a9 h9 a10 h10 a11 h11 a12 h12 a13 h13 hc kc vc x2 x3 x4 x5 x10 (k.val + 1)
      = ⟨Rect.unit (s := S4096x128) (k0_off2 k) S1024x128.size (k0_off2_inb i k hc), (trip 𝒱 c bd i a2 h2 a3 h3 a4 h4 a5 h5 a6 h6 a7 h7 a8 h8 a9 h9 a10 h10 a11 h11 a12 h12 a13 h13 hc kc vc x2 x3 x4 x5 x10 k).1⟩
        :: tiles 𝒱 c bd i a2 h2 a3 h3 a4 h4 a5 h5 a6 h6 a7 h7 a8 h8 a9 h9 a10 h10 a11 h11 a12 h12 a13 h13 hc kc vc x2 x3 x4 x5 x10 k.val := by
  rw [tiles.eq_2, dif_pos k.isLt]

set_option warn.classDefReducibility false in
/-- The loop's invariant: before trip `k` the output buffer holds the tiles of the trips before. -/
@[sl_loop] def loopInv (𝒱 : Variants) (c : Dev nD) (bd : Option 𝒱.V) (E : Set ℕ) (i : grid0.Coords) (a2 : Memref sig .tc .vmem S4096x128 .bf16) (h2 : a2.IsWhole) (a3 : Memref sig .tc .vmem S4096x128 .bf16) (h3 : a3.IsWhole) (a4 : Memref sig .tc .vmem S4096x128 .bf16) (h4 : a4.IsWhole) (a5 : Memref sig .tc .vmem S4096x128 .bf16) (h5 : a5.IsWhole) (a6 : Memref sig .tc .vmem S512x128 .bf16) (h6 : a6.IsWhole) (a7 : Memref sig .tc .vmem S512x128 .bf16) (h7 : a7.IsWhole) (a8 : Memref sig .tc .vmem S512x128 .bf16) (h8 : a8.IsWhole) (a9 : Memref sig .tc .vmem S512x128 .bf16) (h9 : a9.IsWhole) (a10 : Memref sig .tc .vmem S1x8x64x512 .f32) (h10 : a10.IsWhole) (a11 : Memref sig .tc .vmem S4096x128 .bf16) (h11 : a11.IsWhole) (a12 : Memref sig .tc .vmem S1024x512 .f32) (h12 : a12.IsWhole) (a13 : Memref sig .tc .vmem S1024x512 .bf16) (h13 : a13.IsWhole)
    (hc : k0_cond1 i = 1#1) (kc vc : Vec F S256x128 .bf16) (x2 : Vec F S4096x128 .bf16) (x3 : Vec F S4096x128 .bf16) (x4 : Vec F S4096x128 .bf16) (x5 : Vec F S4096x128 .bf16) (x10 : Vec F S1x8x64x512 .f32) (G : BufTy.Contents (Elt F) a11.view.ty) :
    LoopInv (M := 𝕄) Idealize.ShloMosaic.frame (wpE (defs₀ (F := F)) 𝒱 (c : Thread nD τ) bd) E
      k0_t1_loop.lb k0_t1_loop.ub k0_t1_loop.st (k0_t1_ok i hc) () (k0_t1_body (F := F) i a2 h2 a3 h3 a4 h4 a5 h5 a6 h6 a7 h7 a8 h8 a9 h9 a10 h10 a11 h11 a12 h12 a13 h13 hc kc vc) where
  inv k _ := iprop((a2.view.loc (c : Thread nD τ) ↦[a2.view.set]{fullShare} (h2.unread x2)) ∗ (a3.view.loc (c : Thread nD τ) ↦[a3.view.set]{fullShare} (h3.unread x3)) ∗ (a4.view.loc (c : Thread nD τ) ↦[a4.view.set]{fullShare} (h4.unread x4)) ∗ (a5.view.loc (c : Thread nD τ) ↦[a5.view.set]{fullShare} (h5.unread x5)) ∗ (a10.view.loc (c : Thread nD τ) ↦[a10.view.set]{fullShare} (h10.unread x10))
      ∗ (∃ f, (a11.view.loc (c : Thread nD τ) ↦[a11.view.set]{fullShare} f) ∗ ⌜f = a11.view.writes (Elt F) G (tiles 𝒱 c bd i a2 h2 a3 h3 a4 h4 a5 h5 a6 h6 a7 h7 a8 h8 a9 h9 a10 h10 a11 h11 a12 h12 a13 h13 hc kc vc x2 x3 x4 x5 x10 k)⌝) ∗ (∃ g, (a12.view.loc (c : Thread nD τ) ↦[a12.view.set]{fullShare} g)) ∗ (∃ g, (a13.view.loc (c : Thread nD τ) ↦[a13.view.set]{fullShare} g)))
  step k acc := by
    iintro ⟨HR2, HR3, HR4, HR5, HR10, ⟨%f11, HW11, %hF⟩, ⟨%f12, HW12⟩, ⟨%f13, HW13⟩⟩
    iapply (wp_wand_r Idealize.ShloMosaic.frame (wpE (defs₀ (F := F)) 𝒱 (c : Thread nD τ) bd) E)
    isplitl [HR2 HR3 HR4 HR5 HR10 HW11 HW12 HW13]
    · iapply ((trip (F := F) 𝒱 c bd i a2 h2 a3 h3 a4 h4 a5 h5 a6 h6 a7 h7 a8 h8 a9 h9 a10 h10 a11 h11 a12 h12 a13 h13 hc kc vc x2 x3 x4 x5 x10 k).2 E f11 f12 f13)
      isplitl [HR2]; · iexact HR2
      isplitl [HR3]; · iexact HR3
      isplitl [HR4]; · iexact HR4
      isplitl [HR5]; · iexact HR5
      isplitl [HR10]; · iexact HR10
      isplitl [HW11]; · iexact HW11
      isplitl [HW12]; · iexact HW12
      iexact HW13
    · iintro %_ ⟨HR2, HR3, HR4, HR5, HR10, HW11, HW12, HW13⟩
      isplitl [HR2]; · iexact HR2
      isplitl [HR3]; · iexact HR3
      isplitl [HR4]; · iexact HR4
      isplitl [HR5]; · iexact HR5
      isplitl [HR10]; · iexact HR10
      isplitl [HW11]
      · iexists _; isplitl [HW11]; · iexact HW11
        ipureintro; rw [tiles_succ, hF, ← View.writes_append]; rfl
      isplitl [HW12]; · iexact HW12
      iexact HW13

/-- What the body leaves in the output buffer at a grid point: the four tiles. -/
def outPieces (c : Dev nD) (i : grid0.Coords) (a2 : Memref sig .tc .vmem S4096x128 .bf16) (h2 : a2.IsWhole) (a3 : Memref sig .tc .vmem S4096x128 .bf16) (h3 : a3.IsWhole) (a4 : Memref sig .tc .vmem S4096x128 .bf16) (h4 : a4.IsWhole) (a5 : Memref sig .tc .vmem S4096x128 .bf16) (h5 : a5.IsWhole) (a6 : Memref sig .tc .vmem S512x128 .bf16) (h6 : a6.IsWhole) (a7 : Memref sig .tc .vmem S512x128 .bf16) (h7 : a7.IsWhole) (a8 : Memref sig .tc .vmem S512x128 .bf16) (h8 : a8.IsWhole) (a9 : Memref sig .tc .vmem S512x128 .bf16) (h9 : a9.IsWhole) (a10 : Memref sig .tc .vmem S1x8x64x512 .f32) (h10 : a10.IsWhole) (a11 : Memref sig .tc .vmem S4096x128 .bf16) (h11 : a11.IsWhole) (a12 : Memref sig .tc .vmem S1024x512 .f32) (h12 : a12.IsWhole) (a13 : Memref sig .tc .vmem S1024x512 .bf16) (h13 : a13.IsWhole) (hc : k0_cond1 i = 1#1) (x2 : Vec F S4096x128 .bf16) (x3 : Vec F S4096x128 .bf16) (x4 : Vec F S4096x128 .bf16) (x5 : Vec F S4096x128 .bf16) (x6 : Vec F S512x128 .bf16) (x7 : Vec F S512x128 .bf16) (x8 : Vec F S512x128 .bf16) (x9 : Vec F S512x128 .bf16) (x10 : Vec F S1x8x64x512 .f32) : List (View.Piece (Elt F) S4096x128 .bf16) :=
  tiles Variants.none c none i a2 h2 a3 h3 a4 h4 a5 h5 a6 h6 a7 h7 a8 h8 a9 h9 a10 h10 a11 h11 a12 h12 a13 h13 hc (View.readAt (Elt F) a7.view (Rect.unit (s := S512x128) (k0_off1 i) S256x128.size (k0_off1_inb i hc)).toLoadRect (h7.unread x7)) (View.readAt (Elt F) a8.view (Rect.unit (s := S512x128) (k0_off1 i) S256x128.size (k0_off1_inb i hc)).toLoadRect (h8.unread x8)) x2 x3 x4 x5 x10 4

/-- The body at a grid point: the inputs stay as they are, the output buffer ends with the tiles written, and the
    scratches may hold anything. -/
theorem run_body (c : Dev nD) (i : grid0.Coords) (a2 : Memref sig .tc .vmem S4096x128 .bf16) (h2 : a2.IsWhole) (a3 : Memref sig .tc .vmem S4096x128 .bf16) (h3 : a3.IsWhole) (a4 : Memref sig .tc .vmem S4096x128 .bf16) (h4 : a4.IsWhole) (a5 : Memref sig .tc .vmem S4096x128 .bf16) (h5 : a5.IsWhole) (a6 : Memref sig .tc .vmem S512x128 .bf16) (h6 : a6.IsWhole) (a7 : Memref sig .tc .vmem S512x128 .bf16) (h7 : a7.IsWhole) (a8 : Memref sig .tc .vmem S512x128 .bf16) (h8 : a8.IsWhole) (a9 : Memref sig .tc .vmem S512x128 .bf16) (h9 : a9.IsWhole) (a10 : Memref sig .tc .vmem S1x8x64x512 .f32) (h10 : a10.IsWhole) (a11 : Memref sig .tc .vmem S4096x128 .bf16) (h11 : a11.IsWhole) (a12 : Memref sig .tc .vmem S1024x512 .f32) (h12 : a12.IsWhole) (a13 : Memref sig .tc .vmem S1024x512 .bf16) (h13 : a13.IsWhole) (hc : k0_cond1 i = 1#1) (x2 : Vec F S4096x128 .bf16) (x3 : Vec F S4096x128 .bf16) (x4 : Vec F S4096x128 .bf16) (x5 : Vec F S4096x128 .bf16) (x6 : Vec F S512x128 .bf16) (x7 : Vec F S512x128 .bf16) (x8 : Vec F S512x128 .bf16) (x9 : Vec F S512x128 .bf16) (x10 : Vec F S1x8x64x512 .f32) (E : Set ℕ) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ d, owns (c : Thread nD τ) a11 fullShare d) ∗ (∃ d, owns (c : Thread nD τ) a12 fullShare d) ∗ (∃ d, owns (c : Thread nD τ) a13 fullShare d)
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ (∃ f, (a11.view.loc (c : Thread nD τ) ↦[a11.view.set]{fullShare} a11.view.writes (Elt F) f (outPieces c i a2 h2 a3 h3 a4 h4 a5 h5 a6 h6 a7 h7 a8 h8 a9 h9 a10 h10 a11 h11 a12 h12 a13 h13 hc x2 x3 x4 x5 x6 x7 x8 x9 x10))) ∗ (∃ d, owns (c : Thread nD τ) a12 fullShare d) ∗ (∃ d, owns (c : Thread nD τ) a13 fullShare d)) -∗ K ⟨⟩))
      ⊢ wp frame (wpE (defs₀ (F := F)) Variants.none c none) E (cc0_nbr_attn i a2 h2 a3 h3 a4 h4 a5 h5 a6 h6 a7 h7 a8 h8 a9 h9 a10 h10 a11 h11 a12 h12 a13 h13) K := by
  simp only [cc0_nbr_attn_eq_skeleton]; unfold cc0_nbr_attn_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10
  sl_exec (disch := first | sl_exact hc)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]; · iexists _; iexact H11
  isplitl [H12]
  · iexists _; iexists _; isplitr
    swap; · iexact H12
    ipureintro; rfl
  iexists _; iexists _; isplitr
  swap; · iexact H13
  ipureintro; rfl
/-- The tile of every trip before `n` is among the tiles; -/
theorem mem_tiles (𝒱 : Variants) (c : Dev nD) (bd : Option 𝒱.V) (i : grid0.Coords) (a2 : Memref sig .tc .vmem S4096x128 .bf16) (h2 : a2.IsWhole) (a3 : Memref sig .tc .vmem S4096x128 .bf16) (h3 : a3.IsWhole) (a4 : Memref sig .tc .vmem S4096x128 .bf16) (h4 : a4.IsWhole) (a5 : Memref sig .tc .vmem S4096x128 .bf16) (h5 : a5.IsWhole) (a6 : Memref sig .tc .vmem S512x128 .bf16) (h6 : a6.IsWhole) (a7 : Memref sig .tc .vmem S512x128 .bf16) (h7 : a7.IsWhole) (a8 : Memref sig .tc .vmem S512x128 .bf16) (h8 : a8.IsWhole) (a9 : Memref sig .tc .vmem S512x128 .bf16) (h9 : a9.IsWhole) (a10 : Memref sig .tc .vmem S1x8x64x512 .f32) (h10 : a10.IsWhole) (a11 : Memref sig .tc .vmem S4096x128 .bf16) (h11 : a11.IsWhole) (a12 : Memref sig .tc .vmem S1024x512 .f32) (h12 : a12.IsWhole) (a13 : Memref sig .tc .vmem S1024x512 .bf16) (h13 : a13.IsWhole)
    (hc : k0_cond1 i = 1#1) (kc vc : Vec F S256x128 .bf16) (x2 : Vec F S4096x128 .bf16) (x3 : Vec F S4096x128 .bf16) (x4 : Vec F S4096x128 .bf16) (x5 : Vec F S4096x128 .bf16) (x10 : Vec F S1x8x64x512 .f32) (k : Fin k0_t1_loop.trips) :
    ∀ n : ℕ, k.val < n → (⟨Rect.unit (s := S4096x128) (k0_off2 k) S1024x128.size (k0_off2_inb i k hc), (trip 𝒱 c bd i a2 h2 a3 h3 a4 h4 a5 h5 a6 h6 a7 h7 a8 h8 a9 h9 a10 h10 a11 h11 a12 h12 a13 h13 hc kc vc x2 x3 x4 x5 x10 k).1⟩ : View.Piece (Elt F) S4096x128 .bf16)
      ∈ tiles 𝒱 c bd i a2 h2 a3 h3 a4 h4 a5 h5 a6 h6 a7 h7 a8 h8 a9 h9 a10 h10 a11 h11 a12 h12 a13 h13 hc kc vc x2 x3 x4 x5 x10 n := by
  intro n
  induction n with
  | zero => intro h; omega
  | succ n ih =>
    intro h
    rw [tiles.eq_2]
    by_cases hn : n < k0_t1_loop.trips
    · rw [dif_pos hn]
      by_cases e : k.val = n
      · obtain ⟨kv, hkv⟩ := k
        obtain rfl : kv = n := e
        exact List.mem_cons_self ..
      · exact List.mem_cons_of_mem _ (ih (by omega))
    · rw [dif_neg hn]
      have := k.isLt
      exact ih (by omega)

/-- and nothing else is. -/
theorem of_mem_tiles (𝒱 : Variants) (c : Dev nD) (bd : Option 𝒱.V) (i : grid0.Coords) (a2 : Memref sig .tc .vmem S4096x128 .bf16) (h2 : a2.IsWhole) (a3 : Memref sig .tc .vmem S4096x128 .bf16) (h3 : a3.IsWhole) (a4 : Memref sig .tc .vmem S4096x128 .bf16) (h4 : a4.IsWhole) (a5 : Memref sig .tc .vmem S4096x128 .bf16) (h5 : a5.IsWhole) (a6 : Memref sig .tc .vmem S512x128 .bf16) (h6 : a6.IsWhole) (a7 : Memref sig .tc .vmem S512x128 .bf16) (h7 : a7.IsWhole) (a8 : Memref sig .tc .vmem S512x128 .bf16) (h8 : a8.IsWhole) (a9 : Memref sig .tc .vmem S512x128 .bf16) (h9 : a9.IsWhole) (a10 : Memref sig .tc .vmem S1x8x64x512 .f32) (h10 : a10.IsWhole) (a11 : Memref sig .tc .vmem S4096x128 .bf16) (h11 : a11.IsWhole) (a12 : Memref sig .tc .vmem S1024x512 .f32) (h12 : a12.IsWhole) (a13 : Memref sig .tc .vmem S1024x512 .bf16) (h13 : a13.IsWhole)
    (hc : k0_cond1 i = 1#1) (kc vc : Vec F S256x128 .bf16) (x2 : Vec F S4096x128 .bf16) (x3 : Vec F S4096x128 .bf16) (x4 : Vec F S4096x128 .bf16) (x5 : Vec F S4096x128 .bf16) (x10 : Vec F S1x8x64x512 .f32) (p : View.Piece (Elt F) S4096x128 .bf16) :
    ∀ n : ℕ, p ∈ tiles 𝒱 c bd i a2 h2 a3 h3 a4 h4 a5 h5 a6 h6 a7 h7 a8 h8 a9 h9 a10 h10 a11 h11 a12 h12 a13 h13 hc kc vc x2 x3 x4 x5 x10 n → ∃ k : Fin k0_t1_loop.trips,
      p = ⟨Rect.unit (s := S4096x128) (k0_off2 k) S1024x128.size (k0_off2_inb i k hc), (trip 𝒱 c bd i a2 h2 a3 h3 a4 h4 a5 h5 a6 h6 a7 h7 a8 h8 a9 h9 a10 h10 a11 h11 a12 h12 a13 h13 hc kc vc x2 x3 x4 x5 x10 k).1⟩ := by
  intro n
  induction n with
  | zero => intro h; rw [tiles.eq_1] at h; cases h
  | succ n ih =>
    intro h
    rw [tiles.eq_2] at h
    by_cases hn : n < k0_t1_loop.trips
    · rw [dif_pos hn] at h
      rcases List.mem_cons.1 h with h | h
      · exact ⟨⟨n, hn⟩, h⟩
      · exact ih h
    · rw [dif_neg hn] at h
      exact ih h

/-- The loop makes four trips. -/
theorem trips_eq : k0_t1_loop.trips = 4 := by decide +kernel

/-- The four tiles cover the output buffer. -/
theorem cover (c : Dev nD) (i : grid0.Coords) (a2 : Memref sig .tc .vmem S4096x128 .bf16) (h2 : a2.IsWhole) (a3 : Memref sig .tc .vmem S4096x128 .bf16) (h3 : a3.IsWhole) (a4 : Memref sig .tc .vmem S4096x128 .bf16) (h4 : a4.IsWhole) (a5 : Memref sig .tc .vmem S4096x128 .bf16) (h5 : a5.IsWhole) (a6 : Memref sig .tc .vmem S512x128 .bf16) (h6 : a6.IsWhole) (a7 : Memref sig .tc .vmem S512x128 .bf16) (h7 : a7.IsWhole) (a8 : Memref sig .tc .vmem S512x128 .bf16) (h8 : a8.IsWhole) (a9 : Memref sig .tc .vmem S512x128 .bf16) (h9 : a9.IsWhole) (a10 : Memref sig .tc .vmem S1x8x64x512 .f32) (h10 : a10.IsWhole) (a11 : Memref sig .tc .vmem S4096x128 .bf16) (h11 : a11.IsWhole) (a12 : Memref sig .tc .vmem S1024x512 .f32) (h12 : a12.IsWhole) (a13 : Memref sig .tc .vmem S1024x512 .bf16) (h13 : a13.IsWhole) (hc : k0_cond1 i = 1#1) (x2 : Vec F S4096x128 .bf16) (x3 : Vec F S4096x128 .bf16) (x4 : Vec F S4096x128 .bf16) (x5 : Vec F S4096x128 .bf16) (x6 : Vec F S512x128 .bf16) (x7 : Vec F S512x128 .bf16) (x8 : Vec F S512x128 .bf16) (x9 : Vec F S512x128 .bf16) (x10 : Vec F S1x8x64x512 .f32) (y : S4096x128.Idx) :
    ∃ p ∈ outPieces (F := F) c i a2 h2 a3 h3 a4 h4 a5 h5 a6 h6 a7 h7 a8 h8 a9 h9 a10 h10 a11 h11 a12 h12 a13 h13 hc x2 x3 x4 x5 x6 x7 x8 x9 x10, y ∈ p.1.set := by
  have h0 : (y 0).val < 4096 := (y 0).isLt
  have h1 : (y 1).val < 128 := (y 1).isLt
  have hk : (y 0).val / 1024 < k0_t1_loop.trips := by rw [trips_eq]; omega
  refine ⟨_, mem_tiles _ c _ i _ _ _ _ _ _ _ _ _ _ _ _ _ _ _ _ _ _ _ _ _ _ _ _ hc _ _ _ _ _ _ _ ⟨(y 0).val / 1024, hk⟩ 4 (by dsimp only; omega), ?_⟩
  rw [Rect.mem_set_unit]
  intro a
  rw [k0_off2_eq]
  match a with
  | ⟨0, _⟩ =>
    show 1024 * ((y 0).val / 1024) ≤ (y 0).val ∧ (y 0).val < 1024 * ((y 0).val / 1024) + 1024
    omega
  | ⟨1, _⟩ =>
    show 0 ≤ (y 1).val ∧ (y 1).val < 0 + 128
    omega

/-! ## The frame -/

/-- The branch on the column of heads is taken at every grid point. -/
theorem cond_true : ∀ i : grid0.Coords, k0_cond1 i = 1#1 := by decide +kernel

variable (m : (ℓ : Loc nD τ sig) → Buf (Elt F) ℓ) (ρ : Dev nD → PrngReg)

/-- What the body leaves in the output buffer at grid point `t`. -/
def out (c : Dev nD) (t : Fin cfg0.N) : Vec F S4096x128 .bf16 :=
  View.canon (outPieces c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (Memref.whole cc0_scratch0) (Memref.isWhole_whole _) (Memref.whole cc0_scratch1) (Memref.isWhole_whole _) (cond_true _) (X0_0 m c t) (X0_1 m c t) (X0_2 m c t) (X0_3 m c t) (iblk m c 4 t) (iblk m c 5 t) (iblk m c 6 t) (iblk m c 7 t) (iblk m c 8 t))

/-- The proof data: the inputs' buffers keep their blocks, the output's gets the four tiles, and the scratches may hold
    anything between points. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out m c t
  Φ _ := Pipeline.ΦA spec0 c
  q w := Pipeline.shareOf spec0 w
  owed _ := 0

/-- The arrays are those that the region finds. -/
theorem A_eq (c : Dev nD) (w : Fin cfg0.W) : (dats m 0 c).A w = V m c (Pipeline.arrRef spec0 w) := by
  dsimp only [dats]

theorem after0 (c : Dev nD) (t : Fin cfg0.N) : (dats m 0 c).after 0 t = X0_0 m c t := by dsimp only [dats]
theorem after1 (c : Dev nD) (t : Fin cfg0.N) : (dats m 0 c).after 1 t = X0_1 m c t := by dsimp only [dats]
theorem after2 (c : Dev nD) (t : Fin cfg0.N) : (dats m 0 c).after 2 t = X0_2 m c t := by dsimp only [dats]
theorem after3 (c : Dev nD) (t : Fin cfg0.N) : (dats m 0 c).after 3 t = X0_3 m c t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out m c t := by dsimp only [dats]

theorem before0 (c : Dev nD) (t : Fin cfg0.N) (d) : (dats m 0 c).before 0 t d = X0_0 m c t :=
  before0_0_of m (dats m 0 c) (A_eq m c 0) (after0 m c) t d
theorem before1 (c : Dev nD) (t : Fin cfg0.N) (d) : (dats m 0 c).before 1 t d = X0_1 m c t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = X0_3 m c t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- What the launch hands over, the two scratches one by one. -/
theorem launch_eq (c : Dev nD) :
    (Pipeline.ΦA spec0 c : sProp 𝕄)
      = iprop(iprop((∃ d, owns (c : Thread nD τ) (Memref.whole cc0_scratch0 : Memref sig .tc .vmem S1024x512 .f32) fullShare d)
          ∗ (∃ d, owns (c : Thread nD τ) (Memref.whole cc0_scratch1 : Memref sig .tc .vmem S1024x512 .bf16) fullShare d)) ∗ (∃ r, prngReg c r)) := by
  unfold Pipeline.ΦA; rw [scopedRest0_eq]; simp only [owns_whole]; try rfl

/-- What the pipeline hands the body at a grid point, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it takes back. -/
def taken (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at a grid point, from the one to the other. -/
theorem body_sound (c : Dev nD) (t : Fin cfg0.N) :
    handed m c t ⊢ wp frame (wpE (defs₀ (F := F)) Variants.none c none) Set.univ (bodyAt0 t) (fun _ => taken m c t) := by
  unfold handed taken
  unfold bodyAt0
  simp only [before0, before1, before2, before3, before4, before5, before6, before7, before8]
  rw [show (dats m 0 c).owesAt () t.succ = (dats m 0 c).owesAt () t.castSucc from rfl,
    after0, after1, after2, after3, after4, after5, after6, after7, after8, after9]
  rw [show (dats m 0 c).Φ t.castSucc = Pipeline.ΦA spec0 c from rfl, show (dats m 0 c).Φ t.succ = Pipeline.ΦA spec0 c from rfl, launch_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_body c (grid0.coords t) _ _ _ _ _ _ _ _ _ _ _ _ _ _ _ _ _ _ _ _ _ _ _ _ (cond_true _) (X0_0 m c t) (X0_1 m c t) (X0_2 m c t) (X0_3 m c t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  iintro ⟨H0, H1, H2, H3, H4, H5, H6, H7, H8, ⟨%e9, H9⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_eq_canon _ _ _ (cover c _ _ _ _ _ _ _ _ _ _ _ _ _ _ _ _ _ _ _ _ _ _ _ _ _ _ _ _ _ _ _ _ _ _ _)

/-- The body that the launch runs at a point is the one above. -/
theorem row_eq (t : Fin cfg0.N) : defs₀ (F := F) .tc cfg0.body (cfg0.bodyArgs t (cfg0.slots t)) = bodyAt0 t := by
  unfold defs₀; rw [Defs.onTc_tc]

/-- The obligation of the body, at every point. -/
theorem obligation (c : Dev nD) : BodyObligation (dats (F := F) m 0 c) (defs₀ (F := F)) Variants.none () Set.univ := fun t => by
  rw [bigSep_W0, bigSep_W0, row_eq]
  have hi : idle0 9 (grid0.coords t) = false := by
    show (!(k0_cond1 (grid0.coords t) == 1#1)) = false
    rw [cond_true]
    rfl
  refine triple_restated (body_sound m c t) rfl .rfl fun _ => ?_
  simp only [hi]
  exact (Idealize.SL.BI.Entails.refl _ : (taken m c t : sProp 𝕄) ⊢ taken m c t)

set_option backward.isDefEq.respectTransparency.types false in
/-- The launch: the arrays end as the pipeline computes them and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m)
    (hin := fun c => Idealize.SL.BI.Entails.refl _) (hout := fun c => Idealize.SL.BI.Entails.refl _)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they began, and every counter at zero. -/
theorem unharmed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.NbrAttnIdeal.Attn
-- ==== Proof.NbrAttnTile.lean ====
/- What one trip of the neighborhood attention's loop stores, index by index: the scores of the eight grid rows of the
   window with the table of biases, those of the context, the weights by the exponential of their differences from the
   greatest, and the weighted rows over the weights' sum, under the gate. -/
module

public import proofs.«01_k».proof.Proof.NbrAttnRun
public import Idealize.ShloMosaic.Lib.Pointwise
public import Idealize.ShloMosaic.Lib.Tactic.ValueTie

@[expose] public section

set_option maxRecDepth 16384

noncomputable section

namespace Cert.NbrAttnIdeal.Attn

open Cert.NbrAttnIdeal.Gen
open Idealize.ShloMosaic Idealize.ShloMosaic.TcCoe Idealize.ShloMosaic.Tactic

/-- The factor of the queries. -/
def scale : EReal := Ideal.ofBits .f32 0x3DB504F3#32

/-- The value that the row maxima start from. -/
def bot : EReal := Ideal.ofBits .f32 0xFF800000#32

/-- The first of the eight grid rows that grid row `r` attends to. -/
def rs (r : ℕ) : ℕ := min (r - 4) 56

theorem rs_le (r : ℕ) : rs r ≤ 56 := Nat.min_le_right _ _

theorem rs_off (r : Fin 64) : r.val - rs r.val < 8 := by
  have := r.isLt
  unfold rs
  omega

/-- The position of column `w` of grid row `r`, -/
def at_ (r w : Fin 64) : Fin 4096 := ⟨64 * r.val + w.val, by omega⟩

/-- that of the window's key `j`, -/
def key (r : Fin 64) (j : Fin 512) : Fin 4096 := ⟨64 * rs r.val + j.val, by have := rs_le r.val; omega⟩

/-- and how far the row lies below the window's first. -/
def below (r : Fin 64) : Fin 8 := ⟨r.val - rs r.val, rs_off r⟩

/-- The score of the window's key `j`. -/
def score (q k : S4096x128.Idx → EReal) (t : S1x8x64x512.Idx → EReal) (r w : Fin 64) (j : Fin 512) : EReal :=
  (∑ d : Fin 128, q (ix2 (at_ r w) d) * scale * k (ix2 (key r j) d)) + t (ix4 (0 : Fin 1) (below r) w j)

/-- The score of the context's key `j`. -/
def score' (q : S4096x128.Idx → EReal) (kc : S256x128.Idx → EReal) (r w : Fin 64) (j : Fin 256) : EReal :=
  ∑ d : Fin 128, q (ix2 (at_ r w) d) * scale * kc (ix2 j d)

/-- The greatest of the scores. -/
def top (q k : S4096x128.Idx → EReal) (kc : S256x128.Idx → EReal) (t : S1x8x64x512.Idx → EReal) (r w : Fin 64) : EReal :=
  max (Finset.univ.fold max bot (score q k t r w)) (Finset.univ.fold max bot (score' q kc r w))

/-- The tile's element. -/
def attn (q k v z : S4096x128.Idx → EReal) (kc vc : S256x128.Idx → EReal) (t : S1x8x64x512.Idx → EReal) (r w : Fin 64) (d : Fin 128) : EReal :=
  Ideal.div
    ((∑ j : Fin 512, Ideal.exp (score q k t r w j - top q k kc t r w) * v (ix2 (key r j) d))
      + ∑ j : Fin 256, Ideal.exp (score' q kc r w j - top q k kc t r w) * vc (ix2 j d))
    ((∑ j : Fin 512, Ideal.exp (score q k t r w j - top q k kc t r w))
      + ∑ j : Fin 256, Ideal.exp (score' q kc r w j - top q k kc t r w))
  * (z (ix2 (at_ r w) d) * Ideal.logistic (z (ix2 (at_ r w) d)))

/-- The grid row and the column of a row of the tile of trip `k`. -/
def row (k : Fin k0_t1_loop.trips) (n : Fin 1024) : Fin 64 :=
  ⟨16 * k.val + n.val / 64, by have := Nat.lt_of_lt_of_le k.isLt k0_t1_abs.2.1; omega⟩
def col (n : Fin 1024) : Fin 64 := ⟨n.val % 64, by omega⟩

/-- The offsets in closed form. -/
theorem off2 : ∀ k : Fin k0_t1_loop.trips, k0_off2 k = ![1024 * k.val, 0] := by decide +kernel

theorem off3 : ∀ (k : Fin k0_t1_loop.trips) (j : Fin 16),
    k0_off3 k (BitVec.ofNat 32 j.val) = ![64 * rs (16 * k.val + j.val), 0] := by decide +kernel

theorem off4 : ∀ (k : Fin k0_t1_loop.trips) (j : Fin 16),
    k0_off4 k (BitVec.ofNat 32 j.val) = ![0, 16 * k.val + j.val - rs (16 * k.val + j.val), 0, 0] := by decide +kernel

/-- Sixty-four rows of the queries against a block of keys, with a block of the table, at an index. -/
theorem score_apply (Q : FVec Ideal S1024x128 .bf16) (K : Vec Ideal S512x128 .bf16) (T : Vec Ideal S1x1x64x512 .f32)
    (n : ℕ) (hn : n < 16) (hs : S1024x128.Slices ![64 * n, 0] S64x128) (x : S64x512.Idx) :
    addf (F := Ideal) (φ := .f32) (matmul (φ₁ := .bf16) (φ₂ := .bf16) dot_S64x128_S512x128_S64x512_1_1_0_0_n_n none (extractStridedSlice S64x128 ![64 * n, 0] Q hs) K
        (constant S64x512 .f32 0x00000000#32)) (shapeCast S64x512 T shapeCasts_S1x1x64x512_S64x512) x
      = (∑ d : Fin 128, Q (ix2 (⟨64 * n + (x 0).val, by have := (x 0).isLt; change (x 0).val < 64 at this; omega⟩ : Fin 1024) d) * K (ix2 (x 1) d))
        + T (ix4 (0 : Fin 1) (0 : Fin 1) (x 0) (x 1)) := by
  pointwise

/-- The queries of the trip, scaled. -/
theorem queries_apply (i : grid0.Coords) (a2 : Memref sig .tc .vmem S4096x128 .bf16) (h2 : a2.IsWhole) (hc : k0_cond1 i = 1#1) (x2 : Vec Ideal S4096x128 .bf16) (k : Fin k0_t1_loop.trips)
    (n : Fin 1024) (d : Fin 128) : trip.sl.r (F := Ideal) i a2 h2 hc x2 k (ix2 n d) = x2 (ix2 (at_ (row k n) (col n)) d) * scale := by
  unfold trip.sl.r
  rw [View.readAt_eq_ld, h2.read_unread]
  pointwise [k0_pay2]
  refine congrArg (x2 · * scale) ?_
  have h := off2 k
  funext a
  apply Fin.ext
  match a with
  | ⟨0, _⟩ => show k0_off2 k 0 + n.val = 64 * (16 * k.val + n.val / 64) + n.val % 64; rw [h]; show 1024 * k.val + n.val = _; omega
  | ⟨1, _⟩ => show k0_off2 k 1 + d.val = d.val; rw [h]; exact Nat.zero_add _

/-- What a load of 512 rows of a block reads, and what a load of a slab of the table does. -/
theorem read3 (a : Memref sig .tc .vmem S4096x128 .bf16) (h : a.IsWhole) (x : Vec Ideal S4096x128 .bf16) (k : Fin k0_t1_loop.trips) (n : ℕ) (hn : n < 16)
    (hb : ∀ a, ((k0_off3 k (BitVec.ofNat 32 n)) : Fin S4096x128.rank → ℕ) a + S512x128.size a ≤ S4096x128.size a) (r : Fin 64) (hr : r.val = 16 * k.val + n) (j : Fin 512) (d : Fin 128) :
    View.readAt (Elt Ideal) a.view (Rect.unit (s := S4096x128) (k0_off3 k (BitVec.ofNat 32 n)) S512x128.size hb).toLoadRect (h.unread x) (ix2 j d)
      = x (ix2 (key r j) d) := by
  rw [View.readAt_eq_ld, h.read_unread]
  pointwise
  have e := off3 k ⟨n, hn⟩
  refine congrArg x ?_
  funext a
  apply Fin.ext
  match a with
  | ⟨0, _⟩ => show k0_off3 k (BitVec.ofNat 32 n) 0 + j.val = 64 * rs r.val + j.val; rw [e, hr]; rfl
  | ⟨1, _⟩ => show k0_off3 k (BitVec.ofNat 32 n) 1 + d.val = d.val; rw [e]; exact Nat.zero_add _

theorem read4 (a : Memref sig .tc .vmem S1x8x64x512 .f32) (h : a.IsWhole) (x : Vec Ideal S1x8x64x512 .f32) (k : Fin k0_t1_loop.trips) (n : ℕ) (hn : n < 16)
    (hb : ∀ a, ((k0_off4 k (BitVec.ofNat 32 n)) : Fin S1x8x64x512.rank → ℕ) a + S1x1x64x512.size a ≤ S1x8x64x512.size a) (r : Fin 64) (hr : r.val = 16 * k.val + n) (w : Fin 64) (j : Fin 512) :
    View.readAt (Elt Ideal) a.view (Rect.unit (s := S1x8x64x512) (k0_off4 k (BitVec.ofNat 32 n)) S1x1x64x512.size hb).toLoadRect (h.unread x) (ix4 (0 : Fin 1) (0 : Fin 1) w j)
      = x (ix4 (0 : Fin 1) (below r) w j) := by
  rw [View.readAt_eq_ld, h.read_unread]
  pointwise
  have e := off4 k ⟨n, hn⟩
  refine congrArg x ?_
  funext a
  apply Fin.ext
  match a with
  | ⟨0, _⟩ => show k0_off4 k (BitVec.ofNat 32 n) 0 + 0 = 0; rw [e]; rfl
  | ⟨1, _⟩ => show k0_off4 k (BitVec.ofNat 32 n) 1 + 0 = r.val - rs r.val; rw [e, hr]; rfl
  | ⟨2, _⟩ => show k0_off4 k (BitVec.ofNat 32 n) 2 + w.val = w.val; rw [e]; exact Nat.zero_add _
  | ⟨3, _⟩ => show k0_off4 k (BitVec.ofNat 32 n) 3 + j.val = j.val; rw [e]; exact Nat.zero_add _

/-- The scores of the `n`-th grid row of the trip. -/
theorem piece_apply (i : grid0.Coords) (a2 : Memref sig .tc .vmem S4096x128 .bf16) (h2 : a2.IsWhole) (a3 : Memref sig .tc .vmem S4096x128 .bf16) (h3 : a3.IsWhole) (a10 : Memref sig .tc .vmem S1x8x64x512 .f32) (h10 : a10.IsWhole)
    (a12 : Memref sig .tc .vmem S1024x512 .f32) (hc : k0_cond1 i = 1#1)
    (x2 x3 : Vec Ideal S4096x128 .bf16) (x10 : Vec Ideal S1x8x64x512 .f32) (k : Fin k0_t1_loop.trips) (n : ℕ) (hn : n < 16) (hs : S1024x128.Slices ![64 * n, 0] S64x128)
    (hb3 : ∀ a, ((k0_off3 k (BitVec.ofNat 32 n)) : Fin S4096x128.rank → ℕ) a + S512x128.size a ≤ S4096x128.size a)
    (hb4 : ∀ a, ((k0_off4 k (BitVec.ofNat 32 n)) : Fin S1x8x64x512.rank → ℕ) a + S1x1x64x512.size a ≤ S1x8x64x512.size a)
    (hb : ∀ a, (![64 * n, 0] : Fin S1024x512.rank → ℕ) a + S64x512.size a ≤ S1024x512.size a) (x : S64x512.Idx) :
    addf (F := Ideal) (φ := .f32) (matmul (φ₁ := .bf16) (φ₂ := .bf16) dot_S64x128_S512x128_S64x512_1_1_0_0_n_n none
        (extractStridedSlice S64x128 ![64 * n, 0] (trip.sl.r (F := Ideal) i a2 h2 hc x2 k) hs)
        (View.readAt (Elt Ideal) a3.view (Rect.unit (s := S4096x128) (k0_off3 k (BitVec.ofNat 32 n)) S512x128.size hb3).toLoadRect (h3.unread x3))
        (constant S64x512 .f32 0x00000000#32))
      (shapeCast S64x512 (View.readAt (Elt Ideal) a10.view (Rect.unit (s := S1x8x64x512) (k0_off4 k (BitVec.ofNat 32 n)) S1x1x64x512.size hb4).toLoadRect (h10.unread x10))
        shapeCasts_S1x1x64x512_S64x512) x
      = (fun y : S1024x512.Idx => score x2 x3 x10 (row k (y 0)) (col (y 0)) (y 1)) ((Rect.unit (s := S1024x512) ![64 * n, 0] S64x512.size hb).emb x) := by
  have hx := (x 0).isLt
  change (x 0).val < 64 at hx
  have e0 : (((Rect.unit (s := S1024x512) ![64 * n, 0] S64x512.size hb).emb x) 0 : Fin 1024) = (⟨64 * n + (x 0).val, by omega⟩ : Fin 1024) :=
    Fin.ext (by show 64 * n + 1 * (x 0).val = 64 * n + (x 0).val; omega)
  have e1 : (((Rect.unit (s := S1024x512) ![64 * n, 0] S64x512.size hb).emb x) 1 : Fin 512) = x 1 :=
    Fin.ext (by show 0 + 1 * (x 1).val = (x 1).val; omega)
  have hr : (row k ⟨64 * n + (x 0).val, by omega⟩).val = 16 * k.val + n := by
    show 16 * k.val + (64 * n + (x 0).val) / 64 = _; omega
  have hw : col ⟨64 * n + (x 0).val, by omega⟩ = x 0 := Fin.ext (by show (64 * n + (x 0).val) % 64 = (x 0).val; omega)
  refine (score_apply _ _ _ n hn hs x).trans ?_
  show _ = score x2 x3 x10 (row k _) (col _) _
  rw [e0, e1]
  unfold score
  refine congrArg₂ (· + ·) (Finset.sum_congr rfl fun d _ => ?_) ?_
  · rw [queries_apply]
    exact congrArg (_ * ·) (read3 a3 h3 x3 k n hn hb3 _ hr (x 1) d)
  · refine (read4 a10 h10 x10 k n hn hb4 _ hr (x 0) (x 1)).trans ?_
    rw [hw]

/-- The scratch of the scores, index by index. -/
theorem scores_apply (i : grid0.Coords) (a2 : Memref sig .tc .vmem S4096x128 .bf16) (h2 : a2.IsWhole) (a3 : Memref sig .tc .vmem S4096x128 .bf16) (h3 : a3.IsWhole) (a10 : Memref sig .tc .vmem S1x8x64x512 .f32) (h10 : a10.IsWhole)
    (a12 : Memref sig .tc .vmem S1024x512 .f32) (hc : k0_cond1 i = 1#1)
    (x2 x3 : Vec Ideal S4096x128 .bf16) (x10 : Vec Ideal S1x8x64x512 .f32) (k : Fin k0_t1_loop.trips) (n : Fin 1024) (j : Fin 512) :
    trip.sl.v323 (F := Ideal) i a2 h2 a3 h3 a10 h10 a12 hc x2 x3 x10 k (ix2 n j) = score x2 x3 x10 (row k n) (col n) j := by
  unfold trip.sl.v323
  rw [View.readCov_eq_canon']
  show View.canon _ ((Rect.unit (s := S1024x512) ![0, 0] S1024x512.size inb_S1024x512_S1024x512_0_0).toLoadRect.idx (ix2 n j)) = _
  have hy : (Rect.unit (s := S1024x512) ![0, 0] S1024x512.size inb_S1024x512_S1024x512_0_0).toLoadRect.idx (ix2 n j) = ix2 n j := by
    funext a
    apply Fin.ext
    match a with
    | ⟨0, _⟩ => show 0 + 1 * n.val = n.val; omega
    | ⟨1, _⟩ => show 0 + 1 * j.val = j.val; omega
  rw [hy]
  refine View.canon_apply_of_pieces (fun y : S1024x512.Idx => score x2 x3 x10 (row k (y 0)) (col (y 0)) (y 1)) _ ?_ (ix2 n j)
    (View.cover_of_tiledL (trip.sl.HW12_16 (F := Ideal) i a2 h2 a3 h3 a10 h10 hc x2 x3 x10 k) S64x512.size (by sl_kernel_rfl) (ix2 n j))
  intro p hp
  unfold trip.sl.HW12_16 at hp
  simp only [List.mem_cons, List.not_mem_nil, or_false] at hp
  rcases hp with rfl | rfl | rfl | rfl | rfl | rfl | rfl | rfl | rfl | rfl | rfl | rfl | rfl | rfl | rfl | rfl
  · intro x
    unfold k0_pay22
    dsimp only
    rw [shapeCast_self]
    exact piece_apply i a2 h2 a3 h3 a10 h10 a12 hc x2 x3 x10 k 15 (by decide) slices_S1024x128_o960_0_S64x128 _ _ inb_S1024x512_S64x512_960_0 x
  · intro x
    unfold k0_pay21
    dsimp only
    rw [shapeCast_self]
    exact piece_apply i a2 h2 a3 h3 a10 h10 a12 hc x2 x3 x10 k 14 (by decide) slices_S1024x128_o896_0_S64x128 _ _ inb_S1024x512_S64x512_896_0 x
  · intro x
    unfold k0_pay20
    dsimp only
    rw [shapeCast_self]
    exact piece_apply i a2 h2 a3 h3 a10 h10 a12 hc x2 x3 x10 k 13 (by decide) slices_S1024x128_o832_0_S64x128 _ _ inb_S1024x512_S64x512_832_0 x
  · intro x
    unfold k0_pay19
    dsimp only
    rw [shapeCast_self]
    exact piece_apply i a2 h2 a3 h3 a10 h10 a12 hc x2 x3 x10 k 12 (by decide) slices_S1024x128_o768_0_S64x128 _ _ inb_S1024x512_S64x512_768_0 x
  · intro x
    unfold k0_pay18
    dsimp only
    rw [shapeCast_self]
    exact piece_apply i a2 h2 a3 h3 a10 h10 a12 hc x2 x3 x10 k 11 (by decide) slices_S1024x128_o704_0_S64x128 _ _ inb_S1024x512_S64x512_704_0 x
  · intro x
    unfold k0_pay17 trip.sl.r_4 k0_pay16 trip.sl.r_5 trip.sl.cst_122
    dsimp only
    rw [shapeCast_self]
    exact piece_apply i a2 h2 a3 h3 a10 h10 a12 hc x2 x3 x10 k 10 (by decide) slices_S1024x128_o640_0_S64x128 _ _ inb_S1024x512_S64x512_640_0 x
  · intro x
    unfold k0_pay15
    dsimp only
    rw [shapeCast_self]
    exact piece_apply i a2 h2 a3 h3 a10 h10 a12 hc x2 x3 x10 k 9 (by decide) slices_S1024x128_o576_0_S64x128 _ _ inb_S1024x512_S64x512_576_0 x
  · intro x
    unfold k0_pay14 trip.sl.r_3 k0_pay13
    dsimp only
    rw [shapeCast_self]
    exact piece_apply i a2 h2 a3 h3 a10 h10 a12 hc x2 x3 x10 k 8 (by decide) slices_S1024x128_o512_0_S64x128 _ _ inb_S1024x512_S64x512_512_0 x
  · intro x
    unfold k0_pay12
    dsimp only
    rw [shapeCast_self]
    exact piece_apply i a2 h2 a3 h3 a10 h10 a12 hc x2 x3 x10 k 7 (by decide) slices_S1024x128_o448_0_S64x128 _ _ inb_S1024x512_S64x512_448_0 x
  · intro x
    unfold k0_pay11 trip.sl.r_2 k0_pay10
    dsimp only
    rw [shapeCast_self]
    exact piece_apply i a2 h2 a3 h3 a10 h10 a12 hc x2 x3 x10 k 6 (by decide) slices_S1024x128_o384_0_S64x128 _ _ inb_S1024x512_S64x512_384_0 x
  · intro x
    unfold k0_pay9
    dsimp only
    rw [shapeCast_self]
    exact piece_apply i a2 h2 a3 h3 a10 h10 a12 hc x2 x3 x10 k 5 (by decide) slices_S1024x128_o320_0_S64x128 _ _ inb_S1024x512_S64x512_320_0 x
  · intro x
    unfold k0_pay8
    dsimp only
    rw [shapeCast_self]
    exact piece_apply i a2 h2 a3 h3 a10 h10 a12 hc x2 x3 x10 k 4 (by decide) slices_S1024x128_o256_0_S64x128 _ _ inb_S1024x512_S64x512_256_0 x
  · intro x
    unfold k0_pay7
    dsimp only
    rw [shapeCast_self]
    exact piece_apply i a2 h2 a3 h3 a10 h10 a12 hc x2 x3 x10 k 3 (by decide) slices_S1024x128_o192_0_S64x128 _ _ inb_S1024x512_S64x512_192_0 x
  · intro x
    unfold k0_pay6
    dsimp only
    rw [shapeCast_self]
    exact piece_apply i a2 h2 a3 h3 a10 h10 a12 hc x2 x3 x10 k 2 (by decide) slices_S1024x128_o128_0_S64x128 _ _ inb_S1024x512_S64x512_128_0 x
  · intro x
    unfold k0_pay5 trip.sl.r_1 k0_pay4
    dsimp only
    rw [shapeCast_self]
    exact piece_apply i a2 h2 a3 h3 a10 h10 a12 hc x2 x3 x10 k 1 (by decide) slices_S1024x128_o64_0_S64x128 _ _ inb_S1024x512_S64x512_64_0 x
  · intro x
    unfold k0_pay3
    dsimp only
    rw [shapeCast_self]
    exact piece_apply i a2 h2 a3 h3 a10 h10 a12 hc x2 x3 x10 k 0 (by decide) slices_S1024x128_o0_0_S64x128 _ _ inb_S1024x512_S64x512_0_0 x

/-- The payloads after the scores, index by index. -/
theorem pay23_apply (kc : Vec Ideal S256x128 .bf16) (Q : FVec Ideal S1024x128 .bf16) (n : Fin 1024) (j : Fin 256) :
    k0_pay23 kc Q (ix2 n j) = ∑ d : Fin 128, Q (ix2 n d) * kc (ix2 j d) := by
  pointwise [k0_pay23]

theorem pay24_apply (kc : Vec Ideal S256x128 .bf16) (Q : FVec Ideal S1024x128 .bf16) (S : Vec Ideal S1024x512 .f32) (n : Fin 1024) (j : Fin 1) :
    k0_pay24 kc Q S (ix2 n j)
      = max (Finset.univ.fold max bot fun j : Fin 512 => S (ix2 n j)) (Finset.univ.fold max bot fun j : Fin 256 => k0_pay23 kc Q (ix2 n j)) := by
  pointwise [k0_pay24]
  rfl

theorem pay25_apply (kc : Vec Ideal S256x128 .bf16) (Q : FVec Ideal S1024x128 .bf16) (S : Vec Ideal S1024x512 .f32) (n : Fin 1024) (j : Fin 512) :
    k0_pay25 kc Q S (ix2 n j) = Ideal.exp (S (ix2 n j) - k0_pay24 kc Q S (ix2 n (0 : Fin 1))) := by
  pointwise [k0_pay25]

theorem pay26_apply (kc : Vec Ideal S256x128 .bf16) (Q : FVec Ideal S1024x128 .bf16) (S : Vec Ideal S1024x512 .f32) (n : Fin 1024) (j : Fin 256) :
    k0_pay26 kc Q S (ix2 n j) = Ideal.exp (k0_pay23 kc Q (ix2 n j) - k0_pay24 kc Q S (ix2 n (0 : Fin 1))) := by
  pointwise [k0_pay26]

theorem pay27_apply (kc : Vec Ideal S256x128 .bf16) (Q : FVec Ideal S1024x128 .bf16) (S : Vec Ideal S1024x512 .f32) (n : Fin 1024) (j : Fin 1) :
    k0_pay27 kc Q S (ix2 n j) = (∑ j : Fin 512, k0_pay25 kc Q S (ix2 n j)) + ∑ j : Fin 256, k0_pay26 kc Q S (ix2 n j) := by
  pointwise [k0_pay27]

theorem pay28_eq (kc : Vec Ideal S256x128 .bf16) (Q : FVec Ideal S1024x128 .bf16) (S : Vec Ideal S1024x512 .f32) :
    k0_pay28 kc Q S = k0_pay25 kc Q S := by
  unfold k0_pay28
  dsimp only
  rw [shapeCast_self]
  rfl

theorem pay29_apply (kc vc : Vec Ideal S256x128 .bf16) (Q : FVec Ideal S1024x128 .bf16) (S : Vec Ideal S1024x512 .f32) (n : Fin 1024) (d : Fin 128) :
    k0_pay29 kc vc Q S (ix2 n d) = ∑ j : Fin 256, k0_pay26 kc Q S (ix2 n j) * vc (ix2 j d) := by
  pointwise [k0_pay29]

theorem pay1_apply (l : FVec Ideal S1024x1 .f32) (z o : FVec Ideal S1024x128 .f32) (n : Fin 1024) (d : Fin 128) :
    k0_pay1 l z o (ix2 n d)
      = Ideal.div (o (ix2 n d)) (l (ix2 n (0 : Fin 1))) * (z (ix2 n d) * Ideal.logistic (z (ix2 n d))) := by
  pointwise [k0_pay1]
-- ==== Proof.NbrAttnRows.lean ====
/- What one trip of the neighborhood attention's loop stores: the weighted rows of its sixteen grid rows, and the tile. -/
module

public import proofs.«01_k».proof.Proof.NbrAttnTile

@[expose] public section

set_option maxRecDepth 16384
set_option maxHeartbeats 2000000

noncomputable section

namespace Cert.NbrAttnIdeal.Attn

open Cert.NbrAttnIdeal.Gen
open Idealize.ShloMosaic Idealize.ShloMosaic.TcCoe Idealize.ShloMosaic.Tactic

/-- The product of a block of weights and a block of values at an index. -/
theorem mm_apply (p : FVec Ideal S64x512 .bf16) (v : FVec Ideal S512x128 .bf16) (y : Fin 64) (d : Fin 128) :
    matmul (F := Ideal) (φ₁ := .bf16) (φ₂ := .bf16) dot_S64x512_S512x128_S64x128_1_0_0_1_n_n none p v (constant S64x128 .f32 0x00000000#32) (ix2 y d)
      = ∑ j : Fin 512, p (ix2 y j) * v (ix2 j d) := by
  pointwise

/-- The weighted rows of the `n`-th grid row of the trip. -/
theorem value_apply (i : grid0.Coords) (a2 : Memref sig .tc .vmem S4096x128 .bf16) (h2 : a2.IsWhole) (a3 : Memref sig .tc .vmem S4096x128 .bf16) (h3 : a3.IsWhole) (a4 : Memref sig .tc .vmem S4096x128 .bf16) (h4 : a4.IsWhole) (a10 : Memref sig .tc .vmem S1x8x64x512 .f32) (h10 : a10.IsWhole)
    (a12 : Memref sig .tc .vmem S1024x512 .f32) (a13 : Memref sig .tc .vmem S1024x512 .bf16) (hc : k0_cond1 i = 1#1) (kc : Vec Ideal S256x128 .bf16)
    (x2 x3 x4 : Vec Ideal S4096x128 .bf16) (x10 : Vec Ideal S1x8x64x512 .f32) (k : Fin k0_t1_loop.trips) (n : ℕ) (hn : n < 16)
    (hb : ∀ a, (![64 * n, 0] : Fin S1024x512.rank → ℕ) a + S64x512.size a ≤ S1024x512.size a)
    (hb3 : ∀ a, (k0_off3 k (BitVec.ofNat 32 n) : Fin S4096x128.rank → ℕ) a + S512x128.size a ≤ S4096x128.size a) (y : Fin 64) (d : Fin 128) :
    matmul (F := Ideal) (φ₁ := .bf16) (φ₂ := .bf16) dot_S64x512_S512x128_S64x128_1_0_0_1_n_n none
        (a13.view.readCov (trip.sl.HW13_1 (F := Ideal) i a2 h2 a3 h3 a10 h10 a12 hc kc x2 x3 x10 k) (Rect.unit (s := S1024x512) ![64 * n, 0] S64x512.size hb).toLoadRect)
        (View.readAt (Elt Ideal) a4.view (Rect.unit (s := S4096x128) (k0_off3 k (BitVec.ofNat 32 n)) S512x128.size hb3).toLoadRect (h4.unread x4))
        (constant S64x128 .f32 0x00000000#32) (ix2 y d)
      = ∑ j : Fin 512, k0_pay25 kc (trip.sl.r (F := Ideal) i a2 h2 hc x2 k) (trip.sl.v323 (F := Ideal) i a2 h2 a3 h3 a10 h10 a12 hc x2 x3 x10 k) (ix2 (⟨64 * n + y.val, by omega⟩ : Fin 1024) j)
          * x4 (ix2 (key (row k ⟨64 * n + y.val, by omega⟩) j) d) := by
  have hr : (row k ⟨64 * n + y.val, by omega⟩).val = 16 * k.val + n := by
    show 16 * k.val + (64 * n + y.val) / 64 = _; omega
  have h0 : (![0, 0] : Fin S1024x512.rank → ℕ) = fun _ => 0 := by
    funext a
    match a with
    | ⟨0, _⟩ => rfl
    | ⟨1, _⟩ => rfl
  have key_read : ∀ j : Fin 512, View.readAt (Elt Ideal) a4.view (Rect.unit (s := S4096x128) (k0_off3 k (BitVec.ofNat 32 n)) S512x128.size hb3).toLoadRect (h4.unread x4) (ix2 j d)
      = x4 (ix2 (key (row k ⟨64 * n + y.val, by omega⟩) j) d) := fun j => read3 a4 h4 x4 k n hn hb3 _ hr j d
  have weight : ∀ j : Fin 512, a13.view.readCov (trip.sl.HW13_1 (F := Ideal) i a2 h2 a3 h3 a10 h10 a12 hc kc x2 x3 x10 k) (Rect.unit (s := S1024x512) ![64 * n, 0] S64x512.size hb).toLoadRect (ix2 y j)
      = k0_pay25 kc (trip.sl.r (F := Ideal) i a2 h2 hc x2 k) (trip.sl.v323 (F := Ideal) i a2 h2 a3 h3 a10 h10 a12 hc x2 x3 x10 k) (ix2 (⟨64 * n + y.val, by omega⟩ : Fin 1024) j) := fun j => by
    rw [View.readCov_eq_canon']
    unfold trip.sl.HW13_1
    rw [View.canon_unit_zero h0, pay28_eq]
    refine congrArg (k0_pay25 kc (trip.sl.r (F := Ideal) i a2 h2 hc x2 k) (trip.sl.v323 (F := Ideal) i a2 h2 a3 h3 a10 h10 a12 hc x2 x3 x10 k)) ?_
    funext a
    apply Fin.ext
    match a with
    | ⟨0, _⟩ => show 64 * n + 1 * y.val = 64 * n + y.val; omega
    | ⟨1, _⟩ => show 0 + 1 * j.val = j.val; omega
  exact (mm_apply _ _ y d).trans (Finset.sum_congr rfl fun j _ => congrArg₂ (· * ·) (weight j) (key_read j))

/-- Off the axis of the rows an index of the tile and one of a piece agree. -/
theorem off_axis (x : Fin 64) (N : Fin 1024) (d : Fin 128) (b : Fin S64x128.rank) (hb : b.cast (rfl : S64x128.rank = S1024x128.rank) ≠ (0 : Fin S1024x128.rank)) :
    ((ix2 x d : S64x128.Idx) b).val = ((ix2 N d : S1024x128.Idx) (b.cast rfl)).val := by
  match b with
  | ⟨0, _⟩ => exact absurd rfl hb
  | ⟨1, _⟩ => rfl

/-- Sixteen pieces along the rows, read at an index: if the piece that holds its row has `G` there, so has the whole. -/
theorem rows_concat (p0 p1 p2 p3 p4 p5 p6 p7 p8 p9 p10 p11 p12 p13 p14 p15 : S64x128.Idx → EReal)
    (h : Shape.Concatenates (([⟨S64x128, p0⟩, ⟨S64x128, p1⟩, ⟨S64x128, p2⟩, ⟨S64x128, p3⟩, ⟨S64x128, p4⟩, ⟨S64x128, p5⟩, ⟨S64x128, p6⟩, ⟨S64x128, p7⟩, ⟨S64x128, p8⟩, ⟨S64x128, p9⟩, ⟨S64x128, p10⟩, ⟨S64x128, p11⟩, ⟨S64x128, p12⟩, ⟨S64x128, p13⟩, ⟨S64x128, p14⟩, ⟨S64x128, p15⟩] : List ((s : Shape) × (s.Idx → EReal))).map (·.1)) S1024x128 0) (N : Fin 1024) (d : Fin 128) (G : EReal)
    (h0 : ∀ y : Fin 64, N.val = 64 * 0 + y.val → p0 (ix2 y d) = G)
    (h1 : ∀ y : Fin 64, N.val = 64 * 1 + y.val → p1 (ix2 y d) = G)
    (h2 : ∀ y : Fin 64, N.val = 64 * 2 + y.val → p2 (ix2 y d) = G)
    (h3 : ∀ y : Fin 64, N.val = 64 * 3 + y.val → p3 (ix2 y d) = G)
    (h4 : ∀ y : Fin 64, N.val = 64 * 4 + y.val → p4 (ix2 y d) = G)
    (h5 : ∀ y : Fin 64, N.val = 64 * 5 + y.val → p5 (ix2 y d) = G)
    (h6 : ∀ y : Fin 64, N.val = 64 * 6 + y.val → p6 (ix2 y d) = G)
    (h7 : ∀ y : Fin 64, N.val = 64 * 7 + y.val → p7 (ix2 y d) = G)
    (h8 : ∀ y : Fin 64, N.val = 64 * 8 + y.val → p8 (ix2 y d) = G)
    (h9 : ∀ y : Fin 64, N.val = 64 * 9 + y.val → p9 (ix2 y d) = G)
    (h10 : ∀ y : Fin 64, N.val = 64 * 10 + y.val → p10 (ix2 y d) = G)
    (h11 : ∀ y : Fin 64, N.val = 64 * 11 + y.val → p11 (ix2 y d) = G)
    (h12 : ∀ y : Fin 64, N.val = 64 * 12 + y.val → p12 (ix2 y d) = G)
    (h13 : ∀ y : Fin 64, N.val = 64 * 13 + y.val → p13 (ix2 y d) = G)
    (h14 : ∀ y : Fin 64, N.val = 64 * 14 + y.val → p14 (ix2 y d) = G)
    (h15 : ∀ y : Fin 64, N.val = 64 * 15 + y.val → p15 (ix2 y d) = G)
    : concatenate S1024x128 0 [⟨S64x128, p0⟩, ⟨S64x128, p1⟩, ⟨S64x128, p2⟩, ⟨S64x128, p3⟩, ⟨S64x128, p4⟩, ⟨S64x128, p5⟩, ⟨S64x128, p6⟩, ⟨S64x128, p7⟩, ⟨S64x128, p8⟩, ⟨S64x128, p9⟩, ⟨S64x128, p10⟩, ⟨S64x128, p11⟩, ⟨S64x128, p12⟩, ⟨S64x128, p13⟩, ⟨S64x128, p14⟩, ⟨S64x128, p15⟩] h (ix2 N d) = G := by
  have hN := N.isLt
  have hl : ([⟨S64x128, p0⟩, ⟨S64x128, p1⟩, ⟨S64x128, p2⟩, ⟨S64x128, p3⟩, ⟨S64x128, p4⟩, ⟨S64x128, p5⟩, ⟨S64x128, p6⟩, ⟨S64x128, p7⟩, ⟨S64x128, p8⟩, ⟨S64x128, p9⟩, ⟨S64x128, p10⟩, ⟨S64x128, p11⟩, ⟨S64x128, p12⟩, ⟨S64x128, p13⟩, ⟨S64x128, p14⟩, ⟨S64x128, p15⟩] : List ((s : Shape) × (s.Idx → EReal))) = List.ofFn fun n : Fin 16 => (⟨S64x128, (![p0, p1, p2, p3, p4, p5, p6, p7, p8, p9, p10, p11, p12, p13, p14, p15] : Fin 16 → S64x128.Idx → EReal) n⟩ : (s : Shape) × (s.Idx → EReal)) := rfl
  have hf : ∀ (n : Fin 16) (y : Fin 64), N.val = 64 * n.val + y.val → (![p0, p1, p2, p3, p4, p5, p6, p7, p8, p9, p10, p11, p12, p13, p14, p15] : Fin 16 → S64x128.Idx → EReal) n (ix2 y d) = G := fun n => by
    match n with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
    | ⟨8, _⟩ => exact h8
    | ⟨9, _⟩ => exact h9
    | ⟨10, _⟩ => exact h10
    | ⟨11, _⟩ => exact h11
    | ⟨12, _⟩ => exact h12
    | ⟨13, _⟩ => exact h13
    | ⟨14, _⟩ => exact h14
    | ⟨15, _⟩ => exact h15
    | ⟨m + 16, hm⟩ => exact absurd hm (by omega)
  generalize (![p0, p1, p2, p3, p4, p5, p6, p7, p8, p9, p10, p11, p12, p13, p14, p15] : Fin 16 → S64x128.Idx → EReal) = f at hl hf
  generalize ([⟨S64x128, p0⟩, ⟨S64x128, p1⟩, ⟨S64x128, p2⟩, ⟨S64x128, p3⟩, ⟨S64x128, p4⟩, ⟨S64x128, p5⟩, ⟨S64x128, p6⟩, ⟨S64x128, p7⟩, ⟨S64x128, p8⟩, ⟨S64x128, p9⟩, ⟨S64x128, p10⟩, ⟨S64x128, p11⟩, ⟨S64x128, p12⟩, ⟨S64x128, p13⟩, ⟨S64x128, p14⟩, ⟨S64x128, p15⟩] : List ((s : Shape) × (s.Idx → EReal))) = L at h hl ⊢
  subst hl
  refine (concatenate_ofFn_apply (t := S1024x128) (s₁ := S64x128) 0 f h rfl 64 rfl (ix2 N d) ⟨N.val / 64, by omega⟩ rfl
    (ix2 (⟨N.val % 64, by omega⟩ : Fin 64) d) rfl (off_axis _ _ _)).trans ?_
  exact hf _ _ (by show N.val = 64 * (N.val / 64) + N.val % 64; omega)

/-- The weighted rows of the whole trip. -/
theorem values_apply (i : grid0.Coords) (a2 : Memref sig .tc .vmem S4096x128 .bf16) (h2 : a2.IsWhole) (a3 : Memref sig .tc .vmem S4096x128 .bf16) (h3 : a3.IsWhole) (a4 : Memref sig .tc .vmem S4096x128 .bf16) (h4 : a4.IsWhole) (a10 : Memref sig .tc .vmem S1x8x64x512 .f32) (h10 : a10.IsWhole)
    (a12 : Memref sig .tc .vmem S1024x512 .f32) (a13 : Memref sig .tc .vmem S1024x512 .bf16) (hc : k0_cond1 i = 1#1) (kc : Vec Ideal S256x128 .bf16)
    (x2 x3 x4 : Vec Ideal S4096x128 .bf16) (x10 : Vec Ideal S1x8x64x512 .f32) (k : Fin k0_t1_loop.trips) (N : Fin 1024) (d : Fin 128) :
    trip.sl.v410 (F := Ideal) i a2 h2 a3 h3 a4 h4 a10 h10 a12 a13 hc kc x2 x3 x4 x10 k (ix2 N d)
      = ∑ j : Fin 512, k0_pay25 kc (trip.sl.r (F := Ideal) i a2 h2 hc x2 k) (trip.sl.v323 (F := Ideal) i a2 h2 a3 h3 a10 h10 a12 hc x2 x3 x10 k) (ix2 N j) * x4 (ix2 (key (row k N) j) d) := by
  have e : ∀ (n : ℕ) (y : Fin 64) (hn : N.val = 64 * n + y.val) (hlt : 64 * n + y.val < 1024), (⟨64 * n + y.val, hlt⟩ : Fin 1024) = N := fun n y hn hlt => Fin.ext hn.symm
  unfold trip.sl.v410
  refine rows_concat _ _ _ _ _ _ _ _ _ _ _ _ _ _ _ _ _ N d _ ?_ ?_ ?_ ?_ ?_ ?_ ?_ ?_ ?_ ?_ ?_ ?_ ?_ ?_ ?_ ?_
  · intro y hn
    unfold trip.sl.r_8 k0_pay30 trip.sl.v346
    refine (value_apply i a2 h2 a3 h3 a4 h4 a10 h10 a12 a13 hc kc x2 x3 x4 x10 k 0 (by decide) inb_S1024x512_S64x512_0_0 _ y d).trans ?_
    rw [e 0 y hn]
  · intro y hn
    unfold trip.sl.r_9 k0_pay31 trip.sl.v350
    refine (value_apply i a2 h2 a3 h3 a4 h4 a10 h10 a12 a13 hc kc x2 x3 x4 x10 k 1 (by decide) inb_S1024x512_S64x512_64_0 _ y d).trans ?_
    rw [e 1 y hn]
  · intro y hn
    unfold trip.sl.r_10 k0_pay32 trip.sl.v354
    refine (value_apply i a2 h2 a3 h3 a4 h4 a10 h10 a12 a13 hc kc x2 x3 x4 x10 k 2 (by decide) inb_S1024x512_S64x512_128_0 _ y d).trans ?_
    rw [e 2 y hn]
  · intro y hn
    unfold trip.sl.r_11 k0_pay33 trip.sl.v358
    refine (value_apply i a2 h2 a3 h3 a4 h4 a10 h10 a12 a13 hc kc x2 x3 x4 x10 k 3 (by decide) inb_S1024x512_S64x512_192_0 _ y d).trans ?_
    rw [e 3 y hn]
  · intro y hn
    unfold trip.sl.r_12 k0_pay34 trip.sl.v362
    refine (value_apply i a2 h2 a3 h3 a4 h4 a10 h10 a12 a13 hc kc x2 x3 x4 x10 k 4 (by decide) inb_S1024x512_S64x512_256_0 _ y d).trans ?_
    rw [e 4 y hn]
  · intro y hn
    unfold trip.sl.r_13 k0_pay35 trip.sl.v366
    refine (value_apply i a2 h2 a3 h3 a4 h4 a10 h10 a12 a13 hc kc x2 x3 x4 x10 k 5 (by decide) inb_S1024x512_S64x512_320_0 _ y d).trans ?_
    rw [e 5 y hn]
  · intro y hn
    unfold trip.sl.r_14 k0_pay36 trip.sl.v370
    refine (value_apply i a2 h2 a3 h3 a4 h4 a10 h10 a12 a13 hc kc x2 x3 x4 x10 k 6 (by decide) inb_S1024x512_S64x512_384_0 _ y d).trans ?_
    rw [e 6 y hn]
  · intro y hn
    unfold trip.sl.r_15 k0_pay37 trip.sl.v374
    refine (value_apply i a2 h2 a3 h3 a4 h4 a10 h10 a12 a13 hc kc x2 x3 x4 x10 k 7 (by decide) inb_S1024x512_S64x512_448_0 _ y d).trans ?_
    rw [e 7 y hn]
  · intro y hn
    unfold trip.sl.r_16 k0_pay38 trip.sl.v378
    refine (value_apply i a2 h2 a3 h3 a4 h4 a10 h10 a12 a13 hc kc x2 x3 x4 x10 k 8 (by decide) inb_S1024x512_S64x512_512_0 _ y d).trans ?_
    rw [e 8 y hn]
  · intro y hn
    unfold trip.sl.r_17 k0_pay39 trip.sl.v382
    refine (value_apply i a2 h2 a3 h3 a4 h4 a10 h10 a12 a13 hc kc x2 x3 x4 x10 k 9 (by decide) inb_S1024x512_S64x512_576_0 _ y d).trans ?_
    rw [e 9 y hn]
  · intro y hn
    unfold trip.sl.v389 trip.sl.cst_235 trip.sl.v386
    refine (value_apply i a2 h2 a3 h3 a4 h4 a10 h10 a12 a13 hc kc x2 x3 x4 x10 k 10 (by decide) inb_S1024x512_S64x512_640_0 _ y d).trans ?_
    rw [e 10 y hn]
  · intro y hn
    unfold trip.sl.v393 trip.sl.cst_235 trip.sl.v390
    refine (value_apply i a2 h2 a3 h3 a4 h4 a10 h10 a12 a13 hc kc x2 x3 x4 x10 k 11 (by decide) inb_S1024x512_S64x512_704_0 _ y d).trans ?_
    rw [e 11 y hn]
  · intro y hn
    unfold trip.sl.v397 trip.sl.cst_235 trip.sl.v394
    refine (value_apply i a2 h2 a3 h3 a4 h4 a10 h10 a12 a13 hc kc x2 x3 x4 x10 k 12 (by decide) inb_S1024x512_S64x512_768_0 _ y d).trans ?_
    rw [e 12 y hn]
  · intro y hn
    unfold trip.sl.v401 trip.sl.cst_235 trip.sl.v398
    refine (value_apply i a2 h2 a3 h3 a4 h4 a10 h10 a12 a13 hc kc x2 x3 x4 x10 k 13 (by decide) inb_S1024x512_S64x512_832_0 _ y d).trans ?_
    rw [e 13 y hn]
  · intro y hn
    unfold trip.sl.v405 trip.sl.cst_235 trip.sl.v402
    refine (value_apply i a2 h2 a3 h3 a4 h4 a10 h10 a12 a13 hc kc x2 x3 x4 x10 k 14 (by decide) inb_S1024x512_S64x512_896_0 _ y d).trans ?_
    rw [e 14 y hn]
  · intro y hn
    unfold trip.sl.v409 trip.sl.cst_235 trip.sl.v406
    refine (value_apply i a2 h2 a3 h3 a4 h4 a10 h10 a12 a13 hc kc x2 x3 x4 x10 k 15 (by decide) inb_S1024x512_S64x512_960_0 _ y d).trans ?_
    rw [e 15 y hn]
-- ==== Proof.NbrAttnTrip.lean ====
/- What the neighborhood attention's body leaves in its output block, index by index. -/
module

public import proofs.«01_k».proof.Proof.NbrAttnRows

@[expose] public section

set_option maxRecDepth 16384
set_option maxHeartbeats 1000000

noncomputable section

namespace Cert.NbrAttnIdeal.Attn

open Cert.NbrAttnIdeal.Gen
open Idealize.ShloMosaic Idealize.ShloMosaic.TcCoe Idealize.ShloMosaic.Tactic

/-- The gate's rows of a trip. -/
theorem gate_apply (i : grid0.Coords) (a5 : Memref sig .tc .vmem S4096x128 .bf16) (h5 : a5.IsWhole) (hc : k0_cond1 i = 1#1)
    (x5 : Vec Ideal S4096x128 .bf16) (k : Fin k0_t1_loop.trips) (n : Fin 1024) (d : Fin 128) :
    trip.sl.r_18 (F := Ideal) i a5 h5 hc x5 k (ix2 n d) = x5 (ix2 (at_ (row k n) (col n)) d) := by
  unfold trip.sl.r_18
  rw [View.readAt_eq_ld, h5.read_unread]
  pointwise [k0_pay40]
  refine congrArg x5 ?_
  have h := off2 k
  funext a
  apply Fin.ext
  match a with
  | ⟨0, _⟩ => show k0_off2 k 0 + n.val = 64 * (16 * k.val + n.val / 64) + n.val % 64; rw [h]; show 1024 * k.val + n.val = _; omega
  | ⟨1, _⟩ => show k0_off2 k 1 + d.val = d.val; rw [h]; exact Nat.zero_add _

/-- The tile of a trip, index by index. -/
theorem trip_apply (𝒱 : Variants) (c : Dev nD) (bd : Option 𝒱.V) (i : grid0.Coords) (a2 : Memref sig .tc .vmem S4096x128 .bf16) (h2 : a2.IsWhole) (a3 : Memref sig .tc .vmem S4096x128 .bf16) (h3 : a3.IsWhole) (a4 : Memref sig .tc .vmem S4096x128 .bf16) (h4 : a4.IsWhole) (a5 : Memref sig .tc .vmem S4096x128 .bf16) (h5 : a5.IsWhole) (a6 : Memref sig .tc .vmem S512x128 .bf16) (h6 : a6.IsWhole) (a7 : Memref sig .tc .vmem S512x128 .bf16) (h7 : a7.IsWhole) (a8 : Memref sig .tc .vmem S512x128 .bf16) (h8 : a8.IsWhole) (a9 : Memref sig .tc .vmem S512x128 .bf16) (h9 : a9.IsWhole) (a10 : Memref sig .tc .vmem S1x8x64x512 .f32) (h10 : a10.IsWhole) (a11 : Memref sig .tc .vmem S4096x128 .bf16) (h11 : a11.IsWhole) (a12 : Memref sig .tc .vmem S1024x512 .f32) (h12 : a12.IsWhole) (a13 : Memref sig .tc .vmem S1024x512 .bf16) (h13 : a13.IsWhole)
    (hc : k0_cond1 i = 1#1) (kc vc : Vec Ideal S256x128 .bf16) (x2 : Vec Ideal S4096x128 .bf16) (x3 : Vec Ideal S4096x128 .bf16) (x4 : Vec Ideal S4096x128 .bf16) (x5 : Vec Ideal S4096x128 .bf16) (x10 : Vec Ideal S1x8x64x512 .f32) (k : Fin k0_t1_loop.trips) (N : Fin 1024) (d : Fin 128) :
    (trip (F := Ideal) 𝒱 c bd i a2 h2 a3 h3 a4 h4 a5 h5 a6 h6 a7 h7 a8 h8 a9 h9 a10 h10 a11 h11 a12 h12 a13 h13 hc kc vc x2 x3 x4 x5 x10 k).1 (ix2 N d)
      = attn x2 x3 x4 x5 kc vc x10 (row k N) (col N) d := by
  have hq : ∀ j : Fin 256, k0_pay23 kc (trip.sl.r (F := Ideal) i a2 h2 hc x2 k) (ix2 N j) = score' x2 kc (row k N) (col N) j := fun j => by
    rw [pay23_apply]
    exact Finset.sum_congr rfl fun e _ => congrArg (· * kc (ix2 j e)) (queries_apply i a2 h2 hc x2 k N e)
  have hs : ∀ j : Fin 512, (trip.sl.v323 (F := Ideal) i a2 h2 a3 h3 a10 h10 a12 hc x2 x3 x10 k) (ix2 N j) = score x2 x3 x10 (row k N) (col N) j :=
    scores_apply i a2 h2 a3 h3 a10 h10 a12 hc x2 x3 x10 k N
  have ht : k0_pay24 kc (trip.sl.r (F := Ideal) i a2 h2 hc x2 k) (trip.sl.v323 (F := Ideal) i a2 h2 a3 h3 a10 h10 a12 hc x2 x3 x10 k) (ix2 N (0 : Fin 1)) = top x2 x3 kc x10 (row k N) (col N) := by
    rw [pay24_apply, funext hq, funext hs]
    rfl
  have hp : ∀ j : Fin 512, k0_pay25 kc (trip.sl.r (F := Ideal) i a2 h2 hc x2 k) (trip.sl.v323 (F := Ideal) i a2 h2 a3 h3 a10 h10 a12 hc x2 x3 x10 k) (ix2 N j) = Ideal.exp (score x2 x3 x10 (row k N) (col N) j - top x2 x3 kc x10 (row k N) (col N)) := fun j => by
    rw [pay25_apply, hs, ht]
  have hp' : ∀ j : Fin 256, k0_pay26 kc (trip.sl.r (F := Ideal) i a2 h2 hc x2 k) (trip.sl.v323 (F := Ideal) i a2 h2 a3 h3 a10 h10 a12 hc x2 x3 x10 k) (ix2 N j) = Ideal.exp (score' x2 kc (row k N) (col N) j - top x2 x3 kc x10 (row k N) (col N)) := fun j => by
    rw [pay26_apply, hq, ht]
  unfold trip
  dsimp only
  rw [pay1_apply, gate_apply]
  unfold attn
  refine congrArg (· * (x5 (ix2 (at_ (row k N) (col N)) d) * Ideal.logistic (x5 (ix2 (at_ (row k N) (col N)) d)))) ?_
  refine congrArg₂ Ideal.div ?_ ?_
  · unfold trip.sl.r_19 trip.sl.r_7
    show trip.sl.v410 (F := Ideal) i a2 h2 a3 h3 a4 h4 a10 h10 a12 a13 hc kc x2 x3 x4 x10 k (ix2 N d) + k0_pay29 kc vc (trip.sl.r (F := Ideal) i a2 h2 hc x2 k) (trip.sl.v323 (F := Ideal) i a2 h2 a3 h3 a10 h10 a12 hc x2 x3 x10 k) (ix2 N d) = _
    rw [values_apply, pay29_apply]
    exact congrArg₂ (· + ·) (Finset.sum_congr rfl fun j _ => congrArg (· * x4 (ix2 (key (row k N) j) d)) (hp j)) (Finset.sum_congr rfl fun j _ => congrArg (· * vc (ix2 j d)) (hp' j))
  · unfold trip.sl.r_6
    rw [pay27_apply]
    exact congrArg₂ (· + ·) (Finset.sum_congr rfl fun j _ => hp j) (Finset.sum_congr rfl fun j _ => hp' j)

/-- The rows of the context's block that belong to the point's part of the batch. -/
def rows (i : grid0.Coords) (x : S512x128.Idx → EReal) : S256x128.Idx → EReal :=
  fun z => x (ix2 (⟨256 * (i 0).val + (z 0).val, by have h : (i 0).val < 2 := (i 0).isLt; have h' : (z 0).val < 256 := (z 0).isLt; omega⟩ : Fin 512) (z 1))

theorem rows_read (i : grid0.Coords) (hc : k0_cond1 i = 1#1) (a : Memref sig .tc .vmem S512x128 .bf16) (h : a.IsWhole) (x : Vec Ideal S512x128 .bf16) :
    View.readAt (Elt Ideal) a.view (Rect.unit (s := S512x128) (k0_off1 i) S256x128.size (k0_off1_inb i hc)).toLoadRect (h.unread x) = rows i x := by
  rw [View.readAt_eq_ld, h.read_unread]
  funext z
  refine congrArg x ?_
  have e := k0_off1_eq i
  funext a
  apply Fin.ext
  match a with
  | ⟨0, _⟩ => show k0_off1 i 0 + 1 * (z 0).val = 256 * (i 0).val + (z 0).val; have := congrFun e (0 : Fin 2); change k0_off1 i 0 = 256 * (i 0).val at this; omega
  | ⟨1, _⟩ => show k0_off1 i 1 + 1 * (z 1).val = (z 1).val; have := congrFun e (1 : Fin 2); change k0_off1 i 1 = 0 at this; omega

/-- The grid row and the column of a position. -/
def prow (n : Fin 4096) : Fin 64 := ⟨n.val / 64, by omega⟩
def pcol (n : Fin 4096) : Fin 64 := ⟨n.val % 64, by omega⟩

/-- The output block of a grid point, index by index. -/
theorem out_apply (m : (ℓ : Loc nD τ sig) → Buf (Elt Ideal) ℓ) (c : Dev nD) (t : Fin cfg0.N) (y : S4096x128.Idx) :
    out m c t y = attn (X0_0 m c t) (X0_1 m c t) (X0_2 m c t) (X0_3 m c t) (rows (grid0.coords t) (iblk m c 5 t)) (rows (grid0.coords t) (iblk m c 6 t))
      (iblk m c 8 t) (prow (y 0)) (pcol (y 0)) (y 1) := by
  unfold out
  refine View.canon_apply_of_pieces (fun y : S4096x128.Idx => attn (X0_0 m c t) (X0_1 m c t) (X0_2 m c t) (X0_3 m c t) (rows (grid0.coords t) (iblk m c 5 t)) (rows (grid0.coords t) (iblk m c 6 t))
      (iblk m c 8 t) (prow (y 0)) (pcol (y 0)) (y 1)) _ ?_ y (cover (F := Ideal) c _ _ _ _ _ _ _ _ _ _ _ _ _ _ _ _ _ _ _ _ _ _ _ _ _ _ _ _ _ _ _ _ _ _ _ y)
  intro p hp
  obtain ⟨k, rfl⟩ := of_mem_tiles Variants.none c none _ _ _ _ _ _ _ _ _ _ _ _ _ _ _ _ _ _ _ _ _ _ _ _ _ _ _ _ _ _ _ _ _ p 4 hp
  intro x
  have hx : (x 0).val < 1024 := (x 0).isLt
  have hkt : k.val < 4 := Nat.lt_of_lt_of_le k.isLt k0_t1_abs.2.1
  have he : x = (ix2 (x 0) (x 1) : S1024x128.Idx) := by
    funext a
    match a with
    | ⟨0, _⟩ => rfl
    | ⟨1, _⟩ => rfl
  have h0 : (((Rect.unit (s := S4096x128) (k0_off2 k) S1024x128.size (k0_off2_inb (grid0.coords t) k (cond_true _))).emb x) 0).val = 1024 * k.val + (x 0).val := by
    show k0_off2 k 0 + 1 * (x 0).val = _; have := congrFun (off2 k) (0 : Fin 2); change k0_off2 k 0 = 1024 * k.val at this; omega
  have h1 : (((Rect.unit (s := S4096x128) (k0_off2 k) S1024x128.size (k0_off2_inb (grid0.coords t) k (cond_true _))).emb x) 1 : Fin 128) = x 1 :=
    Fin.ext (by show k0_off2 k 1 + 1 * (x 1).val = (x 1).val; have := congrFun (off2 k) (1 : Fin 2); change k0_off2 k 1 = 0 at this; omega)
  have e0 : prow (((Rect.unit (s := S4096x128) (k0_off2 k) S1024x128.size (k0_off2_inb (grid0.coords t) k (cond_true _))).emb x) 0) = row k (x 0) :=
    Fin.ext (by show (((Rect.unit (s := S4096x128) (k0_off2 k) S1024x128.size (k0_off2_inb (grid0.coords t) k (cond_true _))).emb x) 0).val / 64 = 16 * k.val + (x 0).val / 64; rw [h0]; omega)
  have e0' : pcol (((Rect.unit (s := S4096x128) (k0_off2 k) S1024x128.size (k0_off2_inb (grid0.coords t) k (cond_true _))).emb x) 0) = col (x 0) :=
    Fin.ext (by show (((Rect.unit (s := S4096x128) (k0_off2 k) S1024x128.size (k0_off2_inb (grid0.coords t) k (cond_true _))).emb x) 0).val % 64 = (x 0).val % 64; rw [h0]; omega)
  dsimp only
  rw [e0, e0', h1, rows_read _ (cond_true _), rows_read _ (cond_true _)]
  refine (congrArg _ he).trans ?_
  exact trip_apply Variants.none c none _ _ _ _ _ _ _ _ _ _ _ _ _ _ _ _ _ _ _ _ _ _ _ _ _ _ _ _ _ _ _ _ _ k (x 0) (x 1)

end Cert.NbrAttnIdeal.Attn
-- ==== Proof.NbrAttnMath.lean ====
/- The normalization of attention weights in the extended reals: the weighted sum over the sum of the weights is the sum
   under the normalized weights, where the scores are finite or masked. -/
module

public import Idealize.ShloMosaic.Lib.Pointwise

@[expose] public section

noncomputable section

namespace Cert.NbrAttnIdeal.Attn

open Idealize.ShloMosaic

/-- A finite extended real. -/
def Fin' (x : EReal) : Prop := x ≠ ⊤ ∧ x ≠ ⊥

theorem Fin'.real {x : EReal} (h : Fin' x) : ∃ r : ℝ, x = (r : EReal) := ⟨x.toReal, (EReal.coe_toReal h.1 h.2).symm⟩
theorem fin_coe (r : ℝ) : Fin' (r : EReal) := ⟨EReal.coe_ne_top r, EReal.coe_ne_bot r⟩

theorem Fin'.add {x y : EReal} (hx : Fin' x) (hy : Fin' y) : Fin' (x + y) := by
  obtain ⟨a, rfl⟩ := hx.real
  obtain ⟨b, rfl⟩ := hy.real
  rw [← EReal.coe_add]; exact fin_coe _

theorem Fin'.mul {x y : EReal} (hx : Fin' x) (hy : Fin' y) : Fin' (x * y) := by
  obtain ⟨a, rfl⟩ := hx.real
  obtain ⟨b, rfl⟩ := hy.real
  rw [← EReal.coe_mul]; exact fin_coe _

theorem fin_sum {ι : Type} (s : Finset ι) (f : ι → EReal) (h : ∀ i ∈ s, Fin' (f i)) : Fin' (∑ i ∈ s, f i) := by
  classical
  induction s using Finset.induction_on with
  | empty => rw [Finset.sum_empty]; exact fin_coe 0
  | insert a s ha ih =>
    rw [Finset.sum_insert ha]
    exact (h a (Finset.mem_insert_self a s)).add (ih fun i hi => h i (Finset.mem_insert_of_mem hi))

/-- A factor common to a sum's terms moves outside where everything is finite. -/
theorem sum_scale {ι : Type} (s : Finset ι) (a b : ι → EReal) (c : EReal) (hc : Fin' c) (ha : ∀ i ∈ s, Fin' (a i)) (hb : ∀ i ∈ s, Fin' (b i)) :
    ∑ i ∈ s, a i * c * b i = (∑ i ∈ s, a i * b i) * c := by
  classical
  induction s using Finset.induction_on with
  | empty => rw [Finset.sum_empty, Finset.sum_empty, zero_mul]
  | insert i s hi ih =>
    rw [Finset.sum_insert hi, Finset.sum_insert hi, ih (fun j hj => ha j (Finset.mem_insert_of_mem hj)) (fun j hj => hb j (Finset.mem_insert_of_mem hj))]
    obtain ⟨x, hx⟩ := (ha i (Finset.mem_insert_self i s)).real
    obtain ⟨y, hy⟩ := (hb i (Finset.mem_insert_self i s)).real
    obtain ⟨z, hz⟩ := (fin_sum s (fun i => a i * b i) fun j hj => (ha j (Finset.mem_insert_of_mem hj)).mul (hb j (Finset.mem_insert_of_mem hj))).real
    obtain ⟨w, hw⟩ := hc.real
    rw [hz, hx, hy, hw]
    simp only [← EReal.coe_mul, ← EReal.coe_add]
    congr 1
    ring

/-- A finite factor that is not negative moves into a sum of any extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => rw [Finset.sum_empty, Finset.sum_empty, zero_mul]
  | insert i s hi ih =>
    rw [Finset.sum_insert hi, Finset.sum_insert hi, EReal.right_distrib_of_nonneg_of_ne_top (EReal.coe_nonneg.2 hc) (EReal.coe_ne_top c), ih]

theorem sum_coe {ι : Type} (s : Finset ι) (r : ι → ℝ) : ∑ i ∈ s, (r i : EReal) = ((∑ i ∈ s, r i : ℝ) : EReal) := by
  classical
  induction s using Finset.induction_on with
  | empty => rw [Finset.sum_empty, Finset.sum_empty]; rfl
  | insert i s hi ih => rw [Finset.sum_insert hi, Finset.sum_insert hi, ih, EReal.coe_add]

/-- The greatest of finitely many, above the least. -/
theorem fold_max {ι : Type} (s : Finset ι) (f : ι → EReal) : s.fold max ⊥ f = s.sup f := rfl

/-- The exponential of a masked score's difference from a finite one is zero. -/
theorem exp_bot_sub (m : ℝ) : Ideal.exp (⊥ - (m : EReal)) = 0 := by
  rw [show (⊥ : EReal) - (m : EReal) = ⊥ from by rw [sub_eq_add_neg, EReal.bot_add]]
  rfl

section
variable {A B C D : Type} [Fintype A] [Fintype B] [Fintype C] [Fintype D]

/-- The normalization. `A` indexes the scores with the masked ones, `e` says which of them are the window's, `C` indexes
    the context's, and `D` the window's and the context's together. -/
theorem normalize (e : B → A) (he : Function.Injective e) (u : D ≃ B ⊕ C) (s : A → EReal) (t : C → EReal) (g : D → EReal)
    (hmask : ∀ a, (∀ b, e b ≠ a) → s a = ⊥) (hs : ∀ b, Fin' (s (e b))) (ht : ∀ c, Fin' (t c)) (hB : Nonempty B)
    (hg : ∀ x, g x = Sum.elim (fun b => s (e b)) t (u x)) (v : A → EReal) (w : C → EReal) :
    Ideal.div
        ((∑ a, Ideal.exp (s a - max (Finset.univ.fold max ⊥ s) (Finset.univ.fold max ⊥ t)) * v a)
          + ∑ c, Ideal.exp (t c - max (Finset.univ.fold max ⊥ s) (Finset.univ.fold max ⊥ t)) * w c)
        ((∑ a, Ideal.exp (s a - max (Finset.univ.fold max ⊥ s) (Finset.univ.fold max ⊥ t)))
          + ∑ c, Ideal.exp (t c - max (Finset.univ.fold max ⊥ s) (Finset.univ.fold max ⊥ t)))
      = (∑ b, Ideal.div (Ideal.exp (s (e b) - Finset.univ.fold max ⊥ g)) (∑ x, Ideal.exp (g x - Finset.univ.fold max ⊥ g)) * v (e b))
        + ∑ c, Ideal.div (Ideal.exp (t c - Finset.univ.fold max ⊥ g)) (∑ x, Ideal.exp (g x - Finset.univ.fold max ⊥ g)) * w c := by
  classical
  -- the two maxima are one
  have hmax : max (Finset.univ.fold max ⊥ s) (Finset.univ.fold max ⊥ t) = Finset.univ.fold max ⊥ g := by
    rw [fold_max, fold_max, fold_max]
    apply le_antisymm
    · refine max_le (Finset.sup_le fun a _ => ?_) (Finset.sup_le fun c _ => ?_)
      · by_cases h : ∃ b, e b = a
        · obtain ⟨b, rfl⟩ := h
          have := hg (u.symm (Sum.inl b))
          rw [Equiv.apply_symm_apply] at this
          exact (show s (e b) = g (u.symm (Sum.inl b)) from this.symm) ▸ Finset.le_sup (f := g) (Finset.mem_univ (u.symm (Sum.inl b)))
        · rw [hmask a fun b hb => h ⟨b, hb⟩]; exact bot_le
      · have := hg (u.symm (Sum.inr c))
        rw [Equiv.apply_symm_apply] at this
        exact (show t c = g (u.symm (Sum.inr c)) from this.symm) ▸ Finset.le_sup (f := g) (Finset.mem_univ (u.symm (Sum.inr c)))
    · refine Finset.sup_le fun x _ => ?_
      rw [hg x]
      rcases u x with b | c
      · exact le_max_of_le_left (Finset.le_sup (f := s) (Finset.mem_univ _))
      · exact le_max_of_le_right (Finset.le_sup (f := t) (Finset.mem_univ _))
  have hgf : ∀ x, Fin' (g x) := fun x => by
    rw [hg x]
    rcases u x with b | c
    · exact hs b
    · exact ht c
  -- and it is finite
  obtain ⟨x₀⟩ : Nonempty D := ⟨u.symm (Sum.inl hB.some)⟩
  have hm : Fin' (Finset.univ.fold max ⊥ g) := by
    rw [fold_max]
    obtain ⟨x, -, hx⟩ := Finset.exists_mem_eq_sup Finset.univ ⟨x₀, Finset.mem_univ _⟩ g
    rw [hx]; exact hgf x
  obtain ⟨m, hm⟩ := hm.real
  rw [hmax, hm]
  -- the weights
  have hp : ∀ x : EReal, Fin' x → ∃ r : ℝ, 0 < r ∧ Ideal.exp (x - (m : EReal)) = (r : EReal) := fun x hx => by
    obtain ⟨a, rfl⟩ := hx.real
    exact ⟨Real.exp (a - m), Real.exp_pos _, by rw [← EReal.coe_sub]; rfl⟩
  have hsumA : ∀ f : A → EReal, ∑ a, Ideal.exp (s a - (m : EReal)) * f a = ∑ b, Ideal.exp (s (e b) - (m : EReal)) * f (e b) := fun f => by
    rw [← Finset.sum_image (s := Finset.univ) (g := e) (f := fun a => Ideal.exp (s a - (m : EReal)) * f a) (fun a _ b _ h => he h)]
    refine (Finset.sum_subset (Finset.subset_univ _) fun a _ ha => ?_).symm
    rw [hmask a fun b hb => ha (Finset.mem_image.2 ⟨b, Finset.mem_univ _, hb⟩), exp_bot_sub, zero_mul]
  have hsumA1 : ∑ a, Ideal.exp (s a - (m : EReal)) = ∑ b, Ideal.exp (s (e b) - (m : EReal)) := by
    simpa using hsumA fun _ => 1
  have hsumD : (∑ x, Ideal.exp (g x - (m : EReal))) = (∑ b, Ideal.exp (s (e b) - (m : EReal))) + ∑ c, Ideal.exp (t c - (m : EReal)) := by
    rw [← u.symm.sum_comp fun x => Ideal.exp (g x - (m : EReal)), Fintype.sum_sum_type]
    simp only [hg, Equiv.apply_symm_apply, Sum.elim_inl, Sum.elim_inr]
  rw [hsumA, hsumA1, ← hsumD]
  -- their sum is finite and greater than zero
  obtain ⟨l, hl0, hl⟩ : ∃ l : ℝ, 0 < l ∧ ∑ x, Ideal.exp (g x - (m : EReal)) = (l : EReal) := by
    choose r hr0 hr using fun x => hp (g x) (hgf x)
    refine ⟨∑ x, r x, Finset.sum_pos (fun x _ => hr0 x) ⟨x₀, Finset.mem_univ _⟩, ?_⟩
    rw [Finset.sum_congr rfl fun x _ => hr x, sum_coe]
  rw [hl]
  have hdiv : ∀ x : EReal, Ideal.div x (l : EReal) = x * ((l⁻¹ : ℝ) : EReal) := fun x => by
    unfold Ideal.div
    rw [if_neg (by exact_mod_cast hl0.ne'), EReal.coe_inv]
  simp only [hdiv]
  have hi : 0 ≤ l⁻¹ := (inv_pos.2 hl0).le
  rw [EReal.right_distrib_of_nonneg_of_ne_top (EReal.coe_nonneg.2 hi) (EReal.coe_ne_top _), sum_mul_real _ _ _ hi, sum_mul_real _ _ _ hi]
  refine congrArg₂ (· + ·) (Finset.sum_congr rfl fun b _ => ?_) (Finset.sum_congr rfl fun c _ => ?_)
  · rw [mul_right_comm]
  · rw [mul_right_comm]

end

end Cert.NbrAttnIdeal.Attn
-- ==== Proof.NbrAttnTable.lean ====
module

public import proofs.«01_k».proof.Proof.NbrAttnRun
public import Idealize.ShloMosaic.Lib.Pointwise
public import Idealize.ShloMosaic.Lib.Tactic.ValueTie

@[expose] public section

set_option maxRecDepth 16384

noncomputable section

namespace Cert.NbrAttnIdeal.Attn

open Cert.NbrAttnIdeal Cert.NbrAttnIdeal.Gen
open Idealize.ShloMosaic Idealize.ShloMosaic.TcCoe Idealize.ShloMosaic.Tactic

variable (m : (ℓ : Loc nD τ sig) → Buf (Elt Ideal) ℓ) (c : Dev nD)

/-- The contents before the last line of host operations. -/
def early : Valuation τ sig (Elt Ideal) :=
  StableHlo.after (hostOps0 ++ (hostOps0_1 ++ (hostOps0_2 ++ hostOps0_3))) fun b => m (c, b)

/-- The contents before the table of biases is put together. -/
def mid : Valuation τ sig (Elt Ideal) :=
  StableHlo.after ((hostOps0_4 (F := Ideal)).take 20) (early m c)

/-- The biases of every pair of columns, and minus infinity where a column is not looked at. -/
def full : FVec Ideal S16x15x64x64 .f32 :=
  addf (early m c (Proc.devRef .tc main_v36) : FVec Ideal S16x15x64x64 .f32) (broadcastInDim S16x15x64x64 ![0, 1, 2, 3] bcast_S1x1x64x64_S16x15x64x64_0_1_2_3 (broadcastInDim S1x1x64x64 ![2, 3] bcast_S64x64_S1x1x64x64_2_3 (early m c (Proc.devRef .tc main_v37) : FVec Ideal S64x64 .f32)))

theorem v60_eq : V m c main_v60 = StableHlo.after ((hostOps0_4 (F := Ideal)).drop 20) (mid m c) (Proc.devRef .tc main_v60) := by
  rfl

theorem end_eq : StableHlo.after ((hostOps0_4 (F := Ideal)).drop 20) (mid m c) (Proc.devRef .tc main_v60)
   = (shapeCast S16x8x64x512 (transpose S16x8x64x8x64 [0, 1, 3, 2, 4] (concatenate S16x8x8x64x64 1 ([⟨S16x1x8x64x64, mid m c (Proc.devRef .tc main_v50)⟩, ⟨S16x1x8x64x64, mid m c (Proc.devRef .tc main_v51)⟩, ⟨S16x1x8x64x64, mid m c (Proc.devRef .tc main_v52)⟩, ⟨S16x1x8x64x64, mid m c (Proc.devRef .tc main_v53)⟩, ⟨S16x1x8x64x64, mid m c (Proc.devRef .tc main_v54)⟩, ⟨S16x1x8x64x64, mid m c (Proc.devRef .tc main_v55)⟩, ⟨S16x1x8x64x64, mid m c (Proc.devRef .tc main_v56)⟩, ⟨S16x1x8x64x64, mid m c (Proc.devRef .tc main_v57)⟩] : List ((s : Shape) × (s.Idx → EReal))) concatenates_S16x1x8x64x64_S16x1x8x64x64_S16x1x8x64x64_S16x1x8x64x64_S16x1x8x64x64_S16x1x8x64x64_S16x1x8x64x64_S16x1x8x64x64_S16x8x8x64x64_d1) transposes_S16x8x8x64x64_S16x8x64x8x64_0_1_3_2_4) shapeCasts_S16x8x64x8x64_S16x8x64x512 : S16x8x64x512.Idx → EReal) := by
  simp only [hostOps0_4, List.drop_succ_cons, List.drop_zero]
  after_results_simp
  rfl

theorem v50_eq : mid m c (Proc.devRef .tc main_v50) = broadcastInDim S16x1x8x64x64 ![0, 2, 3, 4] bcast_S16x8x64x64_S16x1x8x64x64_0_2_3_4 (extractStridedSlice S16x8x64x64 ![0, 7, 0, 0] (full m c) slices_S16x15x64x64_S16x8x64x64_0_7_0_0) := by
  unfold mid
  simp only [hostOps0_4, List.take_succ_cons, List.take_zero]
  after_results_simp
  rfl

theorem v51_eq : mid m c (Proc.devRef .tc main_v51) = broadcastInDim S16x1x8x64x64 ![0, 2, 3, 4] bcast_S16x8x64x64_S16x1x8x64x64_0_2_3_4 (extractStridedSlice S16x8x64x64 ![0, 6, 0, 0] (full m c) slices_S16x15x64x64_S16x8x64x64_0_6_0_0) := by
  unfold mid
  simp only [hostOps0_4, List.take_succ_cons, List.take_zero]
  after_results_simp
  rfl

theorem v52_eq : mid m c (Proc.devRef .tc main_v52) = broadcastInDim S16x1x8x64x64 ![0, 2, 3, 4] bcast_S16x8x64x64_S16x1x8x64x64_0_2_3_4 (extractStridedSlice S16x8x64x64 ![0, 5, 0, 0] (full m c) slices_S16x15x64x64_S16x8x64x64_0_5_0_0) := by
  unfold mid
  simp only [hostOps0_4, List.take_succ_cons, List.take_zero]
  after_results_simp
  rfl

theorem v53_eq : mid m c (Proc.devRef .tc main_v53) = broadcastInDim S16x1x8x64x64 ![0, 2, 3, 4] bcast_S16x8x64x64_S16x1x8x64x64_0_2_3_4 (extractStridedSlice S16x8x64x64 ![0, 4, 0, 0] (full m c) slices_S16x15x64x64_S16x8x64x64_0_4_0_0) := by
  unfold mid
  simp only [hostOps0_4, List.take_succ_cons, List.take_zero]
  after_results_simp
  rfl

theorem v54_eq : mid m c (Proc.devRef .tc main_v54) = broadcastInDim S16x1x8x64x64 ![0, 2, 3, 4] bcast_S16x8x64x64_S16x1x8x64x64_0_2_3_4 (extractStridedSlice S16x8x64x64 ![0, 3, 0, 0] (full m c) slices_S16x15x64x64_S16x8x64x64_0_3_0_0) := by
  unfold mid
  simp only [hostOps0_4, List.take_succ_cons, List.take_zero]
  after_results_simp
  rfl

theorem v55_eq : mid m c (Proc.devRef .tc main_v55) = broadcastInDim S16x1x8x64x64 ![0, 2, 3, 4] bcast_S16x8x64x64_S16x1x8x64x64_0_2_3_4 (extractStridedSlice S16x8x64x64 ![0, 2, 0, 0] (full m c) slices_S16x15x64x64_S16x8x64x64_0_2_0_0) := by
  unfold mid
  simp only [hostOps0_4, List.take_succ_cons, List.take_zero]
  after_results_simp
  rfl

theorem v56_eq : mid m c (Proc.devRef .tc main_v56) = broadcastInDim S16x1x8x64x64 ![0, 2, 3, 4] bcast_S16x8x64x64_S16x1x8x64x64_0_2_3_4 (extractStridedSlice S16x8x64x64 ![0, 1, 0, 0] (full m c) slices_S16x15x64x64_S16x8x64x64_0_1_0_0) := by
  unfold mid
  simp only [hostOps0_4, List.take_succ_cons, List.take_zero]
  after_results_simp
  rfl

theorem v57_eq : mid m c (Proc.devRef .tc main_v57) = broadcastInDim S16x1x8x64x64 ![0, 2, 3, 4] bcast_S16x8x64x64_S16x1x8x64x64_0_2_3_4 (extractStridedSlice S16x8x64x64 ![0, 0, 0, 0] (full m c) slices_S16x15x64x64_S16x8x64x64_0_0_0_0) := by
  unfold mid
  simp only [hostOps0_4, List.take_succ_cons, List.take_zero]
  after_results_simp
  rfl

theorem shell_apply (C : S16x8x8x64x64.Idx → EReal) (h : Fin 16) (o : Fin 8) (q : Fin 64) (d : Fin 8) (k : Fin 64) (J : Fin 512)
    (hJ : J.val = 64 * d.val + k.val) :
    (shapeCast S16x8x64x512 (transpose S16x8x64x8x64 [0, 1, 3, 2, 4] C transposes_S16x8x8x64x64_S16x8x64x8x64_0_1_3_2_4) shapeCasts_S16x8x64x8x64_S16x8x64x512 : S16x8x64x512.Idx → EReal) (ix4 h o q J)
      = C (ix5 h o d q k) := by
  pointwise
  have hd : (⟨J.val / 64, by omega⟩ : Fin 8) = d := Fin.ext (by show J.val / 64 = d.val; omega)
  have hk : (⟨J.val % 64, by omega⟩ : Fin 64) = k := Fin.ext (by show J.val % 64 = k.val; omega)
  exact congrArg₂ (fun a b => C (ix5 h o a q b)) hd hk

theorem pieces_concat (p0 p1 p2 p3 p4 p5 p6 p7 : S16x1x8x64x64.Idx → EReal)
    (hc : Shape.Concatenates (([⟨S16x1x8x64x64, p0⟩, ⟨S16x1x8x64x64, p1⟩, ⟨S16x1x8x64x64, p2⟩, ⟨S16x1x8x64x64, p3⟩, ⟨S16x1x8x64x64, p4⟩, ⟨S16x1x8x64x64, p5⟩, ⟨S16x1x8x64x64, p6⟩, ⟨S16x1x8x64x64, p7⟩] : List ((s : Shape) × (s.Idx → EReal))).map (·.1)) S16x8x8x64x64 1) (h : Fin 16) (o : Fin 8) (d : Fin 8) (q k : Fin 64) (G : EReal)
    (h0 : o.val = 0 → p0 (ix5 h (0 : Fin 1) d q k) = G)
    (h1 : o.val = 1 → p1 (ix5 h (0 : Fin 1) d q k) = G)
    (h2 : o.val = 2 → p2 (ix5 h (0 : Fin 1) d q k) = G)
    (h3 : o.val = 3 → p3 (ix5 h (0 : Fin 1) d q k) = G)
    (h4 : o.val = 4 → p4 (ix5 h (0 : Fin 1) d q k) = G)
    (h5 : o.val = 5 → p5 (ix5 h (0 : Fin 1) d q k) = G)
    (h6 : o.val = 6 → p6 (ix5 h (0 : Fin 1) d q k) = G)
    (h7 : o.val = 7 → p7 (ix5 h (0 : Fin 1) d q k) = G)
    : concatenate S16x8x8x64x64 1 [⟨S16x1x8x64x64, p0⟩, ⟨S16x1x8x64x64, p1⟩, ⟨S16x1x8x64x64, p2⟩, ⟨S16x1x8x64x64, p3⟩, ⟨S16x1x8x64x64, p4⟩, ⟨S16x1x8x64x64, p5⟩, ⟨S16x1x8x64x64, p6⟩, ⟨S16x1x8x64x64, p7⟩] hc (ix5 h o d q k) = G := by
  have hl : ([⟨S16x1x8x64x64, p0⟩, ⟨S16x1x8x64x64, p1⟩, ⟨S16x1x8x64x64, p2⟩, ⟨S16x1x8x64x64, p3⟩, ⟨S16x1x8x64x64, p4⟩, ⟨S16x1x8x64x64, p5⟩, ⟨S16x1x8x64x64, p6⟩, ⟨S16x1x8x64x64, p7⟩] : List ((s : Shape) × (s.Idx → EReal))) = List.ofFn fun n : Fin 8 => (⟨S16x1x8x64x64, (![p0, p1, p2, p3, p4, p5, p6, p7] : Fin 8 → S16x1x8x64x64.Idx → EReal) n⟩ : (s : Shape) × (s.Idx → EReal)) := rfl
  have hf : ∀ n : Fin 8, o.val = n.val → (![p0, p1, p2, p3, p4, p5, p6, p7] : Fin 8 → S16x1x8x64x64.Idx → EReal) n (ix5 h (0 : Fin 1) d q k) = G := fun n => by
    match n with
    | ⟨0, _⟩ => exact h0
    | ⟨1, _⟩ => exact h1
    | ⟨2, _⟩ => exact h2
    | ⟨3, _⟩ => exact h3
    | ⟨4, _⟩ => exact h4
    | ⟨5, _⟩ => exact h5
    | ⟨6, _⟩ => exact h6
    | ⟨7, _⟩ => exact h7
    | ⟨m + 8, hm⟩ => exact absurd hm (by omega)
  generalize (![p0, p1, p2, p3, p4, p5, p6, p7] : Fin 8 → S16x1x8x64x64.Idx → EReal) = f at hl hf
  generalize ([⟨S16x1x8x64x64, p0⟩, ⟨S16x1x8x64x64, p1⟩, ⟨S16x1x8x64x64, p2⟩, ⟨S16x1x8x64x64, p3⟩, ⟨S16x1x8x64x64, p4⟩, ⟨S16x1x8x64x64, p5⟩, ⟨S16x1x8x64x64, p6⟩, ⟨S16x1x8x64x64, p7⟩] : List ((s : Shape) × (s.Idx → EReal))) = l at hc hl ⊢
  subst hl
  rw [concatenate_ofFn_apply (t := S16x8x8x64x64) (s₁ := S16x1x8x64x64) (1 : Fin 5) f hc rfl 1 rfl (ix5 h o d q k) o (Nat.div_one _) (ix5 h (0 : Fin 1) d q k) (by show 0 = _ % 1; omega)
    (fun b hb => by
      match b with
      | ⟨0, _⟩ => rfl
      | ⟨1, _⟩ => exact absurd rfl hb
      | ⟨2, _⟩ => rfl
      | ⟨3, _⟩ => rfl
      | ⟨4, _⟩ => rfl)]
  exact hf o rfl

theorem table_apply (h : Fin 16) (o : Fin 8) (q : Fin 64) (d : Fin 8) (k : Fin 64) (J : Fin 512) (hJ : J.val = 64 * d.val + k.val) :
    V m c main_v60 (ix4 h o q J) = full m c (ix4 h (⟨7 - o.val + d.val, by omega⟩ : Fin 15) q k) := by
  rw [v60_eq, end_eq]
  refine (shell_apply _ h o q d k J hJ).trans ?_
  refine pieces_concat _ _ _ _ _ _ _ _ _ h o d q k _ ?_ ?_ ?_ ?_ ?_ ?_ ?_ ?_
  · intro ho
    rw [v50_eq]
    generalize full m c = X
    pointwise
    exact congrArg (fun a : Fin 15 => X (ix4 h a q k)) (Fin.ext (by show 7 + d.val = 7 - o.val + d.val; omega))
  · intro ho
    rw [v51_eq]
    generalize full m c = X
    pointwise
    exact congrArg (fun a : Fin 15 => X (ix4 h a q k)) (Fin.ext (by show 6 + d.val = 7 - o.val + d.val; omega))
  · intro ho
    rw [v52_eq]
    generalize full m c = X
    pointwise
    exact congrArg (fun a : Fin 15 => X (ix4 h a q k)) (Fin.ext (by show 5 + d.val = 7 - o.val + d.val; omega))
  · intro ho
    rw [v53_eq]
    generalize full m c = X
    pointwise
    exact congrArg (fun a : Fin 15 => X (ix4 h a q k)) (Fin.ext (by show 4 + d.val = 7 - o.val + d.val; omega))
  · intro ho
    rw [v54_eq]
    generalize full m c = X
    pointwise
    exact congrArg (fun a : Fin 15 => X (ix4 h a q k)) (Fin.ext (by show 3 + d.val = 7 - o.val + d.val; omega))
  · intro ho
    rw [v55_eq]
    generalize full m c = X
    pointwise
    exact congrArg (fun a : Fin 15 => X (ix4 h a q k)) (Fin.ext (by show 2 + d.val = 7 - o.val + d.val; omega))
  · intro ho
    rw [v56_eq]
    generalize full m c = X
    pointwise
    exact congrArg (fun a : Fin 15 => X (ix4 h a q k)) (Fin.ext (by show 1 + d.val = 7 - o.val + d.val; omega))
  · intro ho
    rw [v57_eq]
    generalize full m c = X
    pointwise
    exact congrArg (fun a : Fin 15 => X (ix4 h a q k)) (Fin.ext (by show d.val = 7 - o.val + d.val; omega))

/-- The first column a query in column `q` looks at. -/
abbrev cs (q : Fin 64) : ℕ := min (q.val - 8) 48

/-- That column as the host counts it. -/
def first (q : Fin 64) : BitVec 32 :=
  IntOp.minsi 48#32 (IntOp.maxsi 0#32 (IntOp.subi (BitVec.ofNat 32 q.val) 8#32))

/-- Whether the query in column `q` looks at column `k`. -/
def looks (q k : Fin 64) : BitVec 1 :=
  IntOp.andi (IntOp.cmpi CmpIPredicate.sge (BitVec.ofNat 32 k.val) (first q)) (IntOp.cmpi CmpIPredicate.slt (BitVec.ofNat 32 k.val) (IntOp.addi (first q) 16#32))

theorem looks_yes : ∀ q k : Fin 64, cs q ≤ k.val → k.val < cs q + 16 → looks q k = 1#1 := by decide +kernel
theorem looks_no : ∀ q k : Fin 64, ¬ (cs q ≤ k.val ∧ k.val < cs q + 16) → looks q k = 0#1 := by decide +kernel

theorem shift_eq : ∀ q k : Fin 64, cs q ≤ k.val → k.val < cs q + 16 →
    IntOp.subi (IntOp.addi (IntOp.subi (BitVec.ofNat 32 k.val) (BitVec.ofNat 32 q.val)) 16#32) 1#32 = BitVec.ofNat 32 (k.val + 15 - q.val) := by decide +kernel

theorem same_bit : ∀ a b : Fin 31, IntOp.cmpi CmpIPredicate.eq (BitVec.ofNat 32 a.val) (BitVec.ofNat 32 b.val) = if b = a then 1#1 else 0#1 := by decide +kernel

theorem one_word : (FloatOps.uitofp (F := Ideal) FTy.f32 (1#1 : BitVec 1) : EReal) = 1 := by
  show (((1#1 : BitVec 1).toNat : ℝ) : EReal) = 1
  simp

theorem zero_word : (FloatOps.uitofp (F := Ideal) FTy.f32 (0#1 : BitVec 1) : EReal) = 0 := by
  show (((0#1 : BitVec 1).toNat : ℝ) : EReal) = 0
  simp

theorem neg_inf : Ideal.ofBits .f32 0xFF800000#32 = ⊥ := by
  have hx : ((0xFF800000#32 : BitVec 32).extractLsb' 23 8).toNat = 2 ^ 8 - 1 := by decide +kernel
  have hf : ((0xFF800000#32 : BitVec 32).extractLsb' 0 23).toNat = 0 := by decide +kernel
  have hn : ((0xFF800000#32 : BitVec 32).extractLsb' (8 + 23) 1 == 1#1) = true := by decide +kernel
  simp only [Ideal.ofBits, Ideal.ieee]
  rw [if_pos hx, if_pos hf, if_pos hn]

theorem v37_at (q k : Fin 64) : (early m c (Proc.devRef .tc main_v37) : S64x64.Idx → EReal) (ix2 q k) = Scalar.select (looks q k) 0 (Ideal.ofBits FTy.f32 0xFF800000#32) := by
  unfold early
  simp only [hostOps0, hostOps0_1, hostOps0_2, hostOps0_3, List.cons_append, List.nil_append, List.append_nil, StableHlo.TRef.binary, StableHlo.TRef.unary, StableHlo.TRef.ternary, StableHlo.TRef.toBuf, StableHlo.TRef.ofBuf, cast_eq]
  after_results_simp
  pointwise
  rfl

/-- The bias of one pair of columns, as the product with a row of noughts and a one. -/
def chosen (B : S16x15x31.Idx → EReal) (h : Fin 16) (j : Fin 15) (q k : Fin 64) : EReal :=
∑ x : Fin 31, B (ix3 h j x) * FloatOps.uitofp (F := Ideal) FTy.f32 (IntOp.andi (IntOp.cmpi CmpIPredicate.eq (IntOp.subi (IntOp.addi (IntOp.subi (BitVec.ofNat 32 k.val) (BitVec.ofNat 32 q.val)) 16#32) 1#32) (BitVec.ofNat 32 x.val)) (looks q k))

theorem v36_at (h : Fin 16) (j : Fin 15) (q k : Fin 64) : (early m c (Proc.devRef .tc main_v36) : S16x15x64x64.Idx → EReal) (ix4 h j q k)
    = chosen (m ((c : Thread nD τ).loc main_arg1)) h j q k := by
  unfold early
  simp only [hostOps0, hostOps0_1, hostOps0_2, hostOps0_3, List.cons_append, List.nil_append, List.append_nil, StableHlo.TRef.binary, StableHlo.TRef.unary, StableHlo.TRef.ternary, StableHlo.TRef.toBuf, StableHlo.TRef.ofBuf, cast_eq]
  after_results_simp
  pointwise
  rfl

/-- A table of biases with a mask of pairs of columns added. -/
def plus (A : S16x15x64x64.Idx → EReal) (B : S64x64.Idx → EReal) (h : Fin 16) (j : Fin 15) (q k : Fin 64) : EReal := A (ix4 h j q k) + B (ix2 q k)

theorem full_at (h : Fin 16) (j : Fin 15) (q k : Fin 64) : full m c (ix4 h j q k)
    = plus (early m c (Proc.devRef .tc main_v36)) (early m c (Proc.devRef .tc main_v37)) h j q k := by
  unfold full
  generalize (early m c (Proc.devRef .tc main_v36) : S16x15x64x64.Idx → EReal) = A
  generalize (early m c (Proc.devRef .tc main_v37) : S64x64.Idx → EReal) = B
  pointwise [plus]

/-- A column that is not looked at has minus infinity. -/
theorem full_no (h : Fin 16) (j : Fin 15) (q k : Fin 64) (hk : ¬ (cs q ≤ k.val ∧ k.val < cs q + 16)) : full m c (ix4 h j q k) = (⊥ : EReal) := by
  rw [full_at, plus, v37_at, looks_no q k hk, neg_inf]
  exact EReal.add_bot _

/-- A column that is looked at has the bias of how far away it is. -/
theorem full_yes (h : Fin 16) (j : Fin 15) (q k : Fin 64) (h1 : cs q ≤ k.val) (h2 : k.val < cs q + 16) (hb : k.val + 15 - q.val < 31) :
    full m c (ix4 h j q k) = (m ((c : Thread nD τ).loc main_arg1) : S16x15x31.Idx → EReal) (ix3 h j (⟨k.val + 15 - q.val, hb⟩ : Fin 31)) := by
  rw [full_at, plus, v37_at, v36_at, chosen, looks_yes q k h1 h2, shift_eq q k h1 h2]
  generalize m ((c : Thread nD τ).loc main_arg1) = B
  change S16x15x31.Idx → EReal at B
  have hz : (Scalar.select (1#1) 0 (Ideal.ofBits FTy.f32 0xFF800000#32) : EReal) = 0 := rfl
  rw [hz, add_zero]
  have ht : ∀ x : Fin 31, B (ix3 h j x) * FloatOps.uitofp (F := Ideal) FTy.f32 (IntOp.andi (IntOp.cmpi CmpIPredicate.eq (BitVec.ofNat 32 (k.val + 15 - q.val)) (BitVec.ofNat 32 x.val)) (1#1))
      = if x = (⟨k.val + 15 - q.val, hb⟩ : Fin 31) then B (ix3 h j x) else 0 := fun x => by
    rw [same_bit ⟨k.val + 15 - q.val, hb⟩ x]
    split
    · rw [show IntOp.andi (1#1) (1#1) = 1#1 from rfl, one_word, mul_one]
    · rw [show IntOp.andi (0#1) (1#1) = 0#1 from rfl, zero_word, mul_zero]
  rw [Finset.sum_congr rfl fun x _ => ht x, Finset.sum_ite_eq']
  exact if_pos (Finset.mem_univ _)

end Cert.NbrAttnIdeal.Attn
-- ==== Proof.NbrAttnRef.lean ====
module

public import proofs.«01_k».proof.Proof.Gen.NbrAttnRefIdeal.Run
public import Idealize.ShloMosaic.Lib.Pointwise
public import Idealize.ShloMosaic.Lib.Tactic
public import Idealize.ShloMosaic.Lib.Tactic.ValueTie

@[expose] public section

set_option maxRecDepth 16384

noncomputable section

namespace Cert.NbrAttnRefIdeal.Attn

open Cert.NbrAttnRefIdeal.Gen Cert.NbrAttnRefIdeal.Value
open Idealize.ShloMosaic Idealize.ShloMosaic.TcCoe Idealize.ShloMosaic.Tactic

variable (V0 : Valuation τ sig (Elt Ideal))

/-- The first of the columns that column `c` looks at. -/
abbrev cs (c : Fin 64) : ℕ := min (c.val - 8) 48

/-- The first of the rows that row `r` looks at. -/
abbrev rw0 (r : Fin 64) : ℕ := min (r.val - 4) 56

theorem tab_col (c : Fin 64) (k : Fin 16) : res_main_v25 V0 (ix2 c k) = BitVec.ofNat 32 (cs c + k.val) := by
  pointwise [res_main_v25, res_main_v16]
  change (_ : BitVec 32) = _
  revert c k
  decide +kernel

theorem tab_row (r : Fin 64) (a : Fin 8) : res_main_v38 V0 (ix2 r a) = BitVec.ofNat 32 (rw0 r + a.val) := by
  pointwise [res_main_v38, res_main_v29]
  change (_ : BitVec 32) = _
  revert r a
  decide +kernel

theorem tab_dcol (c : Fin 64) (k : Fin 16) :
    res_main_v87 V0 (ix4 (0 : Fin 1) c (0 : Fin 1) k) = BitVec.ofNat 32 (cs c + k.val + 15 - c.val) := by
  pointwise [res_main_v87, res_main_v16]
  rw [tab_col]
  change (_ : BitVec 32) = _
  revert c k
  decide +kernel

theorem tab_drow (r : Fin 64) (a : Fin 8) :
    res_main_v82 V0 (ix4 r (0 : Fin 1) a (0 : Fin 1)) = BitVec.ofNat 32 (rw0 r + a.val + 7 - r.val) := by
  pointwise [res_main_v82, res_main_v29]
  rw [tab_row]
  change (_ : BitVec 32) = _
  revert r a
  decide +kernel

/-- The table of places that is read at: the row words, the column words, both wrapped at their extents. -/
abbrev places (x : IVec S64x1x8x1 32) (y : IVec S1x64x1x16 32) (n n' : BitVec 32) : IVec S64x64x8x16x2 32 :=
  concatenate S64x64x8x16x2 4 [⟨S64x64x8x16x1, broadcastInDim S64x64x8x16x1 ![0, 1, 2, 3] bcast_S64x64x8x16_S64x64x8x16x1_0_1_2_3 (broadcastInDim S64x64x8x16 ![0, 1, 2, 3] bcast_S64x1x8x1_S64x64x8x16_0_1_2_3 (select (cmpi .slt x (broadcastInDim S64x1x8x1 ![] bcast_S_S64x1x8x1 (constantI S_ 32 0#32))) (addi x (broadcastInDim S64x1x8x1 ![] bcast_S_S64x1x8x1 (constantI S_ 32 n))) x))⟩, ⟨S64x64x8x16x1, broadcastInDim S64x64x8x16x1 ![0, 1, 2, 3] bcast_S64x64x8x16_S64x64x8x16x1_0_1_2_3 (broadcastInDim S64x64x8x16 ![0, 1, 2, 3] bcast_S1x64x1x16_S64x64x8x16_0_1_2_3 (select (cmpi .slt y (broadcastInDim S1x64x1x16 ![] bcast_S_S1x64x1x16 (constantI S_ 32 0#32))) (addi y (broadcastInDim S1x64x1x16 ![] bcast_S_S1x64x1x16 (constantI S_ 32 n'))) y))⟩] concatenates_S64x64x8x16x1_S64x64x8x16x1_S64x64x8x16x2_d4

theorem not_neg : ∀ R : Fin 64, IntOp.cmpi .slt (BitVec.ofNat 32 R.val) 0#32 = 0#1 := by decide +kernel

theorem places_row (x : IVec S64x1x8x1 32) (y : IVec S1x64x1x16 32) (n n' : BitVec 32) (r c : Fin 64) (a : Fin 8) (k : Fin 16)
    (R : Fin 64) (h : x (ix4 r (0 : Fin 1) a (0 : Fin 1)) = BitVec.ofNat 32 R.val) :
    places x y n n' (ix5 r c a k (0 : Fin 2)) = BitVec.ofNat 32 R.val := by
  unfold places
  pointwise
  rw [h, not_neg]
  rfl

theorem places_col (x : IVec S64x1x8x1 32) (y : IVec S1x64x1x16 32) (n n' : BitVec 32) (r c : Fin 64) (a : Fin 8) (k : Fin 16)
    (R : Fin 64) (h : y (ix4 (0 : Fin 1) c (0 : Fin 1) k) = BitVec.ofNat 32 R.val) :
    places x y n n' (ix5 r c a k (1 : Fin 2)) = BitVec.ofNat 32 R.val := by
  unfold places
  pointwise
  rw [h, not_neg]
  rfl

theorem start_word (n : ℕ) (hn : n < 64) : (BitVec.ofNat 32 n).toInt.toNat = n := by
  have h : ∀ R : Fin 64, (BitVec.ofNat 32 R.val).toInt.toNat = R.val := by decide +kernel
  exact h ⟨n, hn⟩

theorem gather_win (x : S2x64x64x16x128.Idx → EReal) (I : IVec S64x64x8x16x2 32) (b : Fin 2) (r c : Fin 64) (a : Fin 8)
    (k n : Fin 16) (d : Fin 128) (R C : Fin 64)
    (h0 : I (ix5 r c a k (0 : Fin 2)) = BitVec.ofNat 32 R.val) (h1 : I (ix5 r c a k (1 : Fin 2)) = BitVec.ofNat 32 C.val) :
    Host.gather gather_S2x64x64x16x128_S64x64x8x16x2_S2x64x64x8x16x16x128_056_12_n_n_12_4_21116128 x I (ix7 b r c a k n d) = x (ix5 b R C n d) := by
  unfold Host.gather
  congr 1
  funext e
  refine Fin.ext ?_
  set G := gather_S2x64x64x16x128_S64x64x8x16x2_S2x64x64x8x16x16x128_056_12_n_n_12_4_21116128 with hG
  show G.start (ix7 b r c a k n d) I e + G.batchCoord (ix7 b r c a k n d) e + G.offCoord (ix7 b r c a k n d) e = _
  rw [GatherDims.batchCoord_eq_zero _ _ _ List.not_mem_nil]
  have he : e = (0 : Fin 5) ∨ e = (1 : Fin 5) ∨ e = (2 : Fin 5) ∨ e = (3 : Fin 5) ∨ e = (4 : Fin 5) := by
    revert e
    decide
  rcases he with rfl | rfl | rfl | rfl | rfl
  · unfold GatherDims.start
    rw [dif_neg (show (0 : Fin 5) ∉ G.startIndexMap from (by decide : (0 : Fin 5) ∉ ([1, 2] : List (Fin 5))))]
    unfold GatherDims.offCoord
    rw [dif_pos ((GatherDims.mem_sKept _ _).mpr
      ⟨(by decide : (0 : Fin 5) ∉ ([1, 2] : List (Fin 5))), List.not_mem_nil⟩)]
    simp only [Nat.zero_add, Nat.add_zero]
    rfl
  · rw [GatherDims.offCoord_eq_zero _ _ _ (fun h => ((GatherDims.mem_sKept _ _).mp h).1 (show (1 : Fin 5) ∈ [1, 2] by decide))]
    unfold GatherDims.start
    have hm : (1 : Fin 5) ∈ G.startIndexMap := show (1 : Fin 5) ∈ [1, 2] by decide
    rw [dif_pos hm]
    have hsi : G.siIdx (ix7 b r c a k n d) ⟨List.idxOf (1 : Fin 5) G.startIndexMap, List.idxOf_lt_length_iff.2 hm⟩
        = ix5 r c a k (0 : Fin 2) := by
      funext q
      refine Fin.ext ?_
      match q with
      | ⟨0, _⟩ => rfl
      | ⟨1, _⟩ => rfl
      | ⟨2, _⟩ => rfl
      | ⟨3, _⟩ => rfl
      | ⟨4, _⟩ => rfl
    have hs : min (I (ix5 r c a k (0 : Fin 2))).toInt.toNat 63 = R.val := by
      rw [h0, start_word R.val (by have := R.isLt; omega)]
      have := R.isLt
      omega
    simp only [Nat.add_zero]
    refine Eq.trans ?_ hs
    exact congrArg (fun z => min (I z).toInt.toNat 63) hsi
  · rw [GatherDims.offCoord_eq_zero _ _ _ (fun h => ((GatherDims.mem_sKept _ _).mp h).1 (show (2 : Fin 5) ∈ [1, 2] by decide))]
    unfold GatherDims.start
    have hm : (2 : Fin 5) ∈ G.startIndexMap := show (2 : Fin 5) ∈ [1, 2] by decide
    rw [dif_pos hm]
    have hsi : G.siIdx (ix7 b r c a k n d) ⟨List.idxOf (2 : Fin 5) G.startIndexMap, List.idxOf_lt_length_iff.2 hm⟩
        = ix5 r c a k (1 : Fin 2) := by
      funext q
      refine Fin.ext ?_
      match q with
      | ⟨0, _⟩ => rfl
      | ⟨1, _⟩ => rfl
      | ⟨2, _⟩ => rfl
      | ⟨3, _⟩ => rfl
      | ⟨4, _⟩ => rfl
    have hs : min (I (ix5 r c a k (1 : Fin 2))).toInt.toNat 63 = C.val := by
      rw [h1, start_word C.val (by have := C.isLt; omega)]
      have := C.isLt
      omega
    simp only [Nat.add_zero]
    refine Eq.trans ?_ hs
    exact congrArg (fun z => min (I z).toInt.toNat 63) hsi
  · unfold GatherDims.start
    rw [dif_neg (show (3 : Fin 5) ∉ G.startIndexMap from (by decide : (3 : Fin 5) ∉ ([1, 2] : List (Fin 5))))]
    unfold GatherDims.offCoord
    rw [dif_pos ((GatherDims.mem_sKept _ _).mpr
      ⟨(by decide : (3 : Fin 5) ∉ ([1, 2] : List (Fin 5))), List.not_mem_nil⟩)]
    simp only [Nat.zero_add, Nat.add_zero]
    rfl
  · unfold GatherDims.start
    rw [dif_neg (show (4 : Fin 5) ∉ G.startIndexMap from (by decide : (4 : Fin 5) ∉ ([1, 2] : List (Fin 5))))]
    unfold GatherDims.offCoord
    rw [dif_pos ((GatherDims.mem_sKept _ _).mpr
      ⟨(by decide : (4 : Fin 5) ∉ ([1, 2] : List (Fin 5))), List.not_mem_nil⟩)]
    simp only [Nat.zero_add, Nat.add_zero]
    rfl

theorem gather_bias (x : S16x15x31.Idx → EReal) (I : IVec S64x64x8x16x2 32) (r c : Fin 64) (a : Fin 8)
    (k n : Fin 16) (R : Fin 15) (C : Fin 31)
    (h0 : I (ix5 r c a k (0 : Fin 2)) = BitVec.ofNat 32 R.val) (h1 : I (ix5 r c a k (1 : Fin 2)) = BitVec.ofNat 32 C.val) :
    Host.gather gather_S16x15x31_S64x64x8x16x2_S16x64x64x8x16_0_12_n_n_12_4_1611 x I (ix5 n r c a k) = x (ix3 n R C) := by
  unfold Host.gather
  congr 1
  funext e
  refine Fin.ext ?_
  set G := gather_S16x15x31_S64x64x8x16x2_S16x64x64x8x16_0_12_n_n_12_4_1611 with hG
  show G.start (ix5 n r c a k) I e + G.batchCoord (ix5 n r c a k) e + G.offCoord (ix5 n r c a k) e = _
  rw [GatherDims.batchCoord_eq_zero _ _ _ List.not_mem_nil]
  have he : e = (0 : Fin 3) ∨ e = (1 : Fin 3) ∨ e = (2 : Fin 3) := by
    revert e
    decide
  rcases he with rfl | rfl | rfl
  · unfold GatherDims.start
    rw [dif_neg (show (0 : Fin 3) ∉ G.startIndexMap from (by decide : (0 : Fin 3) ∉ ([1, 2] : List (Fin 3))))]
    unfold GatherDims.offCoord
    rw [dif_pos ((GatherDims.mem_sKept _ _).mpr
      ⟨(by decide : (0 : Fin 3) ∉ ([1, 2] : List (Fin 3))), List.not_mem_nil⟩)]
    simp only [Nat.zero_add, Nat.add_zero]
    rfl
  · rw [GatherDims.offCoord_eq_zero _ _ _ (fun h => ((GatherDims.mem_sKept _ _).mp h).1 (show (1 : Fin 3) ∈ [1, 2] by decide))]
    unfold GatherDims.start
    have hm : (1 : Fin 3) ∈ G.startIndexMap := show (1 : Fin 3) ∈ [1, 2] by decide
    rw [dif_pos hm]
    have hsi : G.siIdx (ix5 n r c a k) ⟨List.idxOf (1 : Fin 3) G.startIndexMap, List.idxOf_lt_length_iff.2 hm⟩
        = ix5 r c a k (0 : Fin 2) := by
      funext q
      refine Fin.ext ?_
      match q with
      | ⟨0, _⟩ => rfl
      | ⟨1, _⟩ => rfl
      | ⟨2, _⟩ => rfl
      | ⟨3, _⟩ => rfl
      | ⟨4, _⟩ => rfl
    have hs : min (I (ix5 r c a k (0 : Fin 2))).toInt.toNat 14 = R.val := by
      rw [h0, start_word R.val (by have := R.isLt; omega)]
      have := R.isLt
      omega
    simp only [Nat.add_zero]
    refine Eq.trans ?_ hs
    exact congrArg (fun z => min (I z).toInt.toNat 14) hsi
  · rw [GatherDims.offCoord_eq_zero _ _ _ (fun h => ((GatherDims.mem_sKept _ _).mp h).1 (show (2 : Fin 3) ∈ [1, 2] by decide))]
    unfold GatherDims.start
    have hm : (2 : Fin 3) ∈ G.startIndexMap := show (2 : Fin 3) ∈ [1, 2] by decide
    rw [dif_pos hm]
    have hsi : G.siIdx (ix5 n r c a k) ⟨List.idxOf (2 : Fin 3) G.startIndexMap, List.idxOf_lt_length_iff.2 hm⟩
        = ix5 r c a k (1 : Fin 2) := by
      funext q
      refine Fin.ext ?_
      match q with
      | ⟨0, _⟩ => rfl
      | ⟨1, _⟩ => rfl
      | ⟨2, _⟩ => rfl
      | ⟨3, _⟩ => rfl
      | ⟨4, _⟩ => rfl
    have hs : min (I (ix5 r c a k (1 : Fin 2))).toInt.toNat 30 = C.val := by
      rw [h1, start_word C.val (by have := C.isLt; omega)]
      have := C.isLt
      omega
    simp only [Nat.add_zero]
    refine Eq.trans ?_ hs
    exact congrArg (fun z => min (I z).toInt.toNat 30) hsi

/-- The row of the tokens' array that holds the token at row `r`, column `c` of batch `b`. -/
def tok (b : Fin 2) (r c : Fin 64) : Fin 8704 :=
  ⟨b.val * 4096 + (r.val * 64 + c.val), by omega⟩

/-- The row of the tokens' array that holds token `j` of the context of batch `b`. -/
def ctx (b : Fin 2) (j : Fin 256) : Fin 8704 :=
  ⟨8192 + (b.val * 256 + j.val), by omega⟩

/-- The column of the tokens' array that holds channel `d` of head `n` of the queries (0), keys (1), values (2) or
    gates (3). -/
def chan (s : Fin 4) (n : Fin 16) (d : Fin 128) : Fin 8192 :=
  ⟨s.val * 2048 + (n.val * 128 + d.val), by omega⟩

/-- The row of neighbor row `a` of row `r`. -/
def nrow (r : Fin 64) (a : Fin 8) : Fin 64 :=
  ⟨rw0 r + a.val, by have : rw0 r ≤ 56 := Nat.min_le_right _ _; omega⟩

/-- The column of neighbor column `k` of column `c`. -/
def ncol (c : Fin 64) (k : Fin 16) : Fin 64 :=
  ⟨cs c + k.val, by have : cs c ≤ 48 := Nat.min_le_right _ _; omega⟩

/-- The bias' row of neighbor row `a` of row `r`. -/
def brow (r : Fin 64) (a : Fin 8) : Fin 15 :=
  ⟨rw0 r + a.val + 7 - r.val, by have : rw0 r = min (r.val - 4) 56 := rfl; omega⟩

/-- The bias' column of neighbor column `k` of column `c`. -/
def bcol (c : Fin 64) (k : Fin 16) : Fin 31 :=
  ⟨cs c + k.val + 15 - c.val, by have : cs c = min (c.val - 8) 48 := rfl; omega⟩

/-- The score of a token and its neighbor `(a, k)`. -/
def near (p : S8704x8192.Idx → EReal) (B : S16x15x31.Idx → EReal) (b : Fin 2) (n : Fin 16) (r c : Fin 64) (a : Fin 8)
    (k : Fin 16) : EReal :=
  (∑ d : Fin 128, p (ix2 (tok b r c) (chan 0 n d)) * p (ix2 (tok b (nrow r a) (ncol c k)) (chan 1 n d)))
    * Ideal.ofBits .f32 0x3DB504F3#32 + B (ix3 n (brow r a) (bcol c k))

/-- The score of a token and token `j` of the context. -/
def far (p : S8704x8192.Idx → EReal) (b : Fin 2) (n : Fin 16) (r c : Fin 64) (j : Fin 256) : EReal :=
  (∑ d : Fin 128, p (ix2 (tok b r c) (chan 0 n d)) * p (ix2 (ctx b j) (chan 1 n d))) * Ideal.ofBits .f32 0x3DB504F3#32

/-- The scores of a token: its neighbors and then the context. -/
def logit (p : S8704x8192.Idx → EReal) (B : S16x15x31.Idx → EReal) (b : Fin 2) (n : Fin 16) (r c : Fin 64) (j : Fin 384) : EReal :=
  if h : j.val < 128 then near p B b n r c ⟨j.val / 16, by omega⟩ ⟨j.val % 16, by omega⟩ else far p b n r c ⟨j.val - 128, by omega⟩

theorem ix2_congr {n m : ℕ} {a a' : Fin n} {b b' : Fin m} (ha : a.val = a'.val) (hb : b.val = b'.val) : ix2 a b = ix2 a' b' := by
  obtain rfl := Fin.ext ha
  obtain rfl := Fin.ext hb
  rfl

theorem q_apply (b : Fin 2) (r c : Fin 64) (n : Fin 16) (d : Fin 128) :
    res_main_v13 V0 (ix5 b r c n d) = V0 (Proc.tc.devRef main_arg0) (ix2 (tok b r c) (chan 0 n d)) := by
  pointwise [res_main_v13, res_main_v2, res_main_v0]
  exact congrArg (V0 (Proc.tc.devRef main_arg0)) (ix2_congr rfl (by show (n.val * 128 + d.val) = 0 * 2048 + (n.val * 128 + d.val); omega))

theorem k_apply (b : Fin 2) (r c : Fin 64) (n : Fin 16) (d : Fin 128) :
    (shapeCast S2x64x64x16x128 (extractStridedSlice S2x4096x2048 ![0, 0, 2048] (res_main_v2 V0)
      slices_S2x4096x8192_S2x4096x2048_0_0_2048) shapeCasts_S2x4096x2048_S2x64x64x16x128) (ix5 b r c n d)
      = V0 (Proc.tc.devRef main_arg0) (ix2 (tok b r c) (chan 1 n d)) := by
  pointwise [res_main_v2, res_main_v0]
  exact congrArg (V0 (Proc.tc.devRef main_arg0)) (ix2_congr rfl (by show 2048 + (n.val * 128 + d.val) = 1 * 2048 + (n.val * 128 + d.val); omega))

theorem v_apply (b : Fin 2) (r c : Fin 64) (n : Fin 16) (d : Fin 128) :
    (shapeCast S2x64x64x16x128 (extractStridedSlice S2x4096x2048 ![0, 0, 4096] (res_main_v2 V0)
      slices_S2x4096x8192_S2x4096x2048_0_0_4096) shapeCasts_S2x4096x2048_S2x64x64x16x128) (ix5 b r c n d)
      = V0 (Proc.tc.devRef main_arg0) (ix2 (tok b r c) (chan 2 n d)) := by
  pointwise [res_main_v2, res_main_v0]
  exact congrArg (V0 (Proc.tc.devRef main_arg0)) (ix2_congr rfl (by show 4096 + (n.val * 128 + d.val) = 2 * 2048 + (n.val * 128 + d.val); omega))

theorem near_row (r : Fin 64) (a : Fin 8) : res_main_v42 V0 (ix4 r (0 : Fin 1) a (0 : Fin 1)) = BitVec.ofNat 32 (nrow r a).val := by
  pointwise [res_main_v42]
  exact tab_row V0 r a

theorem near_col (c : Fin 64) (k : Fin 16) : res_main_v43 V0 (ix4 (0 : Fin 1) c (0 : Fin 1) k) = BitVec.ofNat 32 (ncol c k).val := by
  pointwise [res_main_v43]
  exact tab_col V0 c k

theorem c_apply (b : Fin 2) (j : Fin 256) (s : Fin 4) (n : Fin 16) (d : Fin 128) {y : Fin 8192} (hy : y.val = (chan s n d).val) :
    res_main_v4 V0 (ix3 b j y) = V0 (Proc.tc.devRef main_arg0) (ix2 (ctx b j) (chan s n d)) := by
  pointwise [res_main_v4, res_main_v0]
  exact congrArg (V0 (Proc.tc.devRef main_arg0)) (ix2_congr rfl hy)

theorem logit_apply (b : Fin 2) (n : Fin 16) (r c : Fin 64) (j : Fin 384) :
    res_main_v114 V0 (ix5 b n r c j)
      = logit (V0 (Proc.tc.devRef main_arg0)) (V0 (Proc.tc.devRef main_arg1)) b n r c j := by
  pointwise [res_main_v114]
  unfold logit
  split
  next h =>
    have ha : j.val / 16 < 8 := by omega
    have hk : j.val % 16 < 16 := by omega
    unfold near
    refine congrArg₂ (· + ·) (congrArg (· * _) (Finset.sum_congr rfl fun d _ => congrArg₂ (· * ·) (q_apply V0 b r c n d) ?_)) ?_
    · have hg := gather_win (shapeCast S2x64x64x16x128 (extractStridedSlice S2x4096x2048 ![0, 0, 2048] (res_main_v2 V0)
          slices_S2x4096x8192_S2x4096x2048_0_0_2048) shapeCasts_S2x4096x2048_S2x64x64x16x128)
        (places (res_main_v42 V0) (res_main_v43 V0) 64#32 64#32) b r c ⟨j.val / 16, ha⟩ ⟨j.val % 16, hk⟩ n d _ _
        (places_row _ _ _ _ _ _ _ _ _ (near_row V0 r ⟨j.val / 16, ha⟩)) (places_col _ _ _ _ _ _ _ _ _ (near_col V0 c ⟨j.val % 16, hk⟩))
      exact hg.trans (k_apply V0 _ _ _ _ _)
    · exact gather_bias (V0 (Proc.tc.devRef main_arg1)) (places (res_main_v82 V0) (res_main_v87 V0) 15#32 31#32) r c
        ⟨j.val / 16, ha⟩ ⟨j.val % 16, hk⟩ n (brow r ⟨j.val / 16, ha⟩) (bcol c ⟨j.val % 16, hk⟩)
        (places_row _ _ _ _ _ _ _ _ ⟨(brow r ⟨j.val / 16, ha⟩).val, by omega⟩ (tab_drow V0 r ⟨j.val / 16, ha⟩)) (places_col _ _ _ _ _ _ _ _ ⟨(bcol c ⟨j.val % 16, hk⟩).val, by omega⟩ (tab_dcol V0 c ⟨j.val % 16, hk⟩))
  next h =>
    unfold far
    refine congrArg (· * _) (Finset.sum_congr rfl fun d _ => congrArg₂ (· * ·) (q_apply V0 b r c n d) ?_)
    exact c_apply V0 b _ 1 n d (by show 2048 + (n.val * 128 + d.val) = 1 * 2048 + (n.val * 128 + d.val); omega)

end Cert.NbrAttnRefIdeal.Attn
-- ==== Proof.NbrAttnSoft.lean ====
module

public import proofs.«01_k».proof.Proof.NbrAttnRef
public import Idealize.ShloMosaic.Lib.Pointwise
public import Idealize.ShloMosaic.Lib.Tactic
public import Idealize.ShloMosaic.Lib.Tactic.ValueTie

@[expose] public section

set_option maxRecDepth 16384

noncomputable section

namespace Cert.NbrAttnRefIdeal.Attn

open Cert.NbrAttnRefIdeal.Gen Cert.NbrAttnRefIdeal.Value
open Idealize.ShloMosaic Idealize.ShloMosaic.TcCoe Idealize.ShloMosaic.Tactic

variable (V0 : Valuation τ sig (Elt Ideal))

/-- The greatest of a token's scores. -/
def peak (g : Fin 384 → EReal) : EReal := Finset.univ.fold max ⊥ g

/-- The weight of place `j` among the scores. -/
def weight (g : Fin 384 → EReal) (j : Fin 384) : EReal :=
  Ideal.div (Ideal.exp (g j - peak g)) (∑ x, Ideal.exp (g x - peak g))

theorem neg_inf : Ideal.ofBits .f32 0xFF800000#32 = ⊥ := by
  have hx : ((0xFF800000#32 : BitVec 32).extractLsb' 23 8).toNat = 2 ^ 8 - 1 := by decide +kernel
  have hf : ((0xFF800000#32 : BitVec 32).extractLsb' 0 23).toNat = 0 := by decide +kernel
  have hn : ((0xFF800000#32 : BitVec 32).extractLsb' (8 + 23) 1 == 1#1) = true := by decide +kernel
  simp only [Ideal.ofBits, Ideal.ieee]
  rw [if_pos hx, if_pos hf, if_pos hn]

theorem share_apply (E : FVec Ideal S2x16x64x64x384 .f32) (i : S2x16x64x64x384.Idx) :
    Host.divf E (broadcastInDim S2x16x64x64x384 ![0, 1, 2, 3, 4] bcast_S2x16x64x64x1_S2x16x64x64x384_0_1_2_3_4 (broadcastInDim S2x16x64x64x1 ![0, 1, 2, 3] bcast_S2x16x64x64_S2x16x64x64x1_0_1_2_3 (Host.reduceAdd E (constant S_ .f32 0x00000000#32) reducesTo_S2x16x64x64x384_S2x16x64x64_d4 h_S_))) i
      = Ideal.div (E i) (∑ x : Fin 384, E (ix5 (i 0) (i 1) (i 2) (i 3) x)) := by
  pointwise

theorem lift_apply (L : FVec Ideal S2x16x64x64x384 .f32) (M : FVec Ideal S2x16x64x64 .f32) (b : Fin 2) (n : Fin 16) (r c : Fin 64) (j : Fin 384) :
  Host.exp (subf L (broadcastInDim S2x16x64x64x384 ![0, 1, 2, 3, 4] bcast_S2x16x64x64x1_S2x16x64x64x384_0_1_2_3_4 (broadcastInDim S2x16x64x64x1 ![0, 1, 2, 3] bcast_S2x16x64x64_S2x16x64x64x1_0_1_2_3 (maximumf (broadcastInDim S2x16x64x64 ![] bcast_S_S2x16x64x64 (constant S_ .f32 0xFF800000#32)) M)))) (ix5 b n r c j)
   = Ideal.exp (L (ix5 b n r c j) - max (Ideal.ofBits .f32 0xFF800000#32) (M (ix4 b n r c))) := by
  pointwise

theorem most_apply (L : FVec Ideal S2x16x64x64x384 .f32) (b : Fin 2) (n : Fin 16) (r c : Fin 64) :
    Host.reduce FloatOps.maximumf L (constant S_ .f32 0xFF800000#32) reducesTo_S2x16x64x64x384_S2x16x64x64_d4 h_S_ (ix4 b n r c)
      = Finset.univ.fold max (Ideal.ofBits .f32 0xFF800000#32) fun j : Fin 384 => L (ix5 b n r c j) :=
  (Host.reduce_eq_fold _ L _ _ _ _).trans
    (Shape.ReducesTo.fold_fiber_r5_a4 reducesTo_S2x16x64x64x384_S2x16x64x64_d4 (ix4 b n r c) max (Ideal.ofBits .f32 0xFF800000#32) L)

theorem exp_apply (b : Fin 2) (n : Fin 16) (r c : Fin 64) (j : Fin 384) :
    res_main_v121 V0 (ix5 b n r c j)
      = Ideal.exp (logit (V0 (Proc.tc.devRef main_arg0)) (V0 (Proc.tc.devRef main_arg1)) b n r c j
        - peak (logit (V0 (Proc.tc.devRef main_arg0)) (V0 (Proc.tc.devRef main_arg1)) b n r c)) := by
  have hl : (fun j => res_main_v114 V0 (ix5 b n r c j)) = logit (V0 (Proc.tc.devRef main_arg0)) (V0 (Proc.tc.devRef main_arg1)) b n r c :=
    funext fun j => logit_apply V0 b n r c j
  unfold res_main_v121
  refine (lift_apply (res_main_v114 V0) _ b n r c j).trans ?_
  rw [most_apply, neg_inf, max_bot_left, hl, logit_apply]
  rfl

theorem weight_apply (b : Fin 2) (n : Fin 16) (r c : Fin 64) (j : Fin 384) :
    res_main_v125 V0 (ix5 b n r c j)
      = weight (logit (V0 (Proc.tc.devRef main_arg0)) (V0 (Proc.tc.devRef main_arg1)) b n r c) j := by
  unfold res_main_v125
  refine (share_apply (res_main_v121 V0) (ix5 b n r c j)).trans ?_
  unfold weight
  exact congrArg₂ Ideal.div (exp_apply V0 b n r c j) (Finset.sum_congr rfl fun x _ => exp_apply V0 b n r c x)

end Cert.NbrAttnRefIdeal.Attn
-- ==== Proof.NbrAttnOut.lean ====
module

public import proofs.«01_k».proof.Proof.NbrAttnSoft
public import Idealize.ShloMosaic.Lib.Pointwise
public import Idealize.ShloMosaic.Lib.Tactic
public import Idealize.ShloMosaic.Lib.Tactic.ValueTie

@[expose] public section

set_option maxRecDepth 16384

noncomputable section

namespace Cert.NbrAttnRefIdeal.Attn

open Cert.NbrAttnRefIdeal.Gen Cert.NbrAttnRefIdeal.Value
open Idealize.ShloMosaic Idealize.ShloMosaic.TcCoe Idealize.ShloMosaic.Tactic

theorem near_dot (W : FVec Ideal S2x16x64x64x384 .f32) (G : FVec Ideal S2x64x64x8x16x16x128 .f32) (b : Fin 2) (r c : Fin 64) (n : Fin 16) (d : Fin 128) :
    (Host.dotGeneral dot_S2x16x64x64x8x16_S2x64x64x8x16x16x128_S2x64x64x16x128_45_34_n_6_0231_0125 none (shapeCast S2x16x64x64x8x16 (extractStridedSlice S2x16x64x64x128 ![0, 0, 0, 0, 0] W slices_S2x16x64x64x384_S2x16x64x64x128_0_0_0_0_0) shapeCasts_S2x16x64x64x128_S2x16x64x64x8x16) G : FVec Ideal S2x64x64x16x128 .f32) (ix5 b r c n d)
      = ∑ a : Fin 8, ∑ k : Fin 16, W (ix5 b n r c ⟨a.val * 16 + k.val, by omega⟩) * G (ix7 b r c a k n d) := by
  pointwise

theorem far_dot (W : FVec Ideal S2x16x64x64x384 .f32) (C : FVec Ideal S2x256x16x128 .f32) (b : Fin 2) (r c : Fin 64) (n : Fin 16) (d : Fin 128) :
    transpose S2x64x64x16x128 [0, 3, 4, 1, 2] (Host.dotGeneral dot_S2x256x16x128_S2x16x64x64x256_S2x16x128x64x64_1_4_3_23_02_01 none C (extractStridedSlice S2x16x64x64x256 ![0, 0, 0, 0, 128] W slices_S2x16x64x64x384_S2x16x64x64x256_0_0_0_0_128) : FVec Ideal S2x16x128x64x64 .f32) transposes_S2x16x128x64x64_S2x64x64x16x128_0_3_4_1_2 (ix5 b r c n d)
      = ∑ j : Fin 256, C (ix4 b j n d) * W (ix5 b n r c ⟨128 + j.val, by omega⟩) := by
  pointwise

theorem ix3_congr {n0 n1 n2 : ℕ} {a a' : Fin n0} {b b' : Fin n1} {c c' : Fin n2} (ha : a.val = a'.val) (hb : b.val = b'.val)
    (hc : c.val = c'.val) : ix3 a b c = ix3 a' b' c' := by
  obtain rfl := Fin.ext ha
  obtain rfl := Fin.ext hb
  obtain rfl := Fin.ext hc
  rfl

theorem ix5_congr {n0 n1 n2 n3 n4 : ℕ} {a a' : Fin n0} {b b' : Fin n1} {c c' : Fin n2} {d d' : Fin n3} {e e' : Fin n4}
    (ha : a.val = a'.val) (hb : b.val = b'.val) (hc : c.val = c'.val) (hd : d.val = d'.val) (he : e.val = e'.val) :
    ix5 a b c d e = ix5 a' b' c' d' e' := by
  obtain rfl := Fin.ext ha
  obtain rfl := Fin.ext hb
  obtain rfl := Fin.ext hc
  obtain rfl := Fin.ext hd
  obtain rfl := Fin.ext he
  rfl

theorem shell_at (X : FVec Ideal S2x64x64x16x128 .f32) (Z : FVec Ideal S2x4096x2048 .f32) (i : S8192x2048.Idx) :
    (truncf .bf16 (shapeCast S8192x2048 (mulf (shapeCast S2x4096x2048 X shapeCasts_S2x64x64x16x128_S2x4096x2048) (mulf Z (Host.divf (broadcastInDim S2x4096x2048 ![] bcast_S_S2x4096x2048 (constant S_ .f32 0x3F800000#32)) (addf (broadcastInDim S2x4096x2048 ![] bcast_S_S2x4096x2048 (constant S_ .f32 0x3F800000#32)) (Host.exp (Host.negf Z)))))) shapeCasts_S2x4096x2048_S8192x2048) bitsLt_bf16_f32 : FVec Ideal S8192x2048 .bf16) i
      = X (ix5 ⟨(i 0).val / 4096, by have := ValueIdx.idx2_lt0 i; omega⟩ ⟨(i 0).val % 4096 / 64, by omega⟩ ⟨(i 0).val % 4096 % 64, by omega⟩
          ⟨(i 1).val / 128, by have := ValueIdx.idx2_lt1 i; omega⟩ ⟨(i 1).val % 128, by omega⟩)
        * (Z (ix3 ⟨(i 0).val / 4096, by have := ValueIdx.idx2_lt0 i; omega⟩ ⟨(i 0).val % 4096, by omega⟩ (i 1))
          * Ideal.div 1 (1 + Ideal.exp (-Z (ix3 ⟨(i 0).val / 4096, by have := ValueIdx.idx2_lt0 i; omega⟩ ⟨(i 0).val % 4096, by omega⟩ (i 1))))) := by
  pointwise

/-- The row of the result that holds the token at row `r`, column `c` of batch `b`. -/
def orow (b : Fin 2) (r c : Fin 64) : Fin 8192 := ⟨b.val * 4096 + (r.val * 64 + c.val), by omega⟩

/-- The column of the result that holds channel `d` of head `n`. -/
def ocol (n : Fin 16) (d : Fin 128) : Fin 2048 := ⟨n.val * 128 + d.val, by omega⟩

theorem shell_apply (X : FVec Ideal S2x64x64x16x128 .f32) (Z : FVec Ideal S2x4096x2048 .f32) (b : Fin 2) (r c : Fin 64) (n : Fin 16) (d : Fin 128) :
    (truncf .bf16 (shapeCast S8192x2048 (mulf (shapeCast S2x4096x2048 X shapeCasts_S2x64x64x16x128_S2x4096x2048) (mulf Z (Host.divf (broadcastInDim S2x4096x2048 ![] bcast_S_S2x4096x2048 (constant S_ .f32 0x3F800000#32)) (addf (broadcastInDim S2x4096x2048 ![] bcast_S_S2x4096x2048 (constant S_ .f32 0x3F800000#32)) (Host.exp (Host.negf Z)))))) shapeCasts_S2x4096x2048_S8192x2048) bitsLt_bf16_f32 : FVec Ideal S8192x2048 .bf16) (ix2 (orow b r c) (ocol n d))
      = X (ix5 b r c n d) * (Z (ix3 b (⟨r.val * 64 + c.val, by omega⟩ : Fin 4096) (ocol n d))
          * Ideal.logistic (Z (ix3 b (⟨r.val * 64 + c.val, by omega⟩ : Fin 4096) (ocol n d)))) := by
  refine (shell_at X Z (ix2 (orow b r c) (ocol n d))).trans ?_
  have h0 : ((ix2 (orow b r c) (ocol n d) : S8192x2048.Idx) 0).val = b.val * 4096 + (r.val * 64 + c.val) := rfl
  have h1 : ((ix2 (orow b r c) (ocol n d) : S8192x2048.Idx) 1).val = n.val * 128 + d.val := rfl
  have hZ := congrArg Z (ix3_congr (a := ⟨((ix2 (orow b r c) (ocol n d) : S8192x2048.Idx) 0).val / 4096, by rw [h0]; omega⟩) (a' := b)
    (b := ⟨((ix2 (orow b r c) (ocol n d) : S8192x2048.Idx) 0).val % 4096, by omega⟩) (b' := (⟨r.val * 64 + c.val, by omega⟩ : Fin 4096))
    (c := (ix2 (orow b r c) (ocol n d) : S8192x2048.Idx) 1) (c' := ocol n d)
    (by show _ / 4096 = b.val; rw [h0]; omega) (by show _ % 4096 = r.val * 64 + c.val; rw [h0]; omega) rfl)
  refine congrArg₂ (· * ·) (congrArg X (ix5_congr ?_ ?_ ?_ ?_ ?_)) ?_
  · show _ / 4096 = b.val
    rw [h0]
    omega
  · show _ % 4096 / 64 = r.val
    rw [h0]
    omega
  · show _ % 4096 % 64 = c.val
    rw [h0]
    omega
  · show _ / 128 = n.val
    rw [h1]
    omega
  · show _ % 128 = d.val
    rw [h1]
    omega
  · exact congrArg (fun z => z * Ideal.logistic z) hZ

variable (V0 : Valuation τ sig (Elt Ideal))

theorem z_apply (b : Fin 2) (r c : Fin 64) (n : Fin 16) (d : Fin 128) :
    res_main_v8 V0 (ix3 b (⟨r.val * 64 + c.val, by omega⟩ : Fin 4096) (ocol n d)) = V0 (Proc.tc.devRef main_arg0) (ix2 (tok b r c) (chan 3 n d)) := by
  pointwise [res_main_v8, res_main_v2, res_main_v0]
  exact congrArg (V0 (Proc.tc.devRef main_arg0)) (ix2_congr rfl (by show 6144 + (n.val * 128 + d.val) = 3 * 2048 + (n.val * 128 + d.val); omega))

theorem vc_apply (b : Fin 2) (j : Fin 256) (n : Fin 16) (d : Fin 128) :
    (shapeCast S2x256x16x128 (extractStridedSlice S2x256x2048 ![0, 0, 4096] (res_main_v4 V0) slices_S2x256x8192_S2x256x2048_0_0_4096)
      shapeCasts_S2x256x2048_S2x256x16x128) (ix4 b j n d) = V0 (Proc.tc.devRef main_arg0) (ix2 (ctx b j) (chan 2 n d)) := by
  pointwise
  exact c_apply V0 b j 2 n d (by show 4096 + (n.val * 128 + d.val) = 2 * 2048 + (n.val * 128 + d.val); omega)

theorem again_row (r : Fin 64) (a : Fin 8) : res_main_v60 V0 (ix4 r (0 : Fin 1) a (0 : Fin 1)) = BitVec.ofNat 32 (nrow r a).val := by
  pointwise [res_main_v60]
  exact tab_row V0 r a

theorem again_col (c : Fin 64) (k : Fin 16) : res_main_v61 V0 (ix4 (0 : Fin 1) c (0 : Fin 1) k) = BitVec.ofNat 32 (ncol c k).val := by
  pointwise [res_main_v61]
  exact tab_col V0 c k

/-- One element of neighborhood attention: the weighted values of the neighbors and of the context, times the gate. -/
def attend (p : S8704x8192.Idx → EReal) (B : S16x15x31.Idx → EReal) (b : Fin 2) (n : Fin 16) (r c : Fin 64) (d : Fin 128) : EReal :=
  ((∑ a : Fin 8, ∑ k : Fin 16, weight (logit p B b n r c) ⟨a.val * 16 + k.val, by omega⟩
      * p (ix2 (tok b (nrow r a) (ncol c k)) (chan 2 n d)))
    + ∑ j : Fin 256, p (ix2 (ctx b j) (chan 2 n d)) * weight (logit p B b n r c) ⟨128 + j.val, by omega⟩)
  * (p (ix2 (tok b r c) (chan 3 n d)) * Ideal.logistic (p (ix2 (tok b r c) (chan 3 n d))))

theorem add_at (X Y : FVec Ideal S2x64x64x16x128 .f32) (i : S2x64x64x16x128.Idx) : addf X Y i = X i + Y i := rfl

theorem last_apply (b : Fin 2) (n : Fin 16) (r c : Fin 64) (d : Fin 128) :
    val3 V0 (Proc.devRef .tc main_v137) (ix2 (orow b r c) (ocol n d))
      = attend (V0 (Proc.tc.devRef main_arg0)) (V0 (Proc.tc.devRef main_arg1)) b n r c d := by
  refine (congrFun (val3_main_v137 V0) (ix2 (orow b r c) (ocol n d))).trans ?_
  refine (shell_apply _ _ b r c n d).trans ?_
  rw [add_at, near_dot, far_dot, z_apply]
  unfold attend
  refine congrArg₂ (fun x y : EReal => x * y) (congrArg₂ (fun x y : EReal => x + y) (Finset.sum_congr rfl fun a _ => Finset.sum_congr rfl fun k _ => ?_)
    (Finset.sum_congr rfl fun j _ => ?_)) rfl
  · rw [weight_apply]
    refine congrArg₂ (fun x y : EReal => x * y) rfl ?_
    have hg := gather_win (shapeCast S2x64x64x16x128 (extractStridedSlice S2x4096x2048 ![0, 0, 4096] (res_main_v2 V0)
        slices_S2x4096x8192_S2x4096x2048_0_0_4096) shapeCasts_S2x4096x2048_S2x64x64x16x128)
      (places (res_main_v60 V0) (res_main_v61 V0) 64#32 64#32) b r c a k n d _ _
      (places_row _ _ _ _ _ _ _ _ _ (again_row V0 r a)) (places_col _ _ _ _ _ _ _ _ _ (again_col V0 c k))
    exact hg.trans (v_apply V0 _ _ _ _ _)
  · rw [weight_apply, vc_apply]

end Cert.NbrAttnRefIdeal.Attn
-- ==== Proof.NbrAttnJoin.lean ====
/- The neighborhood attention: what the kernel computes of a tile is what the reference computes. The kernel scores all
   512 places of eight grid rows and masks all but 16 of every 64; the reference looks up those 128. -/
module

public import proofs.«01_k».proof.Proof.NbrAttnMath
public import proofs.«01_k».proof.Proof.NbrAttnTile
public import proofs.«01_k».proof.Proof.NbrAttnTable
public import proofs.«01_k».proof.Proof.NbrAttnOut

@[expose] public section

set_option maxRecDepth 16384

noncomputable section

namespace Cert.NbrAttn

open Idealize.ShloMosaic Idealize.ShloMosaic.TcCoe Idealize.ShloMosaic.Tactic
open Cert.NbrAttnIdeal.Attn (Fin' sum_scale normalize scale bot rs at_ key below score score' top attn cs neg_inf fin_coe fin_sum)
open Cert.NbrAttnRefIdeal.Attn (tok ctx chan nrow ncol brow bcol near far logit peak weight attend)
open Cert.NbrAttnIdeal (S4096x128 S256x128 S1x8x64x512)
open Cert.NbrAttnRefIdeal (S8704x8192 S16x15x31)

/-- Where the kernel's window of eight rows has the neighbor `(a, k)` of a query in column `c`. -/
def place (c : Fin 64) (b : Fin 8 × Fin 16) : Fin 512 :=
  ⟨64 * b.1.val + (cs c + b.2.val), by have : cs c ≤ 48 := Nat.min_le_right _ _; omega⟩

theorem place_inj (c : Fin 64) : Function.Injective (place c) := fun x y h => by
  have h' : 64 * x.1.val + (cs c + x.2.val) = 64 * y.1.val + (cs c + y.2.val) := congrArg Fin.val h
  have h1 : x.1.val = y.1.val := by omega
  have h2 : x.2.val = y.2.val := by omega
  exact Prod.ext (Fin.ext h1) (Fin.ext h2)

/-- The reference's 384 places: the neighbors and then the context. -/
def halves : Fin 384 ≃ (Fin 8 × Fin 16) ⊕ Fin 256 where
  toFun j := if h : j.val < 128 then Sum.inl (⟨j.val / 16, by omega⟩, ⟨j.val % 16, by omega⟩) else Sum.inr ⟨j.val - 128, by omega⟩
  invFun := Sum.elim (fun b => ⟨b.1.val * 16 + b.2.val, by omega⟩) (fun j => ⟨128 + j.val, by omega⟩)
  left_inv j := by
    by_cases h : j.val < 128
    · beta_reduce
      rw [dif_pos h]
      exact Fin.ext (by show j.val / 16 * 16 + j.val % 16 = j.val; omega)
    · beta_reduce
      rw [dif_neg h]
      exact Fin.ext (by show 128 + (j.val - 128) = j.val; omega)
  right_inv x := by
    rcases x with ⟨a, k⟩ | j
    · have h : a.val * 16 + k.val < 128 := by omega
      refine (dif_pos h).trans (congrArg Sum.inl (Prod.ext (Fin.ext ?_) (Fin.ext ?_)))
      · show (a.val * 16 + k.val) / 16 = a.val; omega
      · show (a.val * 16 + k.val) % 16 = k.val; omega
    · have h : ¬ 128 + j.val < 128 := by omega
      refine (dif_neg h).trans (congrArg Sum.inr (Fin.ext ?_))
      show 128 + j.val - 128 = j.val; omega

theorem halves_lo (x : Fin 384) (h : x.val < 128) : halves x = Sum.inl (⟨x.val / 16, by omega⟩, ⟨x.val % 16, by omega⟩) := dif_pos h
theorem halves_hi (x : Fin 384) (h : ¬ x.val < 128) : halves x = Sum.inr ⟨x.val - 128, by omega⟩ := dif_neg h

theorem logit_lo (p : S8704x8192.Idx → EReal) (B : S16x15x31.Idx → EReal) (b : Fin 2) (n : Fin 16) (r c : Fin 64) (x : Fin 384) (h : x.val < 128) :
    logit p B b n r c x = near p B b n r c ⟨x.val / 16, by omega⟩ ⟨x.val % 16, by omega⟩ := dif_pos h
theorem logit_hi (p : S8704x8192.Idx → EReal) (B : S16x15x31.Idx → EReal) (b : Fin 2) (n : Fin 16) (r c : Fin 64) (x : Fin 384) (h : ¬ x.val < 128) :
    logit p B b n r c x = far p b n r c ⟨x.val - 128, by omega⟩ := dif_neg h

theorem key_place (r c : Fin 64) (a : Fin 8) (k : Fin 16) : key r (place c (a, k)) = at_ (nrow r a) (ncol c k) :=
  Fin.ext (by
    show 64 * min (r.val - 4) 56 + (64 * a.val + (min (c.val - 8) 48 + k.val)) = 64 * (min (r.val - 4) 56 + a.val) + (min (c.val - 8) 48 + k.val)
    omega)

theorem scale_fin : Fin' scale := by
  have hx : ¬ ((0x3DB504F3#32 : BitVec 32).extractLsb' 23 8).toNat = 2 ^ 8 - 1 := by decide +kernel
  have hy : ¬ ((0x3DB504F3#32 : BitVec 32).extractLsb' 23 8).toNat = 0 := by decide +kernel
  unfold scale
  simp only [Ideal.ofBits, Ideal.ieee]
  rw [if_neg hx, if_neg hy]
  exact fin_coe _

/-- The kernel's element is the reference's. -/
theorem attn_eq (p : S8704x8192.Idx → EReal) (B : S16x15x31.Idx → EReal) (b : Fin 2) (n : Fin 16) (r c : Fin 64) (d : Fin 128)
    (q k v z : S4096x128.Idx → EReal) (kc vc : S256x128.Idx → EReal) (T : S1x8x64x512.Idx → EReal)
    (hq : ∀ (r c : Fin 64) (d : Fin 128), q (ix2 (at_ r c) d) = p (ix2 (tok b r c) (chan 0 n d)))
    (hk : ∀ (r c : Fin 64) (d : Fin 128), k (ix2 (at_ r c) d) = p (ix2 (tok b r c) (chan 1 n d)))
    (hv : ∀ (r c : Fin 64) (d : Fin 128), v (ix2 (at_ r c) d) = p (ix2 (tok b r c) (chan 2 n d)))
    (hz : ∀ (r c : Fin 64) (d : Fin 128), z (ix2 (at_ r c) d) = p (ix2 (tok b r c) (chan 3 n d)))
    (hkc : ∀ (j : Fin 256) (d : Fin 128), kc (ix2 j d) = p (ix2 (ctx b j) (chan 1 n d)))
    (hvc : ∀ (j : Fin 256) (d : Fin 128), vc (ix2 j d) = p (ix2 (ctx b j) (chan 2 n d)))
    (hno : ∀ (a : Fin 8) (l : Fin 64), ¬ (cs c ≤ l.val ∧ l.val < cs c + 16) → ∀ J : Fin 512, J.val = 64 * a.val + l.val → T (ix4 (0 : Fin 1) (below r) c J) = ⊥)
    (hyes : ∀ (a : Fin 8) (l : Fin 16), T (ix4 (0 : Fin 1) (below r) c (place c (a, l))) = B (ix3 n (brow r a) (bcol c l)))
    (f0 : ∀ i d, Fin' (p (ix2 i (chan 0 n d)))) (f1 : ∀ i d, Fin' (p (ix2 i (chan 1 n d)))) (fB : ∀ i, Fin' (B i)) :
    attn q k v z kc vc T r c d = attend p B b n r c d := by
  have hnear : ∀ x : Fin 8 × Fin 16, score q k T r c (place c x) = near p B b n r c x.1 x.2 := fun x => by
    unfold score near
    rw [hyes x.1 x.2]
    refine congrArg (fun y : EReal => y + B (ix3 n (brow r x.1) (bcol c x.2))) ?_
    refine (Finset.sum_congr rfl fun d _ => ?_).trans (sum_scale Finset.univ (fun d : Fin 128 => p (ix2 (tok b r c) (chan 0 n d)))
      (fun d => p (ix2 (tok b (nrow r x.1) (ncol c x.2)) (chan 1 n d))) scale scale_fin (fun d _ => f0 _ d) (fun d _ => f1 _ d))
    rw [show place c x = place c (x.1, x.2) from rfl, key_place, hq, hk]
  have hfar : ∀ j : Fin 256, score' q kc r c j = far p b n r c j := fun j => by
    unfold score' far
    refine (Finset.sum_congr rfl fun d _ => ?_).trans (sum_scale Finset.univ (fun d : Fin 128 => p (ix2 (tok b r c) (chan 0 n d)))
      (fun d => p (ix2 (ctx b j) (chan 1 n d))) scale scale_fin (fun d _ => f0 _ d) (fun d _ => f1 _ d))
    rw [hq, hkc]
  have hmask : ∀ a, (∀ x, place c x ≠ a) → score q k T r c a = ⊥ := fun a ha => by
    unfold score
    rw [hno ⟨a.val / 64, by omega⟩ ⟨a.val % 64, by omega⟩ (fun h => ?_) a (by show a.val = 64 * (a.val / 64) + a.val % 64; omega)]
    · exact EReal.add_bot _
    · have h1 : cs c ≤ a.val % 64 := h.1
      have h2 : a.val % 64 < cs c + 16 := h.2
      exact ha (⟨a.val / 64, by omega⟩, ⟨a.val % 64 - cs c, by omega⟩) (Fin.ext (by
        show 64 * (a.val / 64) + (cs c + (a.val % 64 - cs c)) = a.val
        omega))
  have hs : ∀ x : Fin 8 × Fin 16, Fin' (score q k T r c (place c x)) := fun x => by
    rw [hnear]
    exact ((fin_sum _ _ fun d _ => (f0 _ d).mul (f1 _ d)).mul scale_fin).add (fB _)
  have ht : ∀ j : Fin 256, Fin' (score' q kc r c j) := fun j => by
    rw [hfar]
    exact (fin_sum _ _ fun d _ => (f0 _ d).mul (f1 _ d)).mul scale_fin
  have hg : ∀ x : Fin 384, logit p B b n r c x = Sum.elim (fun y => score q k T r c (place c y)) (score' q kc r c) (halves x) := fun x => by
    by_cases h : x.val < 128
    · rw [logit_lo p B b n r c x h, halves_lo x h, Sum.elim_inl, hnear]
    · rw [logit_hi p B b n r c x h, halves_hi x h, Sum.elim_inr, hfar]
  have H := normalize (place c) (place_inj c) halves (score q k T r c) (score' q kc r c) (logit p B b n r c) hmask hs ht ⟨(0, 0)⟩ hg
    (fun a => v (ix2 (key r a) d)) (fun j => vc (ix2 j d))
  have hb : bot = ⊥ := neg_inf
  have htop : top q k kc T r c = max (Finset.univ.fold max ⊥ (score q k T r c)) (Finset.univ.fold max ⊥ (score' q kc r c)) := by
    unfold top; rw [hb]
  unfold attn attend
  rw [htop, H, hz]
  refine congrArg (fun y : EReal => y * (p (ix2 (tok b r c) (chan 3 n d)) * Ideal.logistic (p (ix2 (tok b r c) (chan 3 n d))))) ?_
  have e1 : (∑ x : Fin 8 × Fin 16, Ideal.div (Ideal.exp (score q k T r c (place c x) - Finset.univ.fold max ⊥ (logit p B b n r c))) (∑ x, Ideal.exp (logit p B b n r c x - Finset.univ.fold max ⊥ (logit p B b n r c))) * v (ix2 (key r (place c x)) d))
      = ∑ a : Fin 8, ∑ k : Fin 16, weight (logit p B b n r c) ⟨a.val * 16 + k.val, by omega⟩ * p (ix2 (tok b (nrow r a) (ncol c k)) (chan 2 n d)) := by
    rw [Fintype.sum_prod_type]
    refine Finset.sum_congr rfl fun a _ => Finset.sum_congr rfl fun l _ => ?_
    rw [key_place, hv]
    have hx : score q k T r c (place c (a, l)) = logit p B b n r c ⟨a.val * 16 + l.val, by omega⟩ := by
      rw [hg, show (⟨a.val * 16 + l.val, by omega⟩ : Fin 384) = halves.symm (Sum.inl (a, l)) from rfl, Equiv.apply_symm_apply]
      rfl
    rw [hx]
    rfl
  have e2 : (∑ j : Fin 256, Ideal.div (Ideal.exp (score' q kc r c j - Finset.univ.fold max ⊥ (logit p B b n r c))) (∑ x, Ideal.exp (logit p B b n r c x - Finset.univ.fold max ⊥ (logit p B b n r c))) * vc (ix2 j d))
      = ∑ j : Fin 256, p (ix2 (ctx b j) (chan 2 n d)) * weight (logit p B b n r c) ⟨128 + j.val, by omega⟩ := by
    refine Finset.sum_congr rfl fun j _ => ?_
    rw [hvc]
    have hx : score' q kc r c j = logit p B b n r c ⟨128 + j.val, by omega⟩ := by
      rw [hg, show (⟨128 + j.val, by omega⟩ : Fin 384) = halves.symm (Sum.inr j) from rfl, Equiv.apply_symm_apply]
      rfl
    rw [hx, mul_comm]
    rfl
  rw [e1, e2]

end Cert.NbrAttn
-- ==== Proof.NbrAttn.lean ====
/- The neighborhood attention's kernel and its reference have the same result over the extended reals. -/
module

public import proofs.«01_k».proof.Defs
public import proofs.«01_k».proof.Proof.Gen.NbrAttnIdeal
public import proofs.«01_k».proof.Proof.Gen.NbrAttnRefIdeal.Run
public import proofs.«01_k».proof.Proof.NbrAttnTrip
public import proofs.«01_k».proof.Proof.NbrAttnJoin

@[expose] public section

set_option maxRecDepth 16384

noncomputable section

namespace Cert.NbrAttnIdeal.Attn

open Cert.NbrAttnIdeal Cert.NbrAttnIdeal.Gen
open Idealize.ShloMosaic Idealize.ShloMosaic.TcCoe Idealize.ShloMosaic.Tactic Idealize.SL.Sem
open Idealize.ShloMosaic.Pipeline (Dat)
open Cert.NbrAttnRefIdeal.Attn (tok ctx chan nrow ncol brow bcol attend ix2_congr)

variable (m : (ℓ : Loc nD τ sig) → Buf (Elt Ideal) ℓ) (c : Dev nD)

/-- The part of the batch and the head of a grid point. -/
def bt (t : Fin cfg0.N) : Fin 2 := ⟨t.val / 16, by have h : t.val < 32 := lt_of_lt_of_eq t.isLt N_0; omega⟩
def hd (t : Fin cfg0.N) : Fin 16 := ⟨t.val % 16, by omega⟩

/-- The batch's part at a grid point. -/
theorem coord_eq : ∀ t : Fin cfg0.N, (grid0.coords t 0).val = t.val / 16 := (by decide +kernel : ∀ t : Fin grid0.N, _)

/-- The blocks of the windows at a grid point. -/
theorem index0 : ∀ t : Fin cfg0.N, win0_0.index t (0 : Fin 2) = t.val / 16 ∧ win0_0.index t (1 : Fin 2) = 0 + t.val % 16 := (by decide +kernel : ∀ t : Fin grid0.N, _)
theorem index1 : ∀ t : Fin cfg0.N, win0_1.index t (0 : Fin 2) = t.val / 16 ∧ win0_1.index t (1 : Fin 2) = 16 + t.val % 16 := (by decide +kernel : ∀ t : Fin grid0.N, _)
theorem index2 : ∀ t : Fin cfg0.N, win0_2.index t (0 : Fin 2) = t.val / 16 ∧ win0_2.index t (1 : Fin 2) = 32 + t.val % 16 := (by decide +kernel : ∀ t : Fin grid0.N, _)
theorem index3 : ∀ t : Fin cfg0.N, win0_3.index t (0 : Fin 2) = t.val / 16 ∧ win0_3.index t (1 : Fin 2) = 48 + t.val % 16 := (by decide +kernel : ∀ t : Fin grid0.N, _)
theorem index5 : ∀ t : Fin cfg0.N, win0_5.index t (0 : Fin 2) = 16 ∧ win0_5.index t (1 : Fin 2) = 16 + t.val % 16 := (by decide +kernel : ∀ t : Fin grid0.N, _)
theorem index6 : ∀ t : Fin cfg0.N, win0_6.index t (0 : Fin 2) = 16 ∧ win0_6.index t (1 : Fin 2) = 32 + t.val % 16 := (by decide +kernel : ∀ t : Fin grid0.N, _)
theorem index8 : ∀ t : Fin cfg0.N, win0_8.index t (0 : Fin 4) = t.val % 16 ∧ win0_8.index t (1 : Fin 4) = 0 ∧ win0_8.index t (2 : Fin 4) = 0 ∧ win0_8.index t (3 : Fin 4) = 0 := (by decide +kernel : ∀ t : Fin grid0.N, _)
theorem index9 : ∀ t : Fin cfg0.N, win0_9.index t (0 : Fin 2) = t.val / 16 ∧ win0_9.index t (1 : Fin 2) = t.val % 16 := (by decide +kernel : ∀ t : Fin grid0.N, _)

/-- Window 0's block at a point, at an index. -/
theorem X0_0_apply (t : Fin cfg0.N) (r w : Fin 64) (d : Fin 128) :
    (X0_0 m c t : S4096x128.Idx → EReal) (ix2 (at_ r w) d) = (m ((c : Thread nD τ).loc main_arg0) : S8704x8192.Idx → EReal) (ix2 (tok (bt t) r w) (chan 0 (hd t) d)) := by
  have hN : t.val < 32 := lt_of_lt_of_eq t.isLt N_0
  obtain ⟨e0, e1⟩ := index0 t
  unfold X0_0 Pipeline.Window.fill
  rw [dif_pos (moved0_0 t _)]
  show V m c main_arg0 (((cfg0.win 0).blk t).view.emb _) = _
  rw [V_main_arg0]
  refine congrArg (m ((c : Thread nD τ).loc main_arg0)) ?_
  funext a
  apply Fin.ext
  match a with
  | ⟨0, _⟩ => show win0_0.index t (0 : Fin 2) * 4096 + 1 * (64 * r.val + w.val) = t.val / 16 * 4096 + (r.val * 64 + w.val); omega
  | ⟨1, _⟩ => show win0_0.index t (1 : Fin 2) * 128 + 1 * d.val = 0 * 2048 + (t.val % 16 * 128 + d.val); omega

/-- Window 1's block at a point, at an index. -/
theorem X0_1_apply (t : Fin cfg0.N) (r w : Fin 64) (d : Fin 128) :
    (X0_1 m c t : S4096x128.Idx → EReal) (ix2 (at_ r w) d) = (m ((c : Thread nD τ).loc main_arg0) : S8704x8192.Idx → EReal) (ix2 (tok (bt t) r w) (chan 1 (hd t) d)) := by
  have hN : t.val < 32 := lt_of_lt_of_eq t.isLt N_0
  obtain ⟨e0, e1⟩ := index1 t
  unfold X0_1 Pipeline.Window.fill
  rw [dif_pos (moved0_1 t _)]
  show V m c main_arg0 (((cfg0.win 1).blk t).view.emb _) = _
  rw [V_main_arg0]
  refine congrArg (m ((c : Thread nD τ).loc main_arg0)) ?_
  funext a
  apply Fin.ext
  match a with
  | ⟨0, _⟩ => show win0_1.index t (0 : Fin 2) * 4096 + 1 * (64 * r.val + w.val) = t.val / 16 * 4096 + (r.val * 64 + w.val); omega
  | ⟨1, _⟩ => show win0_1.index t (1 : Fin 2) * 128 + 1 * d.val = 1 * 2048 + (t.val % 16 * 128 + d.val); omega

/-- Window 2's block at a point, at an index. -/
theorem X0_2_apply (t : Fin cfg0.N) (r w : Fin 64) (d : Fin 128) :
    (X0_2 m c t : S4096x128.Idx → EReal) (ix2 (at_ r w) d) = (m ((c : Thread nD τ).loc main_arg0) : S8704x8192.Idx → EReal) (ix2 (tok (bt t) r w) (chan 2 (hd t) d)) := by
  have hN : t.val < 32 := lt_of_lt_of_eq t.isLt N_0
  obtain ⟨e0, e1⟩ := index2 t
  unfold X0_2 Pipeline.Window.fill
  rw [dif_pos (moved0_2 t _)]
  show V m c main_arg0 (((cfg0.win 2).blk t).view.emb _) = _
  rw [V_main_arg0]
  refine congrArg (m ((c : Thread nD τ).loc main_arg0)) ?_
  funext a
  apply Fin.ext
  match a with
  | ⟨0, _⟩ => show win0_2.index t (0 : Fin 2) * 4096 + 1 * (64 * r.val + w.val) = t.val / 16 * 4096 + (r.val * 64 + w.val); omega
  | ⟨1, _⟩ => show win0_2.index t (1 : Fin 2) * 128 + 1 * d.val = 2 * 2048 + (t.val % 16 * 128 + d.val); omega

/-- Window 3's block at a point, at an index. -/
theorem X0_3_apply (t : Fin cfg0.N) (r w : Fin 64) (d : Fin 128) :
    (X0_3 m c t : S4096x128.Idx → EReal) (ix2 (at_ r w) d) = (m ((c : Thread nD τ).loc main_arg0) : S8704x8192.Idx → EReal) (ix2 (tok (bt t) r w) (chan 3 (hd t) d)) := by
  have hN : t.val < 32 := lt_of_lt_of_eq t.isLt N_0
  obtain ⟨e0, e1⟩ := index3 t
  unfold X0_3 Pipeline.Window.fill
  rw [dif_pos (moved0_3 t _)]
  show V m c main_arg0 (((cfg0.win 3).blk t).view.emb _) = _
  rw [V_main_arg0]
  refine congrArg (m ((c : Thread nD τ).loc main_arg0)) ?_
  funext a
  apply Fin.ext
  match a with
  | ⟨0, _⟩ => show win0_3.index t (0 : Fin 2) * 4096 + 1 * (64 * r.val + w.val) = t.val / 16 * 4096 + (r.val * 64 + w.val); omega
  | ⟨1, _⟩ => show win0_3.index t (1 : Fin 2) * 128 + 1 * d.val = 3 * 2048 + (t.val % 16 * 128 + d.val); omega

/-- Window 5's block at a point, the rows of the batch's part, at an index. -/
theorem iblk5_apply (t : Fin cfg0.N) (j : Fin 256) (d : Fin 128) :
    rows (grid0.coords t) (iblk m c 5 t) (ix2 j d) = (m ((c : Thread nD τ).loc main_arg0) : S8704x8192.Idx → EReal) (ix2 (ctx (bt t) j) (chan 1 (hd t) d)) := by
  have hN : t.val < 32 := lt_of_lt_of_eq t.isLt N_0
  have hc := coord_eq t
  obtain ⟨e0, e1⟩ := index5 t
  unfold rows
  show V m c main_arg0 (((cfg0.win 5).blk t).view.emb _) = _
  rw [V_main_arg0]
  refine congrArg (m ((c : Thread nD τ).loc main_arg0)) ?_
  funext a
  apply Fin.ext
  match a with
  | ⟨0, _⟩ => show win0_5.index t (0 : Fin 2) * 512 + 1 * (256 * (grid0.coords t 0).val + j.val) = 8192 + (t.val / 16 * 256 + j.val); omega
  | ⟨1, _⟩ => show win0_5.index t (1 : Fin 2) * 128 + 1 * d.val = 1 * 2048 + (t.val % 16 * 128 + d.val); omega

/-- Window 6's block at a point, the rows of the batch's part, at an index. -/
theorem iblk6_apply (t : Fin cfg0.N) (j : Fin 256) (d : Fin 128) :
    rows (grid0.coords t) (iblk m c 6 t) (ix2 j d) = (m ((c : Thread nD τ).loc main_arg0) : S8704x8192.Idx → EReal) (ix2 (ctx (bt t) j) (chan 2 (hd t) d)) := by
  have hN : t.val < 32 := lt_of_lt_of_eq t.isLt N_0
  have hc := coord_eq t
  obtain ⟨e0, e1⟩ := index6 t
  unfold rows
  show V m c main_arg0 (((cfg0.win 6).blk t).view.emb _) = _
  rw [V_main_arg0]
  refine congrArg (m ((c : Thread nD τ).loc main_arg0)) ?_
  funext a
  apply Fin.ext
  match a with
  | ⟨0, _⟩ => show win0_6.index t (0 : Fin 2) * 512 + 1 * (256 * (grid0.coords t 0).val + j.val) = 8192 + (t.val / 16 * 256 + j.val); omega
  | ⟨1, _⟩ => show win0_6.index t (1 : Fin 2) * 128 + 1 * d.val = 2 * 2048 + (t.val % 16 * 128 + d.val); omega

/-- The table's block at a point, at an index. -/
theorem iblk8_apply (t : Fin cfg0.N) (o : Fin 8) (w : Fin 64) (J : Fin 512) :
    (iblk m c 8 t : S1x8x64x512.Idx → EReal) (ix4 (0 : Fin 1) o w J) = (V m c main_v60 : S16x8x64x512.Idx → EReal) (ix4 (hd t) o w J) := by
  obtain ⟨e0, e1, e2, e3⟩ := index8 t
  show V m c main_v60 (((cfg0.win 8).blk t).view.emb (ix4 (0 : Fin 1) o w J)) = _
  refine congrArg (V m c main_v60) ?_
  funext a
  apply Fin.ext
  match a with
  | ⟨0, _⟩ => show win0_8.index t (0 : Fin 4) * 1 + 1 * 0 = t.val % 16; omega
  | ⟨1, _⟩ => show win0_8.index t (1 : Fin 4) * 8 + 1 * o.val = o.val; omega
  | ⟨2, _⟩ => show win0_8.index t (2 : Fin 4) * 64 + 1 * w.val = w.val; omega
  | ⟨3, _⟩ => show win0_8.index t (3 : Fin 4) * 512 + 1 * J.val = J.val; omega

theorem table_no (t : Fin cfg0.N) (r w : Fin 64) (a : Fin 8) (l : Fin 64) (h : ¬ (cs w ≤ l.val ∧ l.val < cs w + 16)) (J : Fin 512) (hJ : J.val = 64 * a.val + l.val) :
    (iblk m c 8 t : S1x8x64x512.Idx → EReal) (ix4 (0 : Fin 1) (below r) w J) = (⊥ : EReal) := by
  rw [iblk8_apply]
  exact (table_apply m c (hd t) (below r) w a l J hJ).trans (full_no m c _ _ w l h)

theorem table_yes (t : Fin cfg0.N) (r w : Fin 64) (a : Fin 8) (l : Fin 16) :
    (iblk m c 8 t : S1x8x64x512.Idx → EReal) (ix4 (0 : Fin 1) (below r) w (Cert.NbrAttn.place w (a, l)))
      = (m ((c : Thread nD τ).loc main_arg1) : S16x15x31.Idx → EReal) (ix3 (hd t) (brow r a) (bcol w l)) := by
  have hw : cs w = min (w.val - 8) 48 := rfl
  rw [iblk8_apply]
  refine (table_apply m c (hd t) (below r) w a (ncol w l) _ rfl).trans ?_
  refine (full_yes m c _ _ w (ncol w l) (by show cs w ≤ cs w + l.val; omega) (by show cs w + l.val < cs w + 16; omega) (by show cs w + l.val + 15 - w.val < 31; omega)).trans ?_
  refine congrArg (fun x : Fin 15 => (m ((c : Thread nD τ).loc main_arg1) : S16x15x31.Idx → EReal) (ix3 (hd t) x (bcol w l))) (Fin.ext ?_)
  show 7 - (r.val - min (r.val - 4) 56) + a.val = min (r.val - 4) 56 + a.val + 7 - r.val
  omega

/-- The result, whole. -/
def result (p : S8704x8192.Idx → EReal) (B : S16x15x31.Idx → EReal) (i : S8192x2048.Idx) : EReal :=
  attend p B ⟨(i 0).val / 4096, by have h : (i 0).val < 8192 := (i 0).isLt; omega⟩ ⟨(i 1).val / 128, by have h : (i 1).val < 2048 := (i 1).isLt; omega⟩
    ⟨(i 0).val % 4096 / 64, by omega⟩ ⟨(i 0).val % 64, by omega⟩ ⟨(i 1).val % 128, by omega⟩

/-- The queries, the keys and the biases are finite. -/
def Finite (p : S8704x8192.Idx → EReal) (B : S16x15x31.Idx → EReal) : Prop :=
  (∀ (i : Fin 8704) (l : Fin 8192), l.val < 4096 → Fin' (p (ix2 i l))) ∧ ∀ i, Fin' (B i)

/-- What a grid point leaves is its block of the result. -/
theorem out_eq (h : Finite (m ((c : Thread nD τ).loc main_arg0)) (m ((c : Thread nD τ).loc main_arg1))) (t : Fin cfg0.N) (y : S4096x128.Idx) :
    out m c t y = attend (m ((c : Thread nD τ).loc main_arg0)) (m ((c : Thread nD τ).loc main_arg1)) (bt t) (hd t) (prow (y 0)) (pcol (y 0)) (y 1) := by
  rw [out_apply]
  have hh : (hd t).val < 16 := (hd t).isLt
  exact Cert.NbrAttn.attn_eq (m ((c : Thread nD τ).loc main_arg0)) (m ((c : Thread nD τ).loc main_arg1)) (bt t) (hd t) (prow (y 0)) (pcol (y 0)) (y 1)
    (X0_0 m c t) (X0_1 m c t) (X0_2 m c t) (X0_3 m c t) (rows (grid0.coords t) (iblk m c 5 t)) (rows (grid0.coords t) (iblk m c 6 t)) (iblk m c 8 t)
    (X0_0_apply m c t) (X0_1_apply m c t) (X0_2_apply m c t) (X0_3_apply m c t) (iblk5_apply m c t) (iblk6_apply m c t)
    (fun a l hl J hJ => table_no m c t _ _ a l hl J hJ) (fun a l => table_yes m c t _ _ a l)
    (fun i d => h.1 i _ (by show 0 * 2048 + ((hd t).val * 128 + d.val) < 4096; omega)) (fun i d => h.1 i _ (by show 1 * 2048 + ((hd t).val * 128 + d.val) < 4096; omega)) h.2

theorem flushed_eq (h : Finite (m ((c : Thread nD τ).loc main_arg0)) (m ((c : Thread nD τ).loc main_arg1))) (t : Fin cfg0.N) :
    (dats m 0 c).flushed 9 t = ((cfg0.win 9).blk t).view.read (Elt Ideal) (result (m ((c : Thread nD τ).loc main_arg0)) (m ((c : Thread nD τ).loc main_arg1))) := by
  have hN : t.val < 32 := lt_of_lt_of_eq t.isLt N_0
  obtain ⟨e0, e1⟩ := index9 t
  show (cfg0.win 9).cut (grid0.coords t) ((dats m 0 c).after 9 t) = _
  rw [after9]
  funext y
  have hy0 : (y 0).val < 4096 := (y 0).isLt
  have hy1 : (y 1).val < 128 := (y 1).isLt
  have b0 : (((cfg0.win 9).blk t).view.emb y 0).val = t.val / 16 * 4096 + (y 0).val := by
    show win0_9.index t (0 : Fin 2) * 4096 + 1 * (y 0).val = _; omega
  have b1 : (((cfg0.win 9).blk t).view.emb y 1).val = t.val % 16 * 128 + (y 1).val := by
    show win0_9.index t (1 : Fin 2) * 128 + 1 * (y 1).val = _; omega
  show out m c t y = result _ _ (((cfg0.win 9).blk t).view.emb y)
  refine (out_eq m c h t y).trans ?_
  unfold result
  have g0 : bt t = ⟨(((cfg0.win 9).blk t).view.emb y 0).val / 4096, by omega⟩ := Fin.ext (by show t.val / 16 = _ / 4096; omega)
  have g1 : hd t = ⟨(((cfg0.win 9).blk t).view.emb y 1).val / 128, by omega⟩ := Fin.ext (by show t.val % 16 = _ / 128; omega)
  have g2 : prow (y 0) = ⟨(((cfg0.win 9).blk t).view.emb y 0).val % 4096 / 64, by omega⟩ := Fin.ext (by show (y 0).val / 64 = _ % 4096 / 64; omega)
  have g3 : pcol (y 0) = ⟨(((cfg0.win 9).blk t).view.emb y 0).val % 64, by omega⟩ := Fin.ext (by show (y 0).val % 64 = _ % 64; omega)
  have g4 : y 1 = ⟨(((cfg0.win 9).blk t).view.emb y 1).val % 128, by omega⟩ := Fin.ext (by show (y 1).val = _ % 128; omega)
  rw [g0, g1, g2, g3]
  exact congrArg _ g4

theorem array_eq (h : Finite (m ((c : Thread nD τ).loc main_arg0)) (m ((c : Thread nD τ).loc main_arg1))) :
    (dats m 0 c).arrAt 9 cfg0.N = result (m ((c : Thread nD τ).loc main_arg0)) (m ((c : Thread nD τ).loc main_arg1)) := by
  refine (dats m 0 c).arrAt_eq_of_cover 9 _ (fun t _ => flushed_eq m c h t) fun i => ?_
  have h0 : (i 0).val < 8192 := (i 0).isLt
  have h1 : (i 1).val < 2048 := (i 1).isLt
  have hp : (i 0).val / 4096 * 16 + (i 1).val / 128 < cfg0.N := lt_of_lt_of_eq (by omega : (i 0).val / 4096 * 16 + (i 1).val / 128 < 32) N_0.symm
  obtain ⟨e0, e1⟩ := index9 ⟨(i 0).val / 4096 * 16 + (i 1).val / 128, hp⟩
  refine ⟨⟨(i 0).val / 4096 * 16 + (i 1).val / 128, hp⟩, flush0_9 _, ?_⟩
  show i ∈ ((View.whole main_v61).slice (win0_9.rect ⟨(i 0).val / 4096 * 16 + (i 1).val / 128, hp⟩)).set
  rw [View.set_slice_whole, Rect.mem_set_unit]
  have e0' : win0_9.index ⟨(i 0).val / 4096 * 16 + (i 1).val / 128, hp⟩ (0 : Fin 2) = ((i 0).val / 4096 * 16 + (i 1).val / 128) / 16 := e0
  have e1' : win0_9.index ⟨(i 0).val / 4096 * 16 + (i 1).val / 128, hp⟩ (1 : Fin 2) = ((i 0).val / 4096 * 16 + (i 1).val / 128) % 16 := e1
  intro a
  match a with
  | ⟨0, _⟩ => show win0_9.index ⟨(i 0).val / 4096 * 16 + (i 1).val / 128, hp⟩ (0 : Fin 2) * 4096 ≤ (i 0).val ∧ (i 0).val < win0_9.index ⟨(i 0).val / 4096 * 16 + (i 1).val / 128, hp⟩ (0 : Fin 2) * 4096 + 4096; omega
  | ⟨1, _⟩ => show win0_9.index ⟨(i 0).val / 4096 * 16 + (i 1).val / 128, hp⟩ (1 : Fin 2) * 128 ≤ (i 1).val ∧ (i 1).val < win0_9.index ⟨(i 0).val / 4096 * 16 + (i 1).val / 128, hp⟩ (1 : Fin 2) * 128 + 128; omega

/-- The kernel's run: the result array and the arguments. -/
theorem run (ρ : Dev nD → PrngReg) (h : ∀ c : Dev nD, Finite (m ((c : Thread nD τ).loc main_arg0)) (m ((c : Thread nD τ).loc main_arg1))) :
    θ_run defs (onTc (τ := τ) (main (F := Ideal))) ⟨m, fun _ => 0, ρ⟩ (fun r => ∀ c : Dev nD,
      r.2.mem ((c.tc : Thread nD τ).loc main_v61) = result (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ g c => ⟨((g.1 c).1 9).trans (array_eq m c (h c)), g.2 c⟩)
    (θ_run_and (run_main m ρ) (frame_of m ρ (dats m) (A_eq m) (run_main m ρ)))

end Cert.NbrAttnIdeal.Attn

namespace Cert.NbrAttn

open Idealize.ShloMosaic Idealize.ShloMosaic.TcCoe Idealize.ShloMosaic.Tactic Idealize.SL.Sem
open Cert.NbrAttnIdeal.Attn (Finite Fin')

theorem pos_inf : Ideal.ofBits .f32 0x7F800000#32 = ⊤ := by
  have hx : ((0x7F800000#32 : BitVec 32).extractLsb' 23 8).toNat = 2 ^ 8 - 1 := by decide +kernel
  have hf : ((0x7F800000#32 : BitVec 32).extractLsb' 0 23).toNat = 0 := by decide +kernel
  have hn : ¬ ((0x7F800000#32 : BitVec 32).extractLsb' (8 + 23) 1 == 1#1) = true := by decide +kernel
  simp only [Ideal.ofBits, Ideal.ieee]
  rw [if_pos hx, if_pos hf, if_neg hn]

/-- A number whose magnitude is below infinity is finite. -/
theorem fin_of_bit (x : EReal) (h : BitVec.ofBool (decide ((FloatOps.absf (F := Ideal) (φ := .f32) x : EReal) < Ideal.ofBits FTy.f32 0x7F800000#32)) = 1#1) : Fin' x := by
  rw [pos_inf] at h
  have h' : max x (-x) < ⊤ := by
    by_contra hn
    rw [show decide ((FloatOps.absf (F := Ideal) (φ := .f32) x : EReal) < ⊤) = false from decide_eq_false hn] at h
    exact absurd h (by decide)
  refine ⟨?_, ?_⟩
  · rintro rfl
    exact absurd (lt_of_le_of_lt (le_max_left _ _) h') (lt_irrefl _)
  · rintro rfl
    exact absurd (lt_of_le_of_lt (le_max_right _ _) h') (lt_irrefl _)

theorem tokens_bit [hP : Cert.Pre_finite_scores.Facts] (p : FVec Ideal Cert.Pre_finite_scores.S8704x8192 .bf16) (B : FVec Ideal Cert.Pre_finite_scores.S16x15x31 .f32) (i : Fin 8704) (l : Fin 4096) :
    (Cert.Pre_finite_scores.fn p B).1 (ix2 i l)
      = BitVec.ofBool (decide ((FloatOps.absf (F := Ideal) (φ := .f32) (p (ix2 i (⟨l.val, by omega⟩ : Fin 8192)) : EReal) : EReal) < Ideal.ofBits FTy.f32 0x7F800000#32)) := by
  pointwise [Cert.Pre_finite_scores.fn]

theorem biases_bit [hP : Cert.Pre_finite_scores.Facts] (p : FVec Ideal Cert.Pre_finite_scores.S8704x8192 .bf16) (B : FVec Ideal Cert.Pre_finite_scores.S16x15x31 .f32) (i : Cert.Pre_finite_scores.S16x15x31.Idx) :
    (Cert.Pre_finite_scores.fn p B).2 i = BitVec.ofBool (decide ((FloatOps.absf (F := Ideal) (φ := .f32) (B i : EReal) : EReal) < Ideal.ofBits FTy.f32 0x7F800000#32)) := by
  pointwise [Cert.Pre_finite_scores.fn]

/-- The precondition says that the queries, the keys and the biases are finite. -/
theorem finite_of_pre [hP : Cert.Pre_finite_scores.Facts] (p : FVec Ideal Cert.Pre_finite_scores.S8704x8192 .bf16) (B : FVec Ideal Cert.Pre_finite_scores.S16x15x31 .f32)
    (h1 : (Cert.Pre_finite_scores.fn p B).1 = fun _ => 1#1) (h2 : (Cert.Pre_finite_scores.fn p B).2 = fun _ => 1#1) : Finite p B :=
  ⟨fun i l hl => fin_of_bit _ ((tokens_bit p B i ⟨l.val, hl⟩).symm.trans (congrFun h1 _)), fun i => fin_of_bit _ ((biases_bit p B i).symm.trans (congrFun h2 _))⟩

/-- The reference changes no semaphore and leaves its arguments. -/
theorem quiescent : quiescent_NbrAttnRefIdeal := fun m ρ _ =>
  (θ_run Cert.NbrAttnRefIdeal.defs _ _).mono (fun r h => ⟨fun c => (h c).2, sem_eq_zero_of_no_sems (by decide) r.2⟩)
    (Cert.NbrAttnRefIdeal.Value.run (F := Ideal) m ρ)

/-- Every index of the result is some token's channel. -/
theorem index_eq (i : Cert.NbrAttnRefIdeal.S8192x2048.Idx) (h0 : (i 0).val < 8192) (h1 : (i 1).val < 2048) :
    i = ix2 (Cert.NbrAttnRefIdeal.Attn.orow ⟨(i 0).val / 4096, by omega⟩ ⟨(i 0).val % 4096 / 64, by omega⟩ ⟨(i 0).val % 64, by omega⟩)
      (Cert.NbrAttnRefIdeal.Attn.ocol ⟨(i 1).val / 128, by omega⟩ ⟨(i 1).val % 128, by omega⟩) := by
  funext a
  apply Fin.ext
  match a with
  | ⟨0, _⟩ => show (i 0).val = (i 0).val / 4096 * 4096 + ((i 0).val % 4096 / 64 * 64 + (i 0).val % 64); omega
  | ⟨1, _⟩ => show (i 1).val = (i 1).val / 128 * 128 + (i 1).val % 128; omega

/-- An array with the reference's elements is the result. -/
theorem whole (X : Cert.NbrAttnRefIdeal.S8192x2048.Idx → EReal) (p : Cert.NbrAttnRefIdeal.S8704x8192.Idx → EReal) (B : Cert.NbrAttnRefIdeal.S16x15x31.Idx → EReal)
    (h : ∀ b n r c d, X (ix2 (Cert.NbrAttnRefIdeal.Attn.orow b r c) (Cert.NbrAttnRefIdeal.Attn.ocol n d)) = Cert.NbrAttnRefIdeal.Attn.attend p B b n r c d) :
    X = Cert.NbrAttnIdeal.Attn.result p B := by
  funext i
  exact (congrArg X (index_eq i (i 0).isLt (i 1).isLt)).trans (h _ _ _ _ _)

/-- Over the extended reals the kernel's result is the reference's. -/
theorem algebraic [hP : Cert.Pre_finite_scores.Facts] : algebraic_NbrAttnIdeal_NbrAttnRefIdeal_pre_finite_scores := by
  intro m ρ m' ρ' hpre hagree
  refine ⟨_, Cert.NbrAttnIdeal.Attn.run m ρ fun c => finite_of_pre _ _ (hpre c).1 (hpre c).2, ?_⟩
  refine (θ_run Cert.NbrAttnRefIdeal.defs _ _).mono (fun _ h c => ⟨?_, (h c).2⟩) (Cert.NbrAttnRefIdeal.Value.run (F := Ideal) m' ρ')
  refine ((h c).1.trans (Cert.NbrAttnRefIdeal.Value.val3_main_v137 _).symm).trans ?_
  clear h
  refine (whole _ _ _ fun b n r c' d => Cert.NbrAttnRefIdeal.Attn.last_apply _ b n r c' d).trans ?_
  exact congrArg₂ Cert.NbrAttnIdeal.Attn.result (hagree c).1 (hagree c).2

end Cert.NbrAttn

end
-- ==== Proof.NbrAttnFrame.lean ====
/- The neighborhood attention's two programs have the same text: what holds of a run of the one holds of the other. -/
module

public import proofs.«01_k».proof.Defs
public import proofs.«01_k».proof.Proof.Gen.NbrAttn
public import proofs.«01_k».proof.Proof.NbrAttnRun

@[expose] public section

noncomputable section

set_option maxHeartbeats 4000000
set_option maxRecDepth 16384

open Idealize.ShloMosaic Idealize.SL.Sem

namespace Cert.NbrAttn

/-- The two programs have the same bodies, -/
theorem defs0_eq {F : FTy → Type} [FloatOps F] : @Cert.NbrAttn.defs₀ F _ _ = @Cert.NbrAttnIdeal.defs₀ F _ _ := by
  unfold Cert.NbrAttn.defs₀ Cert.NbrAttnIdeal.defs₀
  refine congrArg Defs.onTc ?_
  funext l x
  match l, x with
  | ⟨0, _⟩, (t, s) =>
    show Cert.NbrAttn.cc0_nbr_attn _ _ _ _ _ _ _ _ _ _ _ _ _ _ _ _ _ _ _ _ _ _ _ _ _ = Cert.NbrAttnIdeal.cc0_nbr_attn _ _ _ _ _ _ _ _ _ _ _ _ _ _ _ _ _ _ _ _ _ _ _ _ _
    rfl

/-- the same tables -/
theorem defs_eq {F : FTy → Type} [FloatOps F] : @Cert.NbrAttn.defs F _ _ = @Cert.NbrAttnIdeal.defs F _ _ := by
  unfold Cert.NbrAttn.defs Cert.NbrAttnIdeal.defs
  exact congrArg (Pipeline.defs (Cert.NbrAttnIdeal.pcfgs (F := F))) defs0_eq

/-- and the same text. -/
theorem main0_eq {F : FTy → Type} [FloatOps F] :
    @Cert.NbrAttn.main_part0 F _ _ = @Cert.NbrAttnIdeal.main_part0 F _ _ := rfl

theorem main1_eq {F : FTy → Type} [FloatOps F] (d : Dev Cert.NbrAttnIdeal.nD) : Cert.NbrAttn.main_part1 (F := F) d = Cert.NbrAttnIdeal.main_part1 (F := F) d := rfl

theorem main_eq {F : FTy → Type} [FloatOps F] : Cert.NbrAttn.main (F := F) = Cert.NbrAttnIdeal.main (F := F) := by
  funext d
  unfold Cert.NbrAttn.main Cert.NbrAttnIdeal.main
  exact congrArg₂ (fun x y => x >>= fun _ => y) (congrFun main0_eq d) (main1_eq d)

/-- The program leaves its arguments and its counters as the idealized one does, whatever the numbers are. -/
theorem unharmed : Cert.quiescent_NbrAttn := fun m ρ _ => by
  rw [main_eq, defs_eq]
  exact Cert.NbrAttnIdeal.Attn.unharmed (F := Bits) m ρ

end Cert.NbrAttn
-- ==== Proof.lean ====
module

public import proofs.«01_k».proof.Defs
public import proofs.«01_k».proof.Proof.Gen.InProjC
public import proofs.«01_k».proof.Proof.Gen.InProjC.Skeleton
public import proofs.«01_k».proof.Proof.Gen.InProjC.Launch
public import proofs.«01_k».proof.Proof.Gen.InProjC.Points
public import proofs.«01_k».proof.Proof.Gen.InProjC.Frame
public import proofs.«01_k».proof.Proof.Gen.InProjCIdeal
public import proofs.«01_k».proof.Proof.Gen.InProjCIdeal.Skeleton
public import proofs.«01_k».proof.Proof.Gen.InProjCIdeal.Launch
public import proofs.«01_k».proof.Proof.Gen.InProjCIdeal.Points
public import proofs.«01_k».proof.Proof.Gen.InProjCIdeal.Frame
public import proofs.«01_k».proof.Proof.Gen.InProjCRefIdeal
public import proofs.«01_k».proof.Proof.Gen.InProjB
public import proofs.«01_k».proof.Proof.Gen.InProjB.Skeleton
public import proofs.«01_k».proof.Proof.Gen.InProjB.Launch
public import proofs.«01_k».proof.Proof.Gen.InProjB.Points
public import proofs.«01_k».proof.Proof.Gen.InProjB.Frame
public import proofs.«01_k».proof.Proof.Gen.InProjBIdeal
public import proofs.«01_k».proof.Proof.Gen.InProjBIdeal.Skeleton
public import proofs.«01_k».proof.Proof.Gen.InProjBIdeal.Launch
public import proofs.«01_k».proof.Proof.Gen.InProjBIdeal.Points
public import proofs.«01_k».proof.Proof.Gen.InProjBIdeal.Frame
public import proofs.«01_k».proof.Proof.Gen.InProjBRefIdeal
public import proofs.«01_k».proof.Proof.Gen.InProjA
public import proofs.«01_k».proof.Proof.Gen.InProjA.Skeleton
public import proofs.«01_k».proof.Proof.Gen.InProjA.Launch
public import proofs.«01_k».proof.Proof.Gen.InProjA.Points
public import proofs.«01_k».proof.Proof.Gen.InProjA.Frame
public import proofs.«01_k».proof.Proof.Gen.InProjAIdeal
public import proofs.«01_k».proof.Proof.Gen.InProjAIdeal.Skeleton
public import proofs.«01_k».proof.Proof.Gen.InProjAIdeal.Launch
public import proofs.«01_k».proof.Proof.Gen.InProjAIdeal.Points
public import proofs.«01_k».proof.Proof.Gen.InProjAIdeal.Frame
public import proofs.«01_k».proof.Proof.Gen.InProjARefIdeal
public import proofs.«01_k».proof.Proof.Gen.MergeGates
public import proofs.«01_k».proof.Proof.Gen.MergeGates.Skeleton
public import proofs.«01_k».proof.Proof.Gen.MergeGates.Launch
public import proofs.«01_k».proof.Proof.Gen.MergeGates.Points
public import proofs.«01_k».proof.Proof.Gen.MergeGates.Frame
public import proofs.«01_k».proof.Proof.Gen.MergeGatesIdeal
public import proofs.«01_k».proof.Proof.Gen.MergeGatesIdeal.Skeleton
public import proofs.«01_k».proof.Proof.Gen.MergeGatesIdeal.Launch
public import proofs.«01_k».proof.Proof.Gen.MergeGatesIdeal.Points
public import proofs.«01_k».proof.Proof.Gen.MergeGatesIdeal.Frame
public import proofs.«01_k».proof.Proof.Gen.MergeGatesRefIdeal
public import proofs.«01_k».proof.Proof.Gen.ProjMerge
public import proofs.«01_k».proof.Proof.Gen.ProjMerge.Skeleton
public import proofs.«01_k».proof.Proof.Gen.ProjMerge.Launch
public import proofs.«01_k».proof.Proof.Gen.ProjMerge.Points
public import proofs.«01_k».proof.Proof.Gen.ProjMerge.Frame
public import proofs.«01_k».proof.Proof.Gen.ProjMergeIdeal
public import proofs.«01_k».proof.Proof.Gen.ProjMergeIdeal.Skeleton
public import proofs.«01_k».proof.Proof.Gen.ProjMergeIdeal.Launch
public import proofs.«01_k».proof.Proof.Gen.ProjMergeIdeal.Points
public import proofs.«01_k».proof.Proof.Gen.ProjMergeIdeal.Frame
public import proofs.«01_k».proof.Proof.Gen.ProjMergeRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.FinalNorm
public import proofs.«01_k».proof.Proof.Gen.FinalNorm.Skeleton
public import proofs.«01_k».proof.Proof.Gen.FinalNorm.Launch
public import proofs.«01_k».proof.Proof.Gen.FinalNorm.Points
public import proofs.«01_k».proof.Proof.Gen.FinalNorm.Frame
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Points
public import proofs.«01_k».proof.Proof.Gen.FinalNormIdeal.Frame
public import proofs.«01_k».proof.Proof.Gen.FinalNormRefIdeal
public import Idealize.ShloMosaic.Adequacy
public import Idealize.ShloMosaic.Init
public import proofs.«01_k».proof.Proof.Gen.NbrAttn
public import proofs.«01_k».proof.Proof.Gen.NbrAttnIdeal
public import proofs.«01_k».proof.Proof.Gen.NbrAttnIdeal.Skeleton
public import proofs.«01_k».proof.Proof.Gen.NbrAttnIdeal.Loops
public import proofs.«01_k».proof.Proof.Gen.NbrAttnIdeal.Frame
public import proofs.«01_k».proof.Proof.Gen.NbrAttnRefIdeal
public import proofs.«01_k».proof.Proof.Gen.NbrAttnRefIdeal.Run
public import proofs.«01_k».proof.Proof.InProjC
public import proofs.«01_k».proof.Proof.InProjB
public import proofs.«01_k».proof.Proof.InProjA
public import proofs.«01_k».proof.Proof.MergeGates
public import proofs.«01_k».proof.Proof.ProjMerge
public import proofs.«01_k».proof.Proof.OutProj
public import proofs.«01_k».proof.Proof.FinalNorm
public import proofs.«01_k».proof.Proof.NbrAttn
public import proofs.«01_k».proof.Proof.NbrAttnFrame

@[expose] public section

noncomputable section

namespace Cert.Proof

open Idealize.ShloMosaic Idealize.SL.Sem Cert.InProjC

/-- The side conditions of the precondition's operations. -/
instance facts_finite_scores : Cert.Pre_finite_scores.Facts where
  slices_S8704x8192_S8704x4096_0_0 := by decide
  bitsLt_bf16_f32 := by decide
  bcast_S_S8704x4096 := by decide
  bcast_S_S16x15x31 := by decide

/-- The neighborhood attention's kernel leaves its arguments and its counters, -/
theorem frame_kernel : Cert.quiescent_NbrAttn := Cert.NbrAttn.unharmed

/-- and so it does over the extended reals. -/
theorem frame_ideal : Cert.quiescent_NbrAttnIdeal := fun m ρ _ => Cert.NbrAttnIdeal.Attn.unharmed (F := Ideal) m ρ

theorem claim : Cert.Claim := ⟨Cert.InProjC.Gen.facts, Cert.InProjCIdeal.Gen.facts, Cert.InProjCRefIdeal.Gen.facts, Cert.InProjB.Gen.facts, Cert.InProjBIdeal.Gen.facts, Cert.InProjBRefIdeal.Gen.facts, Cert.InProjA.Gen.facts, Cert.InProjAIdeal.Gen.facts, Cert.InProjARefIdeal.Gen.facts, Cert.MergeGates.Gen.facts, Cert.MergeGatesIdeal.Gen.facts, Cert.MergeGatesRefIdeal.Gen.facts, Cert.ProjMerge.Gen.facts, Cert.ProjMergeIdeal.Gen.facts, Cert.ProjMergeRefIdeal.Gen.facts, Cert.OutProj.Gen.facts, Cert.OutProjIdeal.Gen.facts, Cert.OutProjRefIdeal.Gen.facts, Cert.FinalNorm.Gen.facts, Cert.FinalNormIdeal.Gen.facts, Cert.FinalNormRefIdeal.Gen.facts,
  Cert.NbrAttn.Gen.facts, Cert.NbrAttnIdeal.Gen.facts, Cert.NbrAttnRefIdeal.Gen.facts, facts_finite_scores,
  fun m ρ _ => Cert.InProjC.Gen.frame m ρ, fun m ρ _ => Cert.InProjCIdeal.Gen.frame m ρ, Cert.InProjC.quiescent,
  fun m ρ _ => Cert.InProjB.Gen.frame m ρ, fun m ρ _ => Cert.InProjBIdeal.Gen.frame m ρ, Cert.InProjB.quiescent,
  fun m ρ _ => Cert.InProjA.Gen.frame m ρ, fun m ρ _ => Cert.InProjAIdeal.Gen.frame m ρ, Cert.InProjA.quiescent,
  fun m ρ _ => Cert.MergeGates.Gen.frame m ρ, fun m ρ _ => Cert.MergeGatesIdeal.Gen.frame m ρ, Cert.MergeGates.quiescent,
  fun m ρ _ => Cert.ProjMerge.Gen.frame m ρ, fun m ρ _ => Cert.ProjMergeIdeal.Gen.frame m ρ, Cert.ProjMerge.quiescent,
  fun m ρ _ => Cert.OutProj.Gen.frame m ρ, fun m ρ _ => Cert.OutProjIdeal.Gen.frame m ρ, Cert.OutProj.quiescent,
  fun m ρ _ => Cert.FinalNorm.Gen.frame m ρ, fun m ρ _ => Cert.FinalNormIdeal.Gen.frame m ρ, Cert.FinalNorm.quiescent,
  frame_kernel, frame_ideal, fun m ρ _ => frame_ideal m ρ trivial, Cert.NbrAttn.quiescent, fun m ρ _ => Cert.NbrAttn.quiescent m ρ trivial,
  (trivial : preserves_InProjC_InProjCIdeal), Cert.InProjC.algebraic,
  (trivial : preserves_InProjB_InProjBIdeal), Cert.InProjB.algebraic,
  (trivial : preserves_InProjA_InProjAIdeal), Cert.InProjA.algebraic,
  (trivial : preserves_MergeGates_MergeGatesIdeal), Cert.MergeGates.algebraic,
  (trivial : preserves_ProjMerge_ProjMergeIdeal), Cert.ProjMerge.algebraic,
  (trivial : preserves_OutProj_OutProjIdeal), Cert.OutProj.algebraic,
  (trivial : preserves_FinalNorm_FinalNormIdeal), Cert.FinalNorm.algebraic,
  (trivial : preserves_NbrAttn_NbrAttnIdeal), Cert.NbrAttn.algebraic⟩

end Cert.Proof

end
